-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_input_gates_below_inf [hPre_input_gates_below_inf : Cert.Pre_input_gates_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_input_gates_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_input_gates_below_inf [hPre_input_gates_below_inf : Cert.Pre_input_gates_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_gates_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_finite [hPre_gates_finite : Cert.Pre_gates_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_finite [hPre_gates_finite : Cert.Pre_gates_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_input_gates_below_inf [hKernelIdeal : Cert.KernelIdeal.Facts] [hPre_input_gates_below_inf : Cert.Pre_input_gates_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_input_gates_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_input_gates_below_inf [hReferenceIdeal : Cert.ReferenceIdeal.Facts] [hPre_input_gates_below_inf : Cert.Pre_input_gates_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_input_gates_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_gates_finite [hKernel2Ideal : Cert.Kernel2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_gates_finite [hReference2Ideal : Cert.Reference2Ideal.Facts] [hPre_gates_finite : Cert.Pre_gates_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_input_gates_below_inf [hKernelIdeal : Cert.KernelIdeal.Facts] [hReferenceIdeal : Cert.ReferenceIdeal.Facts] [hPre_input_gates_below_inf : Cert.Pre_input_gates_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_input_gates_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "gelu_c_cube" .f32 0x3D122279#32 ((80338380498831 / 2251799813685248 : ℝ) : EReal)

def algebraic_Kernel2Ideal_Reference2Ideal_pre_gates_finite [hKernel2Ideal : Cert.Kernel2Ideal.Facts] [hReference2Ideal : Cert.Reference2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v136) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_input_gates_below_inf : Cert.Pre_input_gates_below_inf.Facts) (hPre_gates_finite : Cert.Pre_gates_finite.Facts),
    quiescent_Kernel (hKernel := hKernel)
    ∧ quiescent_KernelIdeal (hKernelIdeal := hKernelIdeal)
    ∧ quiescent_KernelIdeal_pre_input_gates_below_inf (hKernelIdeal := hKernelIdeal) (hPre_input_gates_below_inf := hPre_input_gates_below_inf)
    ∧ quiescent_ReferenceIdeal (hReferenceIdeal := hReferenceIdeal)
    ∧ quiescent_ReferenceIdeal_pre_input_gates_below_inf (hReferenceIdeal := hReferenceIdeal) (hPre_input_gates_below_inf := hPre_input_gates_below_inf)
    ∧ quiescent_Kernel2 (hKernel2 := hKernel2)
    ∧ quiescent_Kernel2Ideal (hKernel2Ideal := hKernel2Ideal)
    ∧ quiescent_Kernel2Ideal_pre_gates_finite (hKernel2Ideal := hKernel2Ideal) (hPre_gates_finite := hPre_gates_finite)
    ∧ quiescent_Reference2Ideal (hReference2Ideal := hReference2Ideal)
    ∧ quiescent_Reference2Ideal_pre_gates_finite (hReference2Ideal := hReference2Ideal) (hPre_gates_finite := hPre_gates_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_input_gates_below_inf (hKernelIdeal := hKernelIdeal) (hReferenceIdeal := hReferenceIdeal) (hPre_input_gates_below_inf := hPre_input_gates_below_inf)
    ∧ preserves_Kernel2_Kernel2Ideal
    ∧ algebraic_Kernel2Ideal_Reference2Ideal_pre_gates_finite (hKernel2Ideal := hKernel2Ideal) (hReference2Ideal := hReference2Ideal) (hPre_gates_finite := hPre_gates_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_gates_finite.lean ====
abbrev S33792x1024 : Shape := ⟨2, ![33792, 1024]⟩
abbrev S8x6x1024 : Shape := ⟨3, ![8, 6, 1024]⟩
abbrev S1024 : Shape := ⟨1, ![1024]⟩
abbrev S1024x5632 : Shape := ⟨2, ![1024, 5632]⟩
abbrev S3x3x2816 : Shape := ⟨3, ![3, 3, 2816]⟩
abbrev S2816 : Shape := ⟨1, ![2816]⟩
abbrev S2816x1024 : Shape := ⟨2, ![2816, 1024]⟩
abbrev S32768x1024 : Shape := ⟨2, ![32768, 1024]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

class Facts : Prop where
  slices_S33792x1024_S32768x1024_0_0 : S33792x1024.Slices ![0, 0] S32768x1024
  shapeCasts_S32768x1024_S4x8192x1024 : S32768x1024.ShapeCasts S4x8192x1024
  slices_S8x6x1024_S4x1x1024_0_3_0 : S8x6x1024.Slices ![0, 3, 0] S4x1x1024
  shapeCasts_S4x1x1024_S4x1024 : S4x1x1024.ShapeCasts S4x1024
  bcast_S4x1024_S4x1x1024_0_2 : S4x1024.BroadcastsInDim S4x1x1024 (![0, 2] : Fin 2 → Fin S4x1x1024.rank)
  slices_S8x6x1024_S4x1x1024_0_4_0 : S8x6x1024.Slices ![0, 4, 0] S4x1x1024
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  bcast_S_S4x1x1024 : S_.BroadcastsInDim S4x1x1024 (![] : Fin 0 → Fin S4x1x1024.rank)
  bcast_S4x1x1024_S4x8192x1024_0_1_2 : S4x1x1024.BroadcastsInDim S4x8192x1024 (![0, 1, 2] : Fin 3 → Fin S4x8192x1024.rank)
  slices_S4x8192x5632_S4x8192x2816_0_0_0 : S4x8192x5632.Slices ![0, 0, 0] S4x8192x2816
  slices_S4x8192x5632_S4x8192x2816_0_0_2816 : S4x8192x5632.Slices ![0, 0, 2816] S4x8192x2816
  bcast_S_S4x8192x2816 : S_.BroadcastsInDim S4x8192x2816 (![] : Fin 0 → Fin S4x8192x2816.rank)
  dot_S4x8192x1024_S1024x5632_S4x8192x5632_2_0_01_1_n_n_wf : DotDims.WF S4x8192x1024 S1024x5632 S4x8192x5632 [2] [0] [0, 1] [1] [] []

variable [Facts]

def dot_S4x8192x1024_S1024x5632_S4x8192x5632_2_0_01_1_n_n : DotDims S4x8192x1024 S1024x5632 S4x8192x5632 where
  lhsContracting := [2]
  rhsContracting := [0]
  lhsNonContracting := [0, 1]
  rhsNonContracting := [1]
  lhsBatch := []
  rhsBatch := []
  wf := dot_S4x8192x1024_S1024x5632_S4x8192x5632_2_0_01_1_n_n_wf
def fn_part1 {F : FTy → Type} [FloatOps F] (main_arg3 : FVec F S1024x5632 .f32) (main_v4 : FVec F S4x1x1024 .f32) (main_v7 : FVec F S4x1x1024 .f32) (main_v20 : FVec F S4x8192x1024 .f32) : IVec S4x8192x2816 1 :=
  let main_cst_2 : FVec F S_ .f32 := constant S_ .f32 0x3F800000#32
  let main_v21 : FVec F S4x1x1024 .f32 := broadcastInDim S4x1x1024 ![] bcast_S_S4x1x1024 main_cst_2
  let main_v22 : FVec F S4x1x1024 .f32 := addf main_v21 main_v7
  let main_v23 : FVec F S4x8192x1024 .f32 := broadcastInDim S4x8192x1024 ![0, 1, 2] bcast_S4x1x1024_S4x8192x1024_0_1_2 main_v22
  let main_v24 : FVec F S4x8192x1024 .f32 := mulf main_v20 main_v23
  let main_v25 : FVec F S4x8192x1024 .f32 := broadcastInDim S4x8192x1024 ![0, 1, 2] bcast_S4x1x1024_S4x8192x1024_0_1_2 main_v4
  let main_v26 : FVec F S4x8192x1024 .f32 := addf main_v24 main_v25
  let main_v27 : FVec F S4x8192x5632 .f32 := (fun l r => Host.dotGeneral dot_S4x8192x1024_S1024x5632_S4x8192x5632_2_0_01_1_n_n none l r) main_v26 main_arg3
  let main_v28 : FVec F S4x8192x2816 .f32 := (extractStridedSlice S4x8192x2816 ![0, 0, 0] · slices_S4x8192x5632_S4x8192x2816_0_0_0) main_v27
  let main_v29 : FVec F S4x8192x2816 .f32 := (extractStridedSlice S4x8192x2816 ![0, 0, 2816] · slices_S4x8192x5632_S4x8192x2816_0_0_2816) main_v27
  let main_v30 : FVec F S4x8192x2816 .f32 := Host.absf main_v29
  let main_cst_3 : FVec F S_ .f32 := constant S_ .f32 0x7F800000#32
  let main_v31 : FVec F S4x8192x2816 .f32 := broadcastInDim S4x8192x2816 ![] bcast_S_S4x8192x2816 main_cst_3
  let main_v32 : IVec S4x8192x2816 1 := cmpf .olt main_v30 main_v31
  main_v32

def fn {F : FTy → Type} [FloatOps F] (main_arg0 : FVec F S33792x1024 .f32) (main_arg1 : FVec F S8x6x1024 .f32) (main_arg2 : FVec F S1024 .f32) (main_arg3 : FVec F S1024x5632 .f32) (main_arg4 : FVec F S3x3x2816 .f32) (main_arg5 : FVec F S2816 .f32) (main_arg6 : FVec F S2816x1024 .f32) (main_arg7 : FVec F S1024 .f32) : IVec S4x8192x2816 1 :=
  let main_v0 : FVec F S32768x1024 .f32 := (extractStridedSlice S32768x1024 ![0, 0] · slices_S33792x1024_S32768x1024_0_0) main_arg0
  let main_v1 : FVec F S4x8192x1024 .f32 := shapeCast S4x8192x1024 main_v0 shapeCasts_S32768x1024_S4x8192x1024
  let main_v2 : FVec F S4x1x1024 .f32 := (extractStridedSlice S4x1x1024 ![0, 3, 0] · slices_S8x6x1024_S4x1x1024_0_3_0) main_arg1
  let main_v3 : FVec F S4x1024 .f32 := shapeCast S4x1024 main_v2 shapeCasts_S4x1x1024_S4x1024
  let main_v4 : FVec F S4x1x1024 .f32 := broadcastInDim S4x1x1024 ![0, 2] bcast_S4x1024_S4x1x1024_0_2 main_v3
  let main_v5 : FVec F S4x1x1024 .f32 := (extractStridedSlice S4x1x1024 ![0, 4, 0] · slices_S8x6x1024_S4x1x1024_0_4_0) main_arg1
  let main_v6 : FVec F S4x1024 .f32 := shapeCast S4x1024 main_v5 shapeCasts_S4x1x1024_S4x1024
  let main_v7 : FVec F S4x1x1024 .f32 := broadcastInDim S4x1x1024 ![0, 2] bcast_S4x1024_S4x1x1024_0_2 main_v6
  let main_v8 : FVec F S4x8192x1024 .f32 := mulf main_v1 main_v1
  let main_cst : FVec F S_ .f32 := constant S_ .f32 0x00000000#32
  let main_v9 : FVec F S4x8192 .f32 := (fun x v => Host.reduceAdd x v reducesTo_S4x8192x1024_S4x8192_d2 h_S_) main_v8 main_cst
  let main_v10 : FVec F S4x8192x1 .f32 := broadcastInDim S4x8192x1 ![0, 1] bcast_S4x8192_S4x8192x1_0_1 main_v9
  let main_cst_0 : FVec F S_ .f32 := constant S_ .f32 0x44800000#32
  let main_v11 : FVec F S4x8192x1 .f32 := broadcastInDim S4x8192x1 ![] bcast_S_S4x8192x1 main_cst_0
  let main_v12 : FVec F S4x8192x1 .f32 := Host.divf main_v10 main_v11
  let main_cst_1 : FVec F S_ .f32 := constant S_ .f32 0x358637BD#32
  let main_v13 : FVec F S4x8192x1 .f32 := broadcastInDim S4x8192x1 ![] bcast_S_S4x8192x1 main_cst_1
  let main_v14 : FVec F S4x8192x1 .f32 := addf main_v12 main_v13
  let main_v15 : FVec F S4x8192x1 .f32 := Host.rsqrt main_v14
  let main_v16 : FVec F S4x8192x1024 .f32 := broadcastInDim S4x8192x1024 ![0, 1, 2] bcast_S4x8192x1_S4x8192x1024_0_1_2 main_v15
  let main_v17 : FVec F S4x8192x1024 .f32 := mulf main_v1 main_v16
  let main_v18 : FVec F S1x1x1024 .f32 := broadcastInDim S1x1x1024 ![2] bcast_S1024_S1x1x1024_2 main_arg2
  let main_v19 : FVec F S4x8192x1024 .f32 := broadcastInDim S4x8192x1024 ![0, 1, 2] bcast_S1x1x1024_S4x8192x1024_0_1_2 main_v18
  let main_v20 : FVec F S4x8192x1024 .f32 := mulf main_v17 main_v19
  fn_part1 (F := F) main_arg3 main_v4 main_v7 main_v20
-- ==== Pre_input_gates_below_inf.lean ====
abbrev S4x8192x1024 : Shape := ⟨3, ![4, 8192, 1024]⟩
abbrev S4x256x1024 : Shape := ⟨3, ![4, 256, 1024]⟩
abbrev S4x8192x16 : Shape := ⟨3, ![4, 8192, 16]⟩
abbrev S4x256x16 : Shape := ⟨3, ![4, 256, 16]⟩
abbrev S2x4 : Shape := ⟨2, ![2, 4]⟩
abbrev S4x8448x16 : Shape := ⟨3, ![4, 8448, 16]⟩
abbrev S4x8448x2x2x4 : Shape := ⟨5, ![4, 8448, 2, 2, 4]⟩
abbrev S4x8448x1x2x4 : Shape := ⟨5, ![4, 8448, 1, 2, 4]⟩
abbrev S4x8448x2x4 : Shape := ⟨4, ![4, 8448, 2, 4]⟩
abbrev S1x1x2x4 : Shape := ⟨4, ![1, 1, 2, 4]⟩
abbrev S_ : Shape := ⟨0, ![]⟩

class Facts : Prop where
  concatenates_S4x256x16_S4x8192x16_S4x8448x16_d1 : Shape.Concatenates [S4x256x16, S4x8192x16] S4x8448x16 1
  shapeCasts_S4x8448x16_S4x8448x2x2x4 : S4x8448x16.ShapeCasts S4x8448x2x2x4
  slices_S4x8448x2x2x4_S4x8448x1x2x4_0_0_0_0_0 : S4x8448x2x2x4.Slices ![0, 0, 0, 0, 0] S4x8448x1x2x4
  shapeCasts_S4x8448x1x2x4_S4x8448x2x4 : S4x8448x1x2x4.ShapeCasts S4x8448x2x4
  bcast_S2x4_S1x1x2x4_2_3 : S2x4.BroadcastsInDim S1x1x2x4 (![2, 3] : Fin 2 → Fin S1x1x2x4.rank)
  bcast_S1x1x2x4_S4x8448x2x4_0_1_2_3 : S1x1x2x4.BroadcastsInDim S4x8448x2x4 (![0, 1, 2, 3] : Fin 4 → Fin S4x8448x2x4.rank)
  bcast_S_S4x8448x2x4 : S_.BroadcastsInDim S4x8448x2x4 (![] : Fin 0 → Fin S4x8448x2x4.rank)

variable [Facts]

def fn {F : FTy → Type} [FloatOps F] (main_arg0 : FVec F S4x8192x1024 .f32) (main_arg1 : FVec F S4x256x1024 .f32) (main_arg2 : FVec F S4x8192x1024 .f32) (main_arg3 : FVec F S4x256x1024 .f32) (main_arg4 : FVec F S4x8192x1024 .f32) (main_arg5 : FVec F S4x256x1024 .f32) (main_arg6 : FVec F S4x8192x16 .f32) (main_arg7 : FVec F S4x256x16 .f32) (main_arg8 : FVec F S2x4 .f32) (main_arg9 : FVec F S2x4 .f32) : IVec S4x8448x2x4 1 :=
  let main_v0 : FVec F S4x8448x16 .f32 := (fun a b => concatenate S4x8448x16 1 [⟨S4x256x16, a⟩, ⟨S4x8192x16, b⟩] concatenates_S4x256x16_S4x8192x16_S4x8448x16_d1) main_arg7 main_arg6
  let main_v1 : FVec F S4x8448x2x2x4 .f32 := shapeCast S4x8448x2x2x4 main_v0 shapeCasts_S4x8448x16_S4x8448x2x2x4
  let main_v2 : FVec F S4x8448x1x2x4 .f32 := (extractStridedSlice S4x8448x1x2x4 ![0, 0, 0, 0, 0] · slices_S4x8448x2x2x4_S4x8448x1x2x4_0_0_0_0_0) main_v1
  let main_v3 : FVec F S4x8448x2x4 .f32 := shapeCast S4x8448x2x4 main_v2 shapeCasts_S4x8448x1x2x4_S4x8448x2x4
  let main_v4 : FVec F S1x1x2x4 .f32 := broadcastInDim S1x1x2x4 ![2, 3] bcast_S2x4_S1x1x2x4_2_3 main_arg8
  let main_v5 : FVec F S4x8448x2x4 .f32 := broadcastInDim S4x8448x2x4 ![0, 1, 2, 3] bcast_S1x1x2x4_S4x8448x2x4_0_1_2_3 main_v4
  let main_v6 : FVec F S4x8448x2x4 .f32 := addf main_v3 main_v5
  let main_cst : FVec F S_ .f32 := constant S_ .f32 0x7F800000#32
  let main_v7 : FVec F S4x8448x2x4 .f32 := broadcastInDim S4x8448x2x4 ![] bcast_S_S4x8448x2x4 main_cst
  let main_v8 : IVec S4x8448x2x4 1 := cmpf .olt main_v6 main_v7
  main_v8
-- ==== Kernel.lean ====
abbrev S4x8192x1024 : Shape := ⟨3, ![4, 8192, 1024]⟩
abbrev S4x256x1024 : Shape := ⟨3, ![4, 256, 1024]⟩
abbrev S4x8192x16 : Shape := ⟨3, ![4, 8192, 16]⟩
abbrev S4x256x16 : Shape := ⟨3, ![4, 256, 16]⟩
abbrev S2x4 : Shape := ⟨2, ![2, 4]⟩
abbrev S32768x1024 : Shape := ⟨2, ![32768, 1024]⟩
abbrev S1024x1024 : Shape := ⟨2, ![1024, 1024]⟩
abbrev S33792x1024 : Shape := ⟨2, ![33792, 1024]⟩
abbrev S32768x16 : Shape := ⟨2, ![32768, 16]⟩
abbrev S1024x16 : Shape := ⟨2, ![1024, 16]⟩
abbrev S33792x16 : Shape := ⟨2, ![33792, 16]⟩
abbrev S_ : Shape := ⟨0, ![]⟩
abbrev S33792x112 : Shape := ⟨2, ![33792, 112]⟩
abbrev S33792x128 : Shape := ⟨2, ![33792, 128]⟩
abbrev S8 : Shape := ⟨1, ![8]⟩
abbrev S112 : Shape := ⟨1, ![112]⟩
abbrev S128 : Shape := ⟨1, ![128]⟩
abbrev S1x128 : Shape := ⟨2, ![1, 128]⟩
abbrev S2x16896x1024 : Shape := ⟨3, ![2, 16896, 1024]⟩
abbrev S128x1024 : Shape := ⟨2, ![128, 1024]⟩
abbrev S128x128 : Shape := ⟨2, ![128, 128]⟩
abbrev S2x128x1024 : Shape := ⟨3, ![2, 128, 1024]⟩
abbrev S2x2x4x256x256 : Shape := ⟨5, ![2, 2, 4, 256, 256]⟩
abbrev S2x2x4x1x256 : Shape := ⟨5, ![2, 2, 4, 1, 256]⟩
abbrev S2x2x4x1x1 : Shape := ⟨5, ![2, 2, 4, 1, 1]⟩
abbrev S128x1 : Shape := ⟨2, ![128, 1]⟩
abbrev S128x256 : Shape := ⟨2, ![128, 256]⟩
abbrev S1x1 : Shape := ⟨2, ![1, 1]⟩
abbrev S1x1x1x256x256 : Shape := ⟨5, ![1, 1, 1, 256, 256]⟩
abbrev S256x256 : Shape := ⟨2, ![256, 256]⟩
abbrev S1x1x1x1x256 : Shape := ⟨5, ![1, 1, 1, 1, 256]⟩
abbrev S1x256 : Shape := ⟨2, ![1, 256]⟩
abbrev S1x1x1x1x1 : Shape := ⟨5, ![1, 1, 1, 1, 1]⟩
abbrev S16x256 : Shape := ⟨2, ![16, 256]⟩
abbrev S16x128 : Shape := ⟨2, ![16, 128]⟩
abbrev S256x128 : Shape := ⟨2, ![256, 128]⟩
abbrev S1 : Shape := ⟨1, ![1]⟩
abbrev S1x128x256 : Shape := ⟨3, ![1, 128, 256]⟩

abbrev nBuf : Space → Nat
  | .hbm => 36
  | .vmem => 40
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x8192x1024, .f32⟩
  | .hbm, ⟨3, _⟩ => ⟨S4x256x1024, .f32⟩
  | .hbm, ⟨4, _⟩ => ⟨S4x8192x1024, .f32⟩
  | .hbm, ⟨5, _⟩ => ⟨S4x256x1024, .f32⟩
  | .hbm, ⟨6, _⟩ => ⟨S4x8192x16, .f32⟩
  | .hbm, ⟨7, _⟩ => ⟨S4x256x16, .f32⟩
  | .hbm, ⟨8, _⟩ => ⟨S2x4, .f32⟩
  | .hbm, ⟨9, _⟩ => ⟨S2x4, .f32⟩
  | .hbm, ⟨10, _⟩ => ⟨S32768x1024, .f32⟩
  | .hbm, ⟨11, _⟩ => ⟨S1024x1024, .f32⟩
  | .hbm, ⟨12, _⟩ => ⟨S33792x1024, .f32⟩
  | .hbm, ⟨13, _⟩ => ⟨S33792x1024, .bf16⟩
  | .hbm, ⟨14, _⟩ => ⟨S32768x1024, .f32⟩
  | .hbm, ⟨15, _⟩ => ⟨S1024x1024, .f32⟩
  | .hbm, ⟨16, _⟩ => ⟨S33792x1024, .f32⟩
  | .hbm, ⟨17, _⟩ => ⟨S33792x1024, .bf16⟩
  | .hbm, ⟨18, _⟩ => ⟨S32768x1024, .f32⟩
  | .hbm, ⟨19, _⟩ => ⟨S1024x1024, .f32⟩
  | .hbm, ⟨20, _⟩ => ⟨S33792x1024, .f32⟩
  | .hbm, ⟨21, _⟩ => ⟨S33792x1024, .bf16⟩
  | .hbm, ⟨22, _⟩ => ⟨S32768x16, .f32⟩
  | .hbm, ⟨23, _⟩ => ⟨S1024x16, .f32⟩
  | .hbm, ⟨24, _⟩ => ⟨S33792x16, .f32⟩
  | .hbm, ⟨25, _⟩ => ⟨S_, .f32⟩
  | .hbm, ⟨26, _⟩ => ⟨S33792x112, .f32⟩
  | .hbm, ⟨27, _⟩ => ⟨S33792x128, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S112, .f32⟩
  | .hbm, ⟨32, _⟩ => ⟨S128, .f32⟩
  | .hbm, ⟨33, _⟩ => ⟨S1x128, .f32⟩
  | .hbm, ⟨34, _⟩ => ⟨S2x16896x1024, .bf16⟩
  | .hbm, ⟨35, _⟩ => ⟨S2x16896x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x128, .f32⟩
  | .local _ .vmem, ⟨23, _⟩ => ⟨S128x128, .f32⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S2x128x1024, .bf16⟩
  | .local _ .vmem, ⟨34, _⟩ => ⟨S2x128x1024, .bf16⟩
  | .local _ .vmem, ⟨35, _⟩ => ⟨S2x128x1024, .bf16⟩
  | .local _ .vmem, ⟨36, _⟩ => ⟨S2x128x1024, .bf16⟩
  | .local _ .vmem, ⟨37, _⟩ => ⟨S2x2x4x256x256, .f32⟩
  | .local _ .vmem, ⟨38, _⟩ => ⟨S2x2x4x1x256, .f32⟩
  | .local _ .vmem, ⟨39, _⟩ => ⟨S2x2x4x1x1, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_1 : BitVec 32 := 2#32
  let v7 : BitVec 32 := Scalar.subi v6 c2_i32_1
  let v8 : BitVec 32 := Scalar.select v1 v4 v7
  let c0_i32_2 : BitVec 32 := 0#32
  let c0_i32_3 : BitVec 32 := 0#32
  ![v8.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_1 : BitVec 32 := 2#32
  let v7 : BitVec 32 := Scalar.subi v6 c2_i32_1
  let v8 : BitVec 32 := Scalar.select v1 v4 v7
  let c0_i32_2 : BitVec 32 := 0#32
  let c0_i32_3 : BitVec 32 := 0#32
  ![v8.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_1 : BitVec 32 := 2#32
  let v7 : BitVec 32 := Scalar.subi v6 c2_i32_1
  let v8 : BitVec 32 := Scalar.select v1 v4 v7
  let c0_i32_2 : BitVec 32 := 0#32
  let c0_i32_3 : BitVec 32 := 0#32
  ![v8.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_1 : BitVec 32 := 2#32
  let v7 : BitVec 32 := Scalar.subi v6 c2_i32_1
  let v8 : BitVec 32 := Scalar.select v1 v4 v7
  let c0_i32_2 : BitVec 32 := 0#32
  let c0_i32_3 : BitVec 32 := 0#32
  ![v8.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_1 : BitVec 32 := 2#32
  let v7 : BitVec 32 := Scalar.subi arg1 c2_i32_1
  let c63_i32 : BitVec 32 := 63#32
  let v8 : BitVec 32 := Scalar.subi c63_i32 v7
  let v9 : BitVec 32 := Scalar.addi v6 v8
  let v10 : BitVec 32 := Scalar.select v1 v5 v9
  let c0_i32_2 : BitVec 32 := 0#32
  let c0_i32_3 : BitVec 32 := 0#32
  ![v10.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_1 : BitVec 32 := 2#32
  let v7 : BitVec 32 := Scalar.subi arg1 c2_i32_1
  let c63_i32 : BitVec 32 := 63#32
  let v8 : BitVec 32 := Scalar.subi c63_i32 v7
  let v9 : BitVec 32 := Scalar.addi v6 v8
  let v10 : BitVec 32 := Scalar.select v1 v5 v9
  let c0_i32_2 : BitVec 32 := 0#32
  let c0_i32_3 : BitVec 32 := 0#32
  ![v10.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_1 : BitVec 32 := 2#32
  let v7 : BitVec 32 := Scalar.subi arg1 c2_i32_1
  let c63_i32 : BitVec 32 := 63#32
  let v8 : BitVec 32 := Scalar.subi c63_i32 v7
  let v9 : BitVec 32 := Scalar.addi v6 v8
  let v10 : BitVec 32 := Scalar.select v1 v5 v9
  let c0_i32_2 : BitVec 32 := 0#32
  let c0_i32_3 : BitVec 32 := 0#32
  ![v10.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 1 := Scalar.cmpi .slt arg1 c2_i32
  let c2_i32_0 : BitVec 32 := 2#32
  let v2 : BitVec 32 := Scalar.muli v0 c2_i32_0
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_1 : BitVec 32 := 2#32
  let v7 : BitVec 32 := Scalar.subi arg1 c2_i32_1
  let c63_i32 : BitVec 32 := 63#32
  let v8 : BitVec 32 := Scalar.subi c63_i32 v7
  let v9 : BitVec 32 := Scalar.addi v6 v8
  let v10 : BitVec 32 := Scalar.select v1 v5 v9
  let c0_i32_2 : BitVec 32 := 0#32
  let c0_i32_3 : BitVec 32 := 0#32
  ![v10.toNat, c0_i32_2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_2 : BitVec 32 := 2#32
  let v7 : BitVec 32 := Scalar.subi v6 c2_i32_2
  let v8 : BitVec 32 := Scalar.select v1 v4 v7
  let c0_i32 : BitVec 32 := 0#32
  let c0_i32_3 : BitVec 32 := 0#32
  ![v8.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_2 : BitVec 32 := 2#32
  let v7 : BitVec 32 := Scalar.subi v6 c2_i32_2
  let v8 : BitVec 32 := Scalar.select v1 v4 v7
  let c0_i32 : BitVec 32 := 0#32
  let c0_i32_3 : BitVec 32 := 0#32
  ![v8.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_2 : BitVec 32 := 2#32
  let v7 : BitVec 32 := Scalar.subi v6 c2_i32_2
  let v8 : BitVec 32 := Scalar.select v1 v4 v7
  let c0_i32 : BitVec 32 := 0#32
  let c0_i32_3 : BitVec 32 := 0#32
  ![v8.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let v4 : BitVec 32 := Scalar.addi v3 arg1
  let c64_i32 : BitVec 32 := 64#32
  let v5 : BitVec 32 := Scalar.muli v0 c64_i32
  let v6 : BitVec 32 := Scalar.addi v5 arg1
  let c2_i32_2 : BitVec 32 := 2#32
  let v7 : BitVec 32 := Scalar.subi v6 c2_i32_2
  let v8 : BitVec 32 := Scalar.select v1 v4 v7
  let c0_i32 : BitVec 32 := 0#32
  let c0_i32_3 : BitVec 32 := 0#32
  ![v8.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_2 : BitVec 32 := 2#32
  let v7 : BitVec 32 := Scalar.subi arg1 c2_i32_2
  let c63_i32 : BitVec 32 := 63#32
  let v8 : BitVec 32 := Scalar.subi c63_i32 v7
  let v9 : BitVec 32 := Scalar.addi v6 v8
  let v10 : BitVec 32 := Scalar.select v1 v5 v9
  let c0_i32 : BitVec 32 := 0#32
  let c0_i32_3 : BitVec 32 := 0#32
  ![v10.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_2 : BitVec 32 := 2#32
  let v7 : BitVec 32 := Scalar.subi arg1 c2_i32_2
  let c63_i32 : BitVec 32 := 63#32
  let v8 : BitVec 32 := Scalar.subi c63_i32 v7
  let v9 : BitVec 32 := Scalar.addi v6 v8
  let v10 : BitVec 32 := Scalar.select v1 v5 v9
  let c0_i32 : BitVec 32 := 0#32
  let c0_i32_3 : BitVec 32 := 0#32
  ![v10.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_2 : BitVec 32 := 2#32
  let v7 : BitVec 32 := Scalar.subi arg1 c2_i32_2
  let c63_i32 : BitVec 32 := 63#32
  let v8 : BitVec 32 := Scalar.subi c63_i32 v7
  let v9 : BitVec 32 := Scalar.addi v6 v8
  let v10 : BitVec 32 := Scalar.select v1 v5 v9
  let c0_i32 : BitVec 32 := 0#32
  let c0_i32_3 : BitVec 32 := 0#32
  ![v10.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c2_i32_0 : BitVec 32 := 2#32
  let v1 : BitVec 1 := Scalar.cmpi .slt arg1 c2_i32_0
  let c2_i32_1 : BitVec 32 := 2#32
  let v2 : BitVec 32 := Scalar.muli v0 c2_i32_1
  let c256_i32 : BitVec 32 := 256#32
  let v3 : BitVec 32 := Scalar.addi c256_i32 v2
  let c1_i32 : BitVec 32 := 1#32
  let v4 : BitVec 32 := Scalar.subi c1_i32 arg1
  let v5 : BitVec 32 := Scalar.addi v3 v4
  let c64_i32 : BitVec 32 := 64#32
  let v6 : BitVec 32 := Scalar.muli v0 c64_i32
  let c2_i32_2 : BitVec 32 := 2#32
  let v7 : BitVec 32 := Scalar.subi arg1 c2_i32_2
  let c63_i32 : BitVec 32 := 63#32
  let v8 : BitVec 32 := Scalar.subi c63_i32 v7
  let v9 : BitVec 32 := Scalar.addi v6 v8
  let v10 : BitVec 32 := Scalar.select v1 v5 v9
  let c0_i32 : BitVec 32 := 0#32
  let c0_i32_3 : BitVec 32 := 0#32
  ![v10.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c128_i32 : BitVec 32 := 128#32
  let v2 : BitVec 32 := Scalar.addi c128_i32 v1
  let v3 : BitVec 32 := Scalar.addi v2 arg1
  let c64_i32 : BitVec 32 := 64#32
  let v4 : BitVec 32 := Scalar.muli arg0 c64_i32
  let v5 : BitVec 32 := Scalar.addi v4 arg1
  let c2_i32_1 : BitVec 32 := 2#32
  let v6 : BitVec 32 := Scalar.subi v5 c2_i32_1
  let v7 : BitVec 32 := Scalar.select v0 v3 v6
  let c0_i32 : BitVec 32 := 0#32
  let c0_i32_2 : BitVec 32 := 0#32
  let c0_i32_3 : BitVec 32 := 0#32
  ![c0_i32.toNat, v7.toNat, c0_i32_2.toNat]

def cc0_transform_18 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.muli arg0 c2_i32_0
  let c128_i32 : BitVec 32 := 128#32
  let v2 : BitVec 32 := Scalar.addi c128_i32 v1
  let c1_i32 : BitVec 32 := 1#32
  let v3 : BitVec 32 := Scalar.subi c1_i32 arg1
  let v4 : BitVec 32 := Scalar.addi v2 v3
  let c64_i32 : BitVec 32 := 64#32
  let v5 : BitVec 32 := Scalar.muli arg0 c64_i32
  let c2_i32_1 : BitVec 32 := 2#32
  let v6 : BitVec 32 := Scalar.subi arg1 c2_i32_1
  let c63_i32 : BitVec 32 := 63#32
  let v7 : BitVec 32 := Scalar.subi c63_i32 v6
  let v8 : BitVec 32 := Scalar.addi v5 v7
  let v9 : BitVec 32 := Scalar.select v0 v4 v8
  let c0_i32 : BitVec 32 := 0#32
  let c0_i32_2 : BitVec 32 := 0#32
  let c0_i32_3 : BitVec 32 := 0#32
  ![c0_i32.toNat, v9.toNat, c0_i32_2.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S4x8192x1024 : Shape := ⟨3, ![4, 8192, 1024]⟩
abbrev S4x256x1024 : Shape := ⟨3, ![4, 256, 1024]⟩
abbrev S4x8192x16 : Shape := ⟨3, ![4, 8192, 16]⟩
abbrev S4x256x16 : Shape := ⟨3, ![4, 256, 16]⟩
abbrev S2x4 : Shape := ⟨2, ![2, 4]⟩
abbrev S4x8448x1024 : Shape := ⟨3, ![4, 8448, 1024]⟩
abbrev S1x4x8448x1024 : Shape := ⟨4, ![1, 4, 8448, 1024]⟩
abbrev S2x4x8448x1024 : Shape := ⟨4, ![2, 4, 8448, 1024]⟩
abbrev S2x4x66x128x4x256 : Shape := ⟨6, ![2, 4, 66, 128, 4, 256]⟩
abbrev S66x2x4x4x128x256 : Shape := ⟨6, ![66, 2, 4, 4, 128, 256]⟩
abbrev S4x256x2x2x4 : Shape := ⟨5, ![4, 256, 2, 2, 4]⟩
abbrev S4x256x1x2x4 : Shape := ⟨5, ![4, 256, 1, 2, 4]⟩
abbrev S4x256x2x4 : Shape := ⟨4, ![4, 256, 2, 4]⟩
abbrev S4x8192x2x2x4 : Shape := ⟨5, ![4, 8192, 2, 2, 4]⟩
abbrev S4x8192x1x2x4 : Shape := ⟨5, ![4, 8192, 1, 2, 4]⟩
abbrev S4x8192x2x4 : Shape := ⟨4, ![4, 8192, 2, 4]⟩
abbrev S4x256x1x4 : Shape := ⟨4, ![4, 256, 1, 4]⟩
abbrev S4x256x4 : Shape := ⟨3, ![4, 256, 4]⟩
abbrev S4x8192x1x4 : Shape := ⟨4, ![4, 8192, 1, 4]⟩
abbrev S4x8192x4 : Shape := ⟨3, ![4, 8192, 4]⟩
abbrev S4x8448x4 : Shape := ⟨3, ![4, 8448, 4]⟩
abbrev S1x4x8448x4 : Shape := ⟨4, ![1, 4, 8448, 4]⟩
abbrev S2x4x8448x4 : Shape := ⟨4, ![2, 4, 8448, 4]⟩
abbrev S2x4x66x128x4 : Shape := ⟨5, ![2, 4, 66, 128, 4]⟩
abbrev S66x2x4x4x128 : Shape := ⟨5, ![66, 2, 4, 4, 128]⟩
abbrev S2x1x4x1 : Shape := ⟨4, ![2, 1, 4, 1]⟩
abbrev S1x2x1x4x1 : Shape := ⟨5, ![1, 2, 1, 4, 1]⟩
abbrev S_ : Shape := ⟨0, ![]⟩
abbrev S128x128 : Shape := ⟨2, ![128, 128]⟩
abbrev S2x4x4x256x256 : Shape := ⟨5, ![2, 4, 4, 256, 256]⟩
abbrev S2x4x4x256 : Shape := ⟨4, ![2, 4, 4, 256]⟩
abbrev S2x4x4 : Shape := ⟨3, ![2, 4, 4]⟩
abbrev S1x2x4x4x128x256 : Shape := ⟨6, ![1, 2, 4, 4, 128, 256]⟩
abbrev S2x4x4x128x256 : Shape := ⟨5, ![2, 4, 4, 128, 256]⟩
abbrev S1x2x4x4x128 : Shape := ⟨5, ![1, 2, 4, 4, 128]⟩
abbrev S2x4x4x128 : Shape := ⟨4, ![2, 4, 4, 128]⟩
abbrev S2x4x4x128x1 : Shape := ⟨5, ![2, 4, 4, 128, 1]⟩
abbrev S2x4x4x1x128 : Shape := ⟨5, ![2, 4, 4, 1, 128]⟩
abbrev S2x4x4x128x128 : Shape := ⟨5, ![2, 4, 4, 128, 128]⟩
abbrev S2x4x4x1 : Shape := ⟨4, ![2, 4, 4, 1]⟩
abbrev S2x4x4x1x1 : Shape := ⟨5, ![2, 4, 4, 1, 1]⟩
abbrev S2x4x4x66x128x256 : Shape := ⟨6, ![2, 4, 4, 66, 128, 256]⟩
abbrev S2x4x4x8448x256 : Shape := ⟨5, ![2, 4, 4, 8448, 256]⟩
abbrev S1x4x4x256x256 : Shape := ⟨5, ![1, 4, 4, 256, 256]⟩
abbrev S4x4x256x256 : Shape := ⟨4, ![4, 4, 256, 256]⟩
abbrev S1x4x4x8192x256 : Shape := ⟨5, ![1, 4, 4, 8192, 256]⟩
abbrev S4x4x8192x256 : Shape := ⟨4, ![4, 4, 8192, 256]⟩
abbrev S4x8192x4x256 : Shape := ⟨4, ![4, 8192, 4, 256]⟩
abbrev S2x16384x1024 : Shape := ⟨3, ![2, 16384, 1024]⟩
abbrev S4x256x4x256 : Shape := ⟨4, ![4, 256, 4, 256]⟩
abbrev S2x512x1024 : Shape := ⟨3, ![2, 512, 1024]⟩
abbrev S2x16896x1024 : Shape := ⟨3, ![2, 16896, 1024]⟩

abbrev nBuf : Space → Nat
  | .hbm => 279
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x8192x1024, .f32⟩
  | 3 => ⟨S4x256x1024, .f32⟩
  | 4 => ⟨S4x8192x1024, .f32⟩
  | 5 => ⟨S4x256x1024, .f32⟩
  | 6 => ⟨S4x8192x16, .f32⟩
  | 7 => ⟨S4x256x16, .f32⟩
  | 8 => ⟨S2x4, .f32⟩
  | 9 => ⟨S2x4, .f32⟩
  | 10 => ⟨S4x8448x1024, .f32⟩
  | 11 => ⟨S4x256x1024, .f32⟩
  | 12 => ⟨S4x8192x1024, .f32⟩
  | 13 => ⟨S4x8448x1024, .f32⟩
  | 14 => ⟨S1x4x8448x1024, .f32⟩
  | 15 => ⟨S1x4x8448x1024, .f32⟩
  | 16 => ⟨S2x4x8448x1024, .f32⟩
  | 17 => ⟨S2x4x66x128x4x256, .f32⟩
  | 18 => ⟨S66x2x4x4x128x256, .f32⟩
  | 19 => ⟨S4x8448x1024, .f32⟩
  | 20 => ⟨S4x256x1024, .f32⟩
  | 21 => ⟨S4x8192x1024, .f32⟩
  | 22 => ⟨S4x8448x1024, .f32⟩
  | 23 => ⟨S1x4x8448x1024, .f32⟩
  | 24 => ⟨S1x4x8448x1024, .f32⟩
  | 25 => ⟨S2x4x8448x1024, .f32⟩
  | 26 => ⟨S2x4x66x128x4x256, .f32⟩
  | 27 => ⟨S66x2x4x4x128x256, .f32⟩
  | 28 => ⟨S4x8448x1024, .f32⟩
  | 29 => ⟨S4x256x1024, .f32⟩
  | 30 => ⟨S4x8192x1024, .f32⟩
  | 31 => ⟨S4x8448x1024, .f32⟩
  | 32 => ⟨S1x4x8448x1024, .f32⟩
  | 33 => ⟨S1x4x8448x1024, .f32⟩
  | 34 => ⟨S2x4x8448x1024, .f32⟩
  | 35 => ⟨S2x4x66x128x4x256, .f32⟩
  | 36 => ⟨S66x2x4x4x128x256, .f32⟩
  | 37 => ⟨S4x256x2x2x4, .f32⟩
  | 38 => ⟨S4x256x1x2x4, .f32⟩
  | 39 => ⟨S4x256x2x4, .f32⟩
  | 40 => ⟨S4x8192x2x2x4, .f32⟩
  | 41 => ⟨S4x8192x1x2x4, .f32⟩
  | 42 => ⟨S4x8192x2x4, .f32⟩
  | 43 => ⟨S4x256x1x4, .f32⟩
  | 44 => ⟨S4x256x4, .f32⟩
  | 45 => ⟨S4x8192x1x4, .f32⟩
  | 46 => ⟨S4x8192x4, .f32⟩
  | 47 => ⟨S4x256x1x4, .f32⟩
  | 48 => ⟨S4x256x4, .f32⟩
  | 49 => ⟨S4x8192x1x4, .f32⟩
  | 50 => ⟨S4x8192x4, .f32⟩
  | 51 => ⟨S4x8448x4, .f32⟩
  | 52 => ⟨S4x256x4, .f32⟩
  | 53 => ⟨S4x8192x4, .f32⟩
  | 54 => ⟨S4x8448x4, .f32⟩
  | 55 => ⟨S1x4x8448x4, .f32⟩
  | 56 => ⟨S1x4x8448x4, .f32⟩
  | 57 => ⟨S2x4x8448x4, .f32⟩
  | 58 => ⟨S2x4x66x128x4, .f32⟩
  | 59 => ⟨S66x2x4x4x128, .f32⟩
  | 60 => ⟨S2x1x4x1, .f32⟩
  | 61 => ⟨S1x2x1x4x1, .f32⟩
  | 62 => ⟨S66x2x4x4x128, .f32⟩
  | 63 => ⟨S66x2x4x4x128, .f32⟩
  | 64 => ⟨S4x256x2x2x4, .f32⟩
  | 65 => ⟨S4x256x1x2x4, .f32⟩
  | 66 => ⟨S4x256x2x4, .f32⟩
  | 67 => ⟨S4x8192x2x2x4, .f32⟩
  | 68 => ⟨S4x8192x1x2x4, .f32⟩
  | 69 => ⟨S4x8192x2x4, .f32⟩
  | 70 => ⟨S4x256x1x4, .f32⟩
  | 71 => ⟨S4x256x4, .f32⟩
  | 72 => ⟨S4x8192x1x4, .f32⟩
  | 73 => ⟨S4x8192x4, .f32⟩
  | 74 => ⟨S4x256x1x4, .f32⟩
  | 75 => ⟨S4x256x4, .f32⟩
  | 76 => ⟨S4x8192x1x4, .f32⟩
  | 77 => ⟨S4x8192x4, .f32⟩
  | 78 => ⟨S4x8448x4, .f32⟩
  | 79 => ⟨S4x256x4, .f32⟩
  | 80 => ⟨S4x8192x4, .f32⟩
  | 81 => ⟨S4x8448x4, .f32⟩
  | 82 => ⟨S1x4x8448x4, .f32⟩
  | 83 => ⟨S1x4x8448x4, .f32⟩
  | 84 => ⟨S2x4x8448x4, .f32⟩
  | 85 => ⟨S2x4x66x128x4, .f32⟩
  | 86 => ⟨S66x2x4x4x128, .f32⟩
  | 87 => ⟨S2x1x4x1, .f32⟩
  | 88 => ⟨S1x2x1x4x1, .f32⟩
  | 89 => ⟨S66x2x4x4x128, .f32⟩
  | 90 => ⟨S66x2x4x4x128, .f32⟩
  | 91 => ⟨S_, .i1⟩
  | 92 => ⟨S128x128, .i1⟩
  | 93 => ⟨S128x128, .i32⟩
  | 94 => ⟨S_, .i32⟩
  | 95 => ⟨S128x128, .i32⟩
  | 96 => ⟨S128x128, .i32⟩
  | 97 => ⟨S128x128, .i32⟩
  | 98 => ⟨S128x128, .i1⟩
  | 99 => ⟨S_, .i1⟩
  | 100 => ⟨S128x128, .i1⟩
  | 101 => ⟨S128x128, .i1⟩
  | 102 => ⟨S_, .f32⟩
  | 103 => ⟨S2x4x4x256x256, .f32⟩
  | 104 => ⟨S_, .f32⟩
  | 105 => ⟨S2x4x4x256, .f32⟩
  | 106 => ⟨S_, .f32⟩
  | 107 => ⟨S2x4x4, .f32⟩
  | 108 => ⟨S_, .f32⟩
  | 109 => ⟨S66x2x4x4x128x256, .f32⟩
  | 110 => ⟨S_, .i32⟩
  | 111 => ⟨S66x2x4x4x128x256, .f32⟩
  | 112 => ⟨S66x2x4x4x128x256, .f32⟩
  | 113 => ⟨S66x2x4x4x128x256, .f32⟩
  | 114 => ⟨S66x2x4x4x128, .f32⟩
  | 115 => ⟨S66x2x4x4x128, .f32⟩
  | 116 => ⟨S128x128, .i1⟩
  | 117 => ⟨S_, .i32⟩
  | 118 => ⟨S2x4x4x256x256, .f32⟩
  | 119 => ⟨S2x4x4x256, .f32⟩
  | 120 => ⟨S2x4x4, .f32⟩
  | 121 => ⟨S66x2x4x4x128x256, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S4x8192x1024, .f32⟩

abbrev hbmTy0_1 (i : Nat) : BufTy := match i % 128 with
  | 0 => ⟨S_, .i32⟩
  | 1 => ⟨S1x2x4x4x128x256, .f32⟩
  | 2 => ⟨S2x4x4x128x256, .f32⟩
  | 3 => ⟨S_, .i32⟩
  | 4 => ⟨S_, .i32⟩
  | 5 => ⟨S_, .i32⟩
  | 6 => ⟨S_, .i32⟩
  | 7 => ⟨S_, .i32⟩
  | 8 => ⟨S1x2x4x4x128x256, .f32⟩
  | 9 => ⟨S2x4x4x128x256, .f32⟩
  | 10 => ⟨S_, .i32⟩
  | 11 => ⟨S_, .i32⟩
  | 12 => ⟨S_, .i32⟩
  | 13 => ⟨S_, .i32⟩
  | 14 => ⟨S_, .i32⟩
  | 15 => ⟨S1x2x4x4x128x256, .f32⟩
  | 16 => ⟨S2x4x4x128x256, .f32⟩
  | 17 => ⟨S_, .i32⟩
  | 18 => ⟨S_, .i32⟩
  | 19 => ⟨S_, .i32⟩
  | 20 => ⟨S_, .i32⟩
  | 21 => ⟨S1x2x4x4x128, .f32⟩
  | 22 => ⟨S2x4x4x128, .f32⟩
  | 23 => ⟨S_, .i32⟩
  | 24 => ⟨S_, .i32⟩
  | 25 => ⟨S_, .i32⟩
  | 26 => ⟨S_, .i32⟩
  | 27 => ⟨S1x2x4x4x128, .f32⟩
  | 28 => ⟨S2x4x4x128, .f32⟩
  | 29 => ⟨S2x4x4x128, .f32⟩
  | 30 => ⟨S_, .f32⟩
  | 31 => ⟨S2x4x4x128, .f32⟩
  | 32 => ⟨S2x4x4x128, .f32⟩
  | 33 => ⟨S2x4x4x128, .f32⟩
  | 34 => ⟨S2x4x4x128, .f32⟩
  | 35 => ⟨S2x4x4x128, .f32⟩
  | 36 => ⟨S2x4x4x128, .f32⟩
  | 37 => ⟨S2x4x4x128, .f32⟩
  | 38 => ⟨S2x4x4x128, .f32⟩
  | 39 => ⟨S_, .f32⟩
  | 40 => ⟨S_, .f32⟩
  | 41 => ⟨S2x4x4x128, .f32⟩
  | 42 => ⟨S2x4x4x128x1, .f32⟩
  | 43 => ⟨S2x4x4x1x128, .f32⟩
  | 44 => ⟨S2x4x4x128x128, .f32⟩
  | 45 => ⟨S2x4x4x128x128, .f32⟩
  | 46 => ⟨S2x4x4x128x128, .f32⟩
  | 47 => ⟨S2x4x4x1x128, .f32⟩
  | 48 => ⟨S2x4x4x128x128, .f32⟩
  | 49 => ⟨S2x4x4x128x128, .f32⟩
  | 50 => ⟨S_, .f32⟩
  | 51 => ⟨S_, .f32⟩
  | 52 => ⟨S2x4x4x128x128, .i1⟩
  | 53 => ⟨S2x4x4x128x128, .f32⟩
  | 54 => ⟨S2x4x4x128x128, .f32⟩
  | 55 => ⟨S2x4x4x1, .f32⟩
  | 56 => ⟨S2x4x4x128, .f32⟩
  | 57 => ⟨S2x4x4x128, .f32⟩
  | 58 => ⟨S_, .f32⟩
  | 59 => ⟨S2x4x4x128, .f32⟩
  | 60 => ⟨S2x4x4x128, .f32⟩
  | 61 => ⟨S2x4x4x128x128, .f32⟩
  | 62 => ⟨S2x4x4x128x1, .f32⟩
  | 63 => ⟨S2x4x4x128x128, .f32⟩
  | 64 => ⟨S2x4x4x128x128, .f32⟩
  | 65 => ⟨S2x4x4x128x128, .f32⟩
  | 66 => ⟨S2x4x4x128x128, .f32⟩
  | 67 => ⟨S2x4x4x128, .f32⟩
  | 68 => ⟨S2x4x4x128, .f32⟩
  | 69 => ⟨S2x4x4x128x256, .f32⟩
  | 70 => ⟨S2x4x4x128x1, .f32⟩
  | 71 => ⟨S2x4x4x128x256, .f32⟩
  | 72 => ⟨S2x4x4x128x256, .f32⟩
  | 73 => ⟨S2x4x4x128x256, .f32⟩
  | 74 => ⟨S2x4x4x128x256, .f32⟩
  | 75 => ⟨S_, .f32⟩
  | 76 => ⟨S2x4x4x128, .f32⟩
  | 77 => ⟨S2x4x4x128, .f32⟩
  | 78 => ⟨S2x4x4x128, .f32⟩
  | 79 => ⟨S2x4x4x128, .f32⟩
  | 80 => ⟨S2x4x4x128, .f32⟩
  | 81 => ⟨S2x4x4x128, .f32⟩
  | 82 => ⟨S2x4x4x128, .f32⟩
  | 83 => ⟨S2x4x4x128, .f32⟩
  | 84 => ⟨S2x4x4x128x1, .f32⟩
  | 85 => ⟨S2x4x4x128x256, .f32⟩
  | 86 => ⟨S2x4x4x128x256, .f32⟩
  | 87 => ⟨S2x4x4x1, .f32⟩
  | 88 => ⟨S2x4x4, .f32⟩
  | 89 => ⟨S2x4x4x1, .f32⟩
  | 90 => ⟨S2x4x4x128, .f32⟩
  | 91 => ⟨S2x4x4x128, .f32⟩
  | 92 => ⟨S2x4x4x128, .f32⟩
  | 93 => ⟨S2x4x4, .f32⟩
  | 94 => ⟨S_, .f32⟩
  | 95 => ⟨S2x4x4, .f32⟩
  | 96 => ⟨S2x4x4, .f32⟩
  | 97 => ⟨S2x4x4, .f32⟩
  | 98 => ⟨S2x4x4, .f32⟩
  | 99 => ⟨S2x4x4, .f32⟩
  | 100 => ⟨S2x4x4x1, .f32⟩
  | 101 => ⟨S2x4x4x128, .f32⟩
  | 102 => ⟨S2x4x4x128, .f32⟩
  | 103 => ⟨S2x4x4x128, .f32⟩
  | 104 => ⟨S2x4x4x128x1, .f32⟩
  | 105 => ⟨S2x4x4x128x256, .f32⟩
  | 106 => ⟨S2x4x4x128x256, .f32⟩
  | 107 => ⟨S2x4x4x1x1, .f32⟩
  | 108 => ⟨S2x4x4x256x256, .f32⟩
  | 109 => ⟨S2x4x4x256x256, .f32⟩
  | 110 => ⟨S2x4x4x256x256, .f32⟩
  | 111 => ⟨S2x4x4x256x256, .f32⟩
  | 112 => ⟨S2x4x4x1, .f32⟩
  | 113 => ⟨S2x4x4x256, .f32⟩
  | 114 => ⟨S2x4x4x256, .f32⟩
  | 115 => ⟨S_, .f32⟩
  | 116 => ⟨S2x4x4x256, .f32⟩
  | 117 => ⟨S2x4x4x256, .f32⟩
  | 118 => ⟨S1x2x4x4x128x256, .f32⟩
  | 119 => ⟨S_, .i32⟩
  | 120 => ⟨S_, .i32⟩
  | 121 => ⟨S_, .i32⟩
  | 122 => ⟨S_, .i32⟩
  | 123 => ⟨S_, .i32⟩
  | 124 => ⟨S66x2x4x4x128x256, .f32⟩
  | 125 => ⟨S_, .i32⟩
  | 126 => ⟨S_, .i32⟩
  | 127 => ⟨S2x4x4x66x128x256, .f32⟩
  | _ => ⟨S4x8192x1024, .f32⟩

abbrev hbmTy0_2 (i : Nat) : BufTy := match i % 128 with
  | 0 => ⟨S2x4x4x8448x256, .f32⟩
  | 1 => ⟨S1x4x4x256x256, .f32⟩
  | 2 => ⟨S4x4x256x256, .f32⟩
  | 3 => ⟨S1x4x4x8192x256, .f32⟩
  | 4 => ⟨S4x4x8192x256, .f32⟩
  | 5 => ⟨S4x8192x4x256, .f32⟩
  | 6 => ⟨S2x16384x1024, .f32⟩
  | 7 => ⟨S4x256x4x256, .f32⟩
  | 8 => ⟨S2x512x1024, .f32⟩
  | 9 => ⟨S2x16896x1024, .f32⟩
  | 10 => ⟨S2x16896x1024, .bf16⟩
  | 11 => ⟨S1x4x4x256x256, .f32⟩
  | 12 => ⟨S4x4x256x256, .f32⟩
  | 13 => ⟨S4x4x256x256, .f32⟩
  | 14 => ⟨S1x4x4x8192x256, .f32⟩
  | 15 => ⟨S4x4x8192x256, .f32⟩
  | 16 => ⟨S4x4x8192x256, .f32⟩
  | 17 => ⟨S4x8192x4x256, .f32⟩
  | 18 => ⟨S2x16384x1024, .f32⟩
  | 19 => ⟨S4x256x4x256, .f32⟩
  | 20 => ⟨S2x512x1024, .f32⟩
  | 21 => ⟨S2x16896x1024, .f32⟩
  | 22 => ⟨S2x16896x1024, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_c : Ref sig .tc := ⟨.hbm, 91, rfl⟩
abbrev main_v81 : Ref sig .tc := ⟨.hbm, 92, rfl⟩
abbrev main_call0_v0 : Ref sig .tc := ⟨.hbm, 93, rfl⟩
abbrev main_call0_c : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_c_0 : Ref sig .tc := ⟨.hbm, 99, rfl⟩
abbrev main_call0_v5 : Ref sig .tc := ⟨.hbm, 100, rfl⟩
abbrev main_v82 : Ref sig .tc := ⟨.hbm, 101, rfl⟩
abbrev main_cst : Ref sig .tc := ⟨.hbm, 102, rfl⟩
abbrev main_v83 : Ref sig .tc := ⟨.hbm, 103, rfl⟩
abbrev main_cst_0 : Ref sig .tc := ⟨.hbm, 104, rfl⟩
abbrev main_v84 : Ref sig .tc := ⟨.hbm, 105, rfl⟩
abbrev main_cst_1 : Ref sig .tc := ⟨.hbm, 106, rfl⟩
abbrev main_v85 : Ref sig .tc := ⟨.hbm, 107, rfl⟩
abbrev main_cst_2 : Ref sig .tc := ⟨.hbm, 108, rfl⟩
abbrev main_v86 : Ref sig .tc := ⟨.hbm, 109, rfl⟩
abbrev main_c_3 : Ref sig .tc := ⟨.hbm, 110, rfl⟩
abbrev main_v87_0 : Ref sig .tc := ⟨.hbm, 111, rfl⟩
abbrev main_v87_1 : Ref sig .tc := ⟨.hbm, 112, rfl⟩
abbrev main_v87_2 : Ref sig .tc := ⟨.hbm, 113, rfl⟩
abbrev main_v87_3 : Ref sig .tc := ⟨.hbm, 114, rfl⟩
abbrev main_v87_4 : Ref sig .tc := ⟨.hbm, 115, rfl⟩
abbrev main_v87_5 : Ref sig .tc := ⟨.hbm, 116, rfl⟩
abbrev main_v87_6 : Ref sig .tc := ⟨.hbm, 117, rfl⟩
abbrev main_v87_7 : Ref sig .tc := ⟨.hbm, 118, rfl⟩
abbrev main_v87_8 : Ref sig .tc := ⟨.hbm, 119, rfl⟩
abbrev main_v87_9 : Ref sig .tc := ⟨.hbm, 120, rfl⟩
abbrev main_v87_10 : Ref sig .tc := ⟨.hbm, 121, rfl⟩
abbrev main_while0c_c_14 : Ref sig .tc := ⟨.hbm, 122, rfl⟩
abbrev main_while0c_v112 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_c_1 : Ref sig .tc := ⟨.hbm, 126, rfl⟩
abbrev main_while0b_call1_c_2 : Ref sig .tc := ⟨.hbm, 127, rfl⟩
abbrev main_while0b_call1_c_3 : Ref sig .tc := ⟨.hbm, 128, rfl⟩
abbrev main_while0b_call1_v0 : Ref sig .tc := ⟨.hbm, 129, rfl⟩
abbrev main_while0b_v112 : Ref sig .tc := ⟨.hbm, 130, rfl⟩
abbrev main_while0b_call2_c : Ref sig .tc := ⟨.hbm, 131, rfl⟩
abbrev main_while0b_call2_c_0 : Ref sig .tc := ⟨.hbm, 132, rfl⟩
abbrev main_while0b_call2_c_1 : Ref sig .tc := ⟨.hbm, 133, rfl⟩
abbrev main_while0b_call2_c_2 : Ref sig .tc := ⟨.hbm, 134, rfl⟩
abbrev main_while0b_call2_c_3 : Ref sig .tc := ⟨.hbm, 135, rfl⟩
abbrev main_while0b_call2_v0 : Ref sig .tc := ⟨.hbm, 136, rfl⟩
abbrev main_while0b_v113 : Ref sig .tc := ⟨.hbm, 137, rfl⟩
abbrev main_while0b_call3_c : Ref sig .tc := ⟨.hbm, 138, rfl⟩
abbrev main_while0b_call3_c_0 : Ref sig .tc := ⟨.hbm, 139, rfl⟩
abbrev main_while0b_call3_c_1 : Ref sig .tc := ⟨.hbm, 140, rfl⟩
abbrev main_while0b_call3_c_2 : Ref sig .tc := ⟨.hbm, 141, rfl⟩
abbrev main_while0b_call3_c_3 : Ref sig .tc := ⟨.hbm, 142, rfl⟩
abbrev main_while0b_call3_v0 : Ref sig .tc := ⟨.hbm, 143, rfl⟩
abbrev main_while0b_v114 : Ref sig .tc := ⟨.hbm, 144, rfl⟩
abbrev main_while0b_call4_c : Ref sig .tc := ⟨.hbm, 145, rfl⟩
abbrev main_while0b_call4_c_0 : Ref sig .tc := ⟨.hbm, 146, rfl⟩
abbrev main_while0b_call4_c_1 : Ref sig .tc := ⟨.hbm, 147, rfl⟩
abbrev main_while0b_call4_c_2 : Ref sig .tc := ⟨.hbm, 148, rfl⟩
abbrev main_while0b_call4_v0 : Ref sig .tc := ⟨.hbm, 149, rfl⟩
abbrev main_while0b_v115 : Ref sig .tc := ⟨.hbm, 150, rfl⟩
abbrev main_while0b_call5_c : Ref sig .tc := ⟨.hbm, 151, rfl⟩
abbrev main_while0b_call5_c_0 : Ref sig .tc := ⟨.hbm, 152, rfl⟩
abbrev main_while0b_call5_c_1 : Ref sig .tc := ⟨.hbm, 153, rfl⟩
abbrev main_while0b_call5_c_2 : Ref sig .tc := ⟨.hbm, 154, rfl⟩
abbrev main_while0b_call5_v0 : Ref sig .tc := ⟨.hbm, 155, rfl⟩
abbrev main_while0b_v116 : Ref sig .tc := ⟨.hbm, 156, rfl⟩
abbrev main_while0b_v117 : Ref sig .tc := ⟨.hbm, 157, rfl⟩
abbrev main_while0b_cst_14 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_call6_call0_cst : Ref sig .tc := ⟨.hbm, 167, rfl⟩
abbrev main_while0b_call6_call0_v0 : Ref sig .tc := ⟨.hbm, 168, rfl⟩
abbrev main_while0b_v126 : Ref sig .tc := ⟨.hbm, 169, rfl⟩
abbrev main_while0b_v127 : Ref sig .tc := ⟨.hbm, 170, rfl⟩
abbrev main_while0b_v128 : Ref sig .tc := ⟨.hbm, 171, rfl⟩
abbrev main_while0b_v129 : Ref sig .tc := ⟨.hbm, 172, rfl⟩
abbrev main_while0b_v130 : Ref sig .tc := ⟨.hbm, 173, rfl⟩
abbrev main_while0b_v131 : Ref sig .tc := ⟨.hbm, 174, rfl⟩
abbrev main_while0b_v132 : Ref sig .tc := ⟨.hbm, 175, rfl⟩
abbrev main_while0b_v133 : Ref sig .tc := ⟨.hbm, 176, rfl⟩
abbrev main_while0b_v134 : Ref sig .tc := ⟨.hbm, 177, rfl⟩
abbrev main_while0b_cst_15 : Ref sig .tc := ⟨.hbm, 178, rfl⟩
abbrev main_while0b_call7_v0 : Ref sig .tc := ⟨.hbm, 179, rfl⟩
abbrev main_while0b_call7_v1 : Ref sig .tc := ⟨.hbm, 180, rfl⟩
abbrev main_while0b_call7_v2 : Ref sig .tc := ⟨.hbm, 181, rfl⟩
abbrev main_while0b_v135 : Ref sig .tc := ⟨.hbm, 182, rfl⟩
abbrev main_while0b_v136 : Ref sig .tc := ⟨.hbm, 183, rfl⟩
abbrev main_while0b_v137 : Ref sig .tc := ⟨.hbm, 184, rfl⟩
abbrev main_while0b_v138 : Ref sig .tc := ⟨.hbm, 185, rfl⟩
abbrev main_while0b_cst_16 : Ref sig .tc := ⟨.hbm, 186, rfl⟩
abbrev main_while0b_v139 : Ref sig .tc := ⟨.hbm, 187, rfl⟩
abbrev main_while0b_v140 : Ref sig .tc := ⟨.hbm, 188, rfl⟩
abbrev main_while0b_v141 : Ref sig .tc := ⟨.hbm, 189, rfl⟩
abbrev main_while0b_v142 : Ref sig .tc := ⟨.hbm, 190, rfl⟩
abbrev main_while0b_v143 : Ref sig .tc := ⟨.hbm, 191, rfl⟩
abbrev main_while0b_v144 : Ref sig .tc := ⟨.hbm, 192, rfl⟩
abbrev main_while0b_v145 : Ref sig .tc := ⟨.hbm, 193, rfl⟩
abbrev main_while0b_v146 : Ref sig .tc := ⟨.hbm, 194, rfl⟩
abbrev main_while0b_v147 : Ref sig .tc := ⟨.hbm, 195, rfl⟩
abbrev main_while0b_v148 : Ref sig .tc := ⟨.hbm, 196, rfl⟩
abbrev main_while0b_v149 : Ref sig .tc := ⟨.hbm, 197, rfl⟩
abbrev main_while0b_v150 : Ref sig .tc := ⟨.hbm, 198, rfl⟩
abbrev main_while0b_v151 : Ref sig .tc := ⟨.hbm, 199, rfl⟩
abbrev main_while0b_v152 : Ref sig .tc := ⟨.hbm, 200, rfl⟩
abbrev main_while0b_v153 : Ref sig .tc := ⟨.hbm, 201, rfl⟩
abbrev main_while0b_v154 : Ref sig .tc := ⟨.hbm, 202, rfl⟩
abbrev main_while0b_cst_17 : Ref sig .tc := ⟨.hbm, 203, rfl⟩
abbrev main_while0b_v155 : Ref sig .tc := ⟨.hbm, 204, rfl⟩
abbrev main_while0b_v156 : Ref sig .tc := ⟨.hbm, 205, rfl⟩
abbrev main_while0b_v157 : Ref sig .tc := ⟨.hbm, 206, rfl⟩
abbrev main_while0b_v158 : Ref sig .tc := ⟨.hbm, 207, rfl⟩
abbrev main_while0b_v159 : Ref sig .tc := ⟨.hbm, 208, rfl⟩
abbrev main_while0b_v160 : Ref sig .tc := ⟨.hbm, 209, rfl⟩
abbrev main_while0b_v161 : Ref sig .tc := ⟨.hbm, 210, rfl⟩
abbrev main_while0b_v162 : Ref sig .tc := ⟨.hbm, 211, rfl⟩
abbrev main_while0b_v163 : Ref sig .tc := ⟨.hbm, 212, rfl⟩
abbrev main_while0b_v164 : Ref sig .tc := ⟨.hbm, 213, rfl⟩
abbrev main_while0b_v165 : Ref sig .tc := ⟨.hbm, 214, rfl⟩
abbrev main_while0b_v166 : Ref sig .tc := ⟨.hbm, 215, rfl⟩
abbrev main_while0b_v167 : Ref sig .tc := ⟨.hbm, 216, rfl⟩
abbrev main_while0b_v168 : Ref sig .tc := ⟨.hbm, 217, rfl⟩
abbrev main_while0b_v169 : Ref sig .tc := ⟨.hbm, 218, rfl⟩
abbrev main_while0b_v170 : Ref sig .tc := ⟨.hbm, 219, rfl⟩
abbrev main_while0b_v171 : Ref sig .tc := ⟨.hbm, 220, rfl⟩
abbrev main_while0b_v172 : Ref sig .tc := ⟨.hbm, 221, rfl⟩
abbrev main_while0b_cst_18 : Ref sig .tc := ⟨.hbm, 222, rfl⟩
abbrev main_while0b_v173 : Ref sig .tc := ⟨.hbm, 223, rfl⟩
abbrev main_while0b_v174 : Ref sig .tc := ⟨.hbm, 224, rfl⟩
abbrev main_while0b_v175 : Ref sig .tc := ⟨.hbm, 225, rfl⟩
abbrev main_while0b_v176 : Ref sig .tc := ⟨.hbm, 226, rfl⟩
abbrev main_while0b_v177 : Ref sig .tc := ⟨.hbm, 227, rfl⟩
abbrev main_while0b_v178 : Ref sig .tc := ⟨.hbm, 228, rfl⟩
abbrev main_while0b_v179 : Ref sig .tc := ⟨.hbm, 229, rfl⟩
abbrev main_while0b_v180 : Ref sig .tc := ⟨.hbm, 230, rfl⟩
abbrev main_while0b_v181 : Ref sig .tc := ⟨.hbm, 231, rfl⟩
abbrev main_while0b_v182 : Ref sig .tc := ⟨.hbm, 232, rfl⟩
abbrev main_while0b_v183 : Ref sig .tc := ⟨.hbm, 233, rfl⟩
abbrev main_while0b_v184 : Ref sig .tc := ⟨.hbm, 234, rfl⟩
abbrev main_while0b_v185 : Ref sig .tc := ⟨.hbm, 235, rfl⟩
abbrev main_while0b_v186 : Ref sig .tc := ⟨.hbm, 236, rfl⟩
abbrev main_while0b_v187 : Ref sig .tc := ⟨.hbm, 237, rfl⟩
abbrev main_while0b_v188 : Ref sig .tc := ⟨.hbm, 238, rfl⟩
abbrev main_while0b_v189 : Ref sig .tc := ⟨.hbm, 239, rfl⟩
abbrev main_while0b_v190 : Ref sig .tc := ⟨.hbm, 240, rfl⟩
abbrev main_while0b_v191 : Ref sig .tc := ⟨.hbm, 241, rfl⟩
abbrev main_while0b_v192 : Ref sig .tc := ⟨.hbm, 242, rfl⟩
abbrev main_while0b_cst_19 : Ref sig .tc := ⟨.hbm, 243, rfl⟩
abbrev main_while0b_v193 : Ref sig .tc := ⟨.hbm, 244, rfl⟩
abbrev main_while0b_v194 : Ref sig .tc := ⟨.hbm, 245, rfl⟩
abbrev main_while0b_call8_v0 : Ref sig .tc := ⟨.hbm, 246, rfl⟩
abbrev main_while0b_call8_c : Ref sig .tc := ⟨.hbm, 247, rfl⟩
abbrev main_while0b_call8_c_0 : Ref sig .tc := ⟨.hbm, 248, rfl⟩
abbrev main_while0b_call8_c_1 : Ref sig .tc := ⟨.hbm, 249, rfl⟩
abbrev main_while0b_call8_c_2 : Ref sig .tc := ⟨.hbm, 250, rfl⟩
abbrev main_while0b_call8_c_3 : Ref sig .tc := ⟨.hbm, 251, rfl⟩
abbrev main_while0b_v195 : Ref sig .tc := ⟨.hbm, 252, rfl⟩
abbrev main_while0b_c_20 : Ref sig .tc := ⟨.hbm, 253, rfl⟩
abbrev main_while0b_v196 : Ref sig .tc := ⟨.hbm, 254, rfl⟩
abbrev main_v88 : Ref sig .tc := ⟨.hbm, 255, rfl⟩
abbrev main_v89 : Ref sig .tc := ⟨.hbm, 256, rfl⟩
abbrev main_v90 : Ref sig .tc := ⟨.hbm, 257, rfl⟩
abbrev main_v91 : Ref sig .tc := ⟨.hbm, 258, rfl⟩
abbrev main_v92 : Ref sig .tc := ⟨.hbm, 259, rfl⟩
abbrev main_v93 : Ref sig .tc := ⟨.hbm, 260, rfl⟩
abbrev main_v94 : Ref sig .tc := ⟨.hbm, 261, rfl⟩
abbrev main_v95 : Ref sig .tc := ⟨.hbm, 262, rfl⟩
abbrev main_v96 : Ref sig .tc := ⟨.hbm, 263, rfl⟩
abbrev main_v97 : Ref sig .tc := ⟨.hbm, 264, rfl⟩
abbrev main_v98 : Ref sig .tc := ⟨.hbm, 265, rfl⟩
abbrev main_v99 : Ref sig .tc := ⟨.hbm, 266, rfl⟩
abbrev main_v100 : Ref sig .tc := ⟨.hbm, 267, rfl⟩
abbrev main_v101 : Ref sig .tc := ⟨.hbm, 268, rfl⟩
abbrev main_v102 : Ref sig .tc := ⟨.hbm, 269, rfl⟩
abbrev main_v103 : Ref sig .tc := ⟨.hbm, 270, rfl⟩
abbrev main_v104 : Ref sig .tc := ⟨.hbm, 271, rfl⟩
abbrev main_v105 : Ref sig .tc := ⟨.hbm, 272, rfl⟩
abbrev main_v106 : Ref sig .tc := ⟨.hbm, 273, rfl⟩
abbrev main_v107 : Ref sig .tc := ⟨.hbm, 274, rfl⟩
abbrev main_v108 : Ref sig .tc := ⟨.hbm, 275, rfl⟩
abbrev main_v109 : Ref sig .tc := ⟨.hbm, 276, rfl⟩
abbrev main_v110 : Ref sig .tc := ⟨.hbm, 277, rfl⟩
abbrev main_v111 : Ref sig .tc := ⟨.hbm, 278, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S33792x1024 : Shape := ⟨2, ![33792, 1024]⟩
abbrev S8x6x1024 : Shape := ⟨3, ![8, 6, 1024]⟩
abbrev S1024 : Shape := ⟨1, ![1024]⟩
abbrev S1024x5632 : Shape := ⟨2, ![1024, 5632]⟩
abbrev S3x3x2816 : Shape := ⟨3, ![3, 3, 2816]⟩
abbrev S2816 : Shape := ⟨1, ![2816]⟩
abbrev S2816x1024 : Shape := ⟨2, ![2816, 1024]⟩
abbrev S9x2816 : Shape := ⟨2, ![9, 2816]⟩
abbrev S1x2816 : Shape := ⟨2, ![1, 2816]⟩
abbrev S1x1024 : Shape := ⟨2, ![1, 1024]⟩
abbrev S32768x1024 : Shape := ⟨2, ![32768, 1024]⟩
abbrev S1024x1024 : Shape := ⟨2, ![1024, 1024]⟩
abbrev S64x1024 : Shape := ⟨2, ![64, 1024]⟩
abbrev S1x6x1024 : Shape := ⟨3, ![1, 6, 1024]⟩
abbrev S1152x1024 : Shape := ⟨2, ![1152, 1024]⟩
abbrev S2x1152x256 : Shape := ⟨3, ![2, 1152, 256]⟩
abbrev S1024x2816 : Shape := ⟨2, ![1024, 2816]⟩
abbrev S1152x256 : Shape := ⟨2, ![1152, 256]⟩
abbrev S1x1x1024 : Shape := ⟨3, ![1, 1, 1024]⟩
abbrev S1024x1 : Shape := ⟨2, ![1024, 1]⟩
abbrev S64 : Shape := ⟨1, ![64]⟩
abbrev S64x1 : Shape := ⟨2, ![64, 1]⟩
abbrev S1024x256 : Shape := ⟨2, ![1024, 256]⟩
abbrev S1x1152x256 : Shape := ⟨3, ![1, 1152, 256]⟩
abbrev S9x256 : Shape := ⟨2, ![9, 256]⟩
abbrev S1x256 : Shape := ⟨2, ![1, 256]⟩

abbrev nBuf : Space → Nat
  | .hbm => 15
  | .vmem => 21
  | .smem => 0
  | _ => 0

abbrev bufTy : (tb : Table) → Fin (tcTables nBuf tb) → BufTy
  | .hbm, ⟨0, _⟩ => ⟨S33792x1024, .f32⟩
  | .hbm, ⟨1, _⟩ => ⟨S8x6x1024, .f32⟩
  | .hbm, ⟨2, _⟩ => ⟨S1024, .f32⟩
  | .hbm, ⟨3, _⟩ => ⟨S1024x5632, .f32⟩
  | .hbm, ⟨4, _⟩ => ⟨S3x3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024x5632, .bf16⟩
  | .hbm, ⟨9, _⟩ => ⟨S9x2816, .f32⟩
  | .hbm, ⟨10, _⟩ => ⟨S1x2816, .f32⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S1024x5632, .bf16⟩
  | .local _ .vmem, ⟨10, _⟩ => ⟨S9x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1152x1024, .bf16⟩
  | .local _ .vmem, ⟨17, _⟩ => ⟨S2x1152x256, .f32⟩
  | .local _ .vmem, ⟨18, _⟩ => ⟨S1024x2816, .bf16⟩
  | .local _ .vmem, ⟨19, _⟩ => ⟨S1152x256, .f32⟩
  | .local _ .vmem, ⟨20, _⟩ => ⟨S1152x256, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "gelu_c_cube" => some ((80338380498831 / 2251799813685248 : ℝ) : EReal)
  | _ => none
-- ==== Reference2Ideal.lean ====
abbrev S33792x1024 : Shape := ⟨2, ![33792, 1024]⟩
abbrev S8x6x1024 : Shape := ⟨3, ![8, 6, 1024]⟩
abbrev S1024 : Shape := ⟨1, ![1024]⟩
abbrev S1024x5632 : Shape := ⟨2, ![1024, 5632]⟩
abbrev S3x3x2816 : Shape := ⟨3, ![3, 3, 2816]⟩
abbrev S2816 : Shape := ⟨1, ![2816]⟩
abbrev S2816x1024 : Shape := ⟨2, ![2816, 1024]⟩
abbrev S32768x1024 : Shape := ⟨2, ![32768, 1024]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x128x64x2816 : Shape := ⟨4, ![4, 128, 64, 2816]⟩
abbrev S4x130x66x2816 : Shape := ⟨4, ![4, 130, 66, 2816]⟩
abbrev S1x1x2816 : Shape := ⟨3, ![1, 1, 2816]⟩
abbrev S1x1x1x2816 : Shape := ⟨4, ![1, 1, 1, 2816]⟩

abbrev nBuf : Space → Nat
  | .hbm => 159
  | .vmem => 0
  | .smem => 0
  | _ => 0

abbrev hbmTy0_0 (i : Nat) : BufTy := match i % 128 with
  | 0 => ⟨S33792x1024, .f32⟩
  | 1 => ⟨S8x6x1024, .f32⟩
  | 2 => ⟨S1024, .f32⟩
  | 3 => ⟨S1024x5632, .f32⟩
  | 4 => ⟨S3x3x2816, .f32⟩
  | 5 => ⟨S2816, .f32⟩
  | 6 => ⟨S2816x1024, .f32⟩
  | 7 => ⟨S1024, .f32⟩
  | 8 => ⟨S32768x1024, .f32⟩
  | 9 => ⟨S4x8192x1024, .f32⟩
  | 10 => ⟨S32768x1024, .f32⟩
  | 11 => ⟨S4x8192x1024, .f32⟩
  | 12 => ⟨S4x1x1024, .f32⟩
  | 13 => ⟨S4x1024, .f32⟩
  | 14 => ⟨S4x1x1024, .f32⟩
  | 15 => ⟨S4x1x1024, .f32⟩
  | 16 => ⟨S4x1024, .f32⟩
  | 17 => ⟨S4x1x1024, .f32⟩
  | 18 => ⟨S4x8192x1024, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S_, .f32⟩
  | 35 => ⟨S4x1x1024, .f32⟩
  | 36 => ⟨S4x1x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S4x8192x5632, .f32⟩
  | 42 => ⟨S4x8192x2816, .f32⟩
  | 43 => ⟨S4x8192x2816, .f32⟩
  | 44 => ⟨S4x128x64x2816, .f32⟩
  | 45 => ⟨S_, .i32⟩
  | 46 => ⟨S_, .f32⟩
  | 47 => ⟨S4x130x66x2816, .f32⟩
  | 48 => ⟨S4x128x64x2816, .f32⟩
  | 49 => ⟨S1x1x2816, .f32⟩
  | 50 => ⟨S2816, .f32⟩
  | 51 => ⟨S1x1x1x2816, .f32⟩
  | 52 => ⟨S4x128x64x2816, .f32⟩
  | 53 => ⟨S4x128x64x2816, .f32⟩
  | 54 => ⟨S_, .f32⟩
  | 55 => ⟨S4x128x64x2816, .f32⟩
  | 56 => ⟨S4x128x64x2816, .f32⟩
  | 57 => ⟨S4x128x64x2816, .f32⟩
  | 58 => ⟨S1x1x2816, .f32⟩
  | 59 => ⟨S2816, .f32⟩
  | 60 => ⟨S1x1x1x2816, .f32⟩
  | 61 => ⟨S4x128x64x2816, .f32⟩
  | 62 => ⟨S4x128x64x2816, .f32⟩
  | 63 => ⟨S4x128x64x2816, .f32⟩
  | 64 => ⟨S4x128x64x2816, .f32⟩
  | 65 => ⟨S1x1x2816, .f32⟩
  | 66 => ⟨S2816, .f32⟩
  | 67 => ⟨S1x1x1x2816, .f32⟩
  | 68 => ⟨S4x128x64x2816, .f32⟩
  | 69 => ⟨S4x128x64x2816, .f32⟩
  | 70 => ⟨S4x128x64x2816, .f32⟩
  | 71 => ⟨S4x128x64x2816, .f32⟩
  | 72 => ⟨S1x1x2816, .f32⟩
  | 73 => ⟨S2816, .f32⟩
  | 74 => ⟨S1x1x1x2816, .f32⟩
  | 75 => ⟨S4x128x64x2816, .f32⟩
  | 76 => ⟨S4x128x64x2816, .f32⟩
  | 77 => ⟨S4x128x64x2816, .f32⟩
  | 78 => ⟨S4x128x64x2816, .f32⟩
  | 79 => ⟨S1x1x2816, .f32⟩
  | 80 => ⟨S2816, .f32⟩
  | 81 => ⟨S1x1x1x2816, .f32⟩
  | 82 => ⟨S4x128x64x2816, .f32⟩
  | 83 => ⟨S4x128x64x2816, .f32⟩
  | 84 => ⟨S4x128x64x2816, .f32⟩
  | 85 => ⟨S4x128x64x2816, .f32⟩
  | 86 => ⟨S1x1x2816, .f32⟩
  | 87 => ⟨S2816, .f32⟩
  | 88 => ⟨S1x1x1x2816, .f32⟩
  | 89 => ⟨S4x128x64x2816, .f32⟩
  | 90 => ⟨S4x128x64x2816, .f32⟩
  | 91 => ⟨S4x128x64x2816, .f32⟩
  | 92 => ⟨S4x128x64x2816, .f32⟩
  | 93 => ⟨S1x1x2816, .f32⟩
  | 94 => ⟨S2816, .f32⟩
  | 95 => ⟨S1x1x1x2816, .f32⟩
  | 96 => ⟨S4x128x64x2816, .f32⟩
  | 97 => ⟨S4x128x64x2816, .f32⟩
  | 98 => ⟨S4x128x64x2816, .f32⟩
  | 99 => ⟨S4x128x64x2816, .f32⟩
  | 100 => ⟨S1x1x2816, .f32⟩
  | 101 => ⟨S2816, .f32⟩
  | 102 => ⟨S1x1x1x2816, .f32⟩
  | 103 => ⟨S4x128x64x2816, .f32⟩
  | 104 => ⟨S4x128x64x2816, .f32⟩
  | 105 => ⟨S4x128x64x2816, .f32⟩
  | 106 => ⟨S4x128x64x2816, .f32⟩
  | 107 => ⟨S1x1x2816, .f32⟩
  | 108 => ⟨S2816, .f32⟩
  | 109 => ⟨S1x1x1x2816, .f32⟩
  | 110 => ⟨S4x128x64x2816, .f32⟩
  | 111 => ⟨S4x128x64x2816, .f32⟩
  | 112 => ⟨S4x128x64x2816, .f32⟩
  | 113 => ⟨S4x8192x2816, .f32⟩
  | 114 => ⟨S1x1x2816, .f32⟩
  | 115 => ⟨S4x8192x2816, .f32⟩
  | 116 => ⟨S4x8192x2816, .f32⟩
  | 117 => ⟨S4x8192x2816, .f32⟩
  | 118 => ⟨S4x8192x2816, .f32⟩
  | 119 => ⟨S_, .f32⟩
  | 120 => ⟨S4x8192x2816, .f32⟩
  | 121 => ⟨S4x8192x2816, .f32⟩
  | 122 => ⟨S4x8192x2816, .f32⟩
  | 123 => ⟨S_, .f32⟩
  | 124 => ⟨S4x8192x2816, .f32⟩
  | 125 => ⟨S4x8192x2816, .f32⟩
  | 126 => ⟨S4x8192x2816, .f32⟩
  | 127 => ⟨S_, .f32⟩
  | _ => ⟨S33792x1024, .f32⟩

abbrev hbmTy0_1 (i : Nat) : BufTy := match i % 128 with
  | 0 => ⟨S4x8192x2816, .f32⟩
  | 1 => ⟨S4x8192x2816, .f32⟩
  | 2 => ⟨S_, .f32⟩
  | 3 => ⟨S4x8192x2816, .f32⟩
  | 4 => ⟨S4x8192x2816, .f32⟩
  | 5 => ⟨S4x8192x2816, .f32⟩
  | 6 => ⟨S4x8192x2816, .f32⟩
  | 7 => ⟨S4x8192x1024, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S4x1x1024, .f32⟩
  | 25 => ⟨S4x1024, .f32⟩
  | 26 => ⟨S4x1x1024, .f32⟩
  | 27 => ⟨S4x8192x1024, .f32⟩
  | 28 => ⟨S4x8192x1024, .f32⟩
  | 29 => ⟨S4x8192x1024, .f32⟩
  | 30 => ⟨S32768x1024, .f32⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_4 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_5 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_6 : Ref sig .tc := ⟨.hbm, 127, rfl⟩
abbrev main_v110 : Ref sig .tc := ⟨.hbm, 128, rfl⟩
abbrev main_v111 : Ref sig .tc := ⟨.hbm, 129, rfl⟩
abbrev main_cst_7 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_8 : Ref sig .tc := ⟨.hbm, 137, rfl⟩
abbrev main_v118 : Ref sig .tc := ⟨.hbm, 138, rfl⟩
abbrev main_v119 : Ref sig .tc := ⟨.hbm, 139, rfl⟩
abbrev main_cst_9 : Ref sig .tc := ⟨.hbm, 140, rfl⟩
abbrev main_v120 : Ref sig .tc := ⟨.hbm, 141, rfl⟩
abbrev main_v121 : Ref sig .tc := ⟨.hbm, 142, rfl⟩
abbrev main_cst_10 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S8x6x1024 : Shape := ⟨3, ![8, 6, 1024]⟩
abbrev S1024 : Shape := ⟨1, ![1024]⟩
abbrev S1024x2944 : Shape := ⟨2, ![1024, 2944]⟩
abbrev S32768x1024 : Shape := ⟨2, ![32768, 1024]⟩
abbrev S1024x1024 : Shape := ⟨2, ![1024, 1024]⟩
abbrev S1x1024 : Shape := ⟨2, ![1, 1024]⟩
abbrev S33792x1024 : Shape := ⟨2, ![33792, 1024]⟩
abbrev S33792x1536 : Shape := ⟨2, ![33792, 1536]⟩
abbrev S33792x384 : Shape := ⟨2, ![33792, 384]⟩
abbrev S1x6x1024 : Shape := ⟨3, ![1, 6, 1024]⟩
abbrev S1024x1536 : Shape := ⟨2, ![1024, 1536]⟩
abbrev S1024x384 : Shape := ⟨2, ![1024, 384]⟩
abbrev S1024x1 : Shape := ⟨2, ![1024, 1]⟩
abbrev S1x1x1024 : Shape := ⟨3, ![1, 1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S8x6x1024, .f32⟩
  | .hbm, ⟨3, _⟩ => ⟨S1024, .f32⟩
  | .hbm, ⟨4, _⟩ => ⟨S1024x2944, .f32⟩
  | .hbm, ⟨5, _⟩ => ⟨S32768x1024, .f32⟩
  | .hbm, ⟨6, _⟩ => ⟨S1024x1024, .f32⟩
  | .hbm, ⟨7, _⟩ => ⟨S1024x2944, .bf16⟩
  | .hbm, ⟨8, _⟩ => ⟨S1x1024, .f32⟩
  | .hbm, ⟨9, _⟩ => ⟨S33792x1024, .bf16⟩
  | .hbm, ⟨10, _⟩ => ⟨S33792x1536, .bf16⟩
  | .hbm, ⟨11, _⟩ => ⟨S33792x384, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x2944, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1536, .bf16⟩
  | .local _ .vmem, ⟨11, _⟩ => ⟨S1024x1536, .bf16⟩
  | .local _ .vmem, ⟨12, _⟩ => ⟨S1024x384, .bf16⟩
  | .local _ .vmem, ⟨13, _⟩ => ⟨S1024x384, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x256x1024 : Shape := ⟨3, ![4, 256, 1024]⟩
abbrev S8x6x1024 : Shape := ⟨3, ![8, 6, 1024]⟩
abbrev S1024 : Shape := ⟨1, ![1024]⟩
abbrev S1024x2944 : Shape := ⟨2, ![1024, 2944]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8192x2944 : Shape := ⟨3, ![4, 8192, 2944]⟩
abbrev S4x256 : Shape := ⟨2, ![4, 256]⟩
abbrev S4x256x1 : Shape := ⟨3, ![4, 256, 1]⟩
abbrev S4x256x2944 : Shape := ⟨3, ![4, 256, 2944]⟩
abbrev S32768x2944 : Shape := ⟨2, ![32768, 2944]⟩
abbrev S33792x2944 : Shape := ⟨2, ![33792, 2944]⟩
abbrev S33792x1024 : Shape := ⟨2, ![33792, 1024]⟩
abbrev S33792x1536 : Shape := ⟨2, ![33792, 1536]⟩
abbrev S33792x384 : Shape := ⟨2, ![33792, 384]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S8x6x1024, .f32⟩
  | .hbm, ⟨3, _⟩ => ⟨S1024, .f32⟩
  | .hbm, ⟨4, _⟩ => ⟨S1024x2944, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x2944, .f32⟩
  | .hbm, ⟨35, _⟩ => ⟨S4x256x1024, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x1024, .f32⟩
  | .hbm, ⟨47, _⟩ => ⟨S4x256x1024, .f32⟩
  | .hbm, ⟨48, _⟩ => ⟨S1x1x1024, .f32⟩
  | .hbm, ⟨49, _⟩ => ⟨S4x256x1024, .f32⟩
  | .hbm, ⟨50, _⟩ => ⟨S4x256x1024, .f32⟩
  | .hbm, ⟨51, _⟩ => ⟨S1x1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1x1024, .f32⟩
  | .hbm, ⟨57, _⟩ => ⟨S4x256x1024, .f32⟩
  | .hbm, ⟨58, _⟩ => ⟨S4x256x1024, .f32⟩
  | .hbm, ⟨59, _⟩ => ⟨S1x1x1024, .f32⟩
  | .hbm, ⟨60, _⟩ => ⟨S1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S4x256x2944, .f32⟩
  | .hbm, ⟨65, _⟩ => ⟨S32768x2944, .f32⟩
  | .hbm, ⟨66, _⟩ => ⟨S1024x2944, .f32⟩
  | .hbm, ⟨67, _⟩ => ⟨S33792x2944, .f32⟩
  | .hbm, ⟨68, _⟩ => ⟨S33792x2944, .bf16⟩
  | .hbm, ⟨69, _⟩ => ⟨S33792x1024, .bf16⟩
  | .hbm, ⟨70, _⟩ => ⟨S33792x1536, .bf16⟩
  | .hbm, ⟨71, _⟩ => ⟨S33792x384, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel4.lean ====
abbrev S33792x1024 : Shape := ⟨2, ![33792, 1024]⟩
abbrev S8x6x1024 : Shape := ⟨3, ![8, 6, 1024]⟩
abbrev S1024 : Shape := ⟨1, ![1024]⟩
abbrev S1024x2064 : Shape := ⟨2, ![1024, 2064]⟩
abbrev S_ : Shape := ⟨0, ![]⟩
abbrev S1024x112 : Shape := ⟨2, ![1024, 112]⟩
abbrev S1024x2176 : Shape := ⟨2, ![1024, 2176]⟩
abbrev S1x1024 : Shape := ⟨2, ![1, 1024]⟩
abbrev S33792x128 : Shape := ⟨2, ![33792, 128]⟩
abbrev S1024x1024 : Shape := ⟨2, ![1024, 1024]⟩
abbrev S1x6x1024 : Shape := ⟨3, ![1, 6, 1024]⟩
abbrev S1024x128 : Shape := ⟨2, ![1024, 128]⟩
abbrev S1024x1 : Shape := ⟨2, ![1024, 1]⟩
abbrev S1x1x1024 : Shape := ⟨3, ![1, 1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S33792x1024, .f32⟩
  | .hbm, ⟨1, _⟩ => ⟨S8x6x1024, .f32⟩
  | .hbm, ⟨2, _⟩ => ⟨S1024, .f32⟩
  | .hbm, ⟨3, _⟩ => ⟨S1024x2064, .f32⟩
  | .hbm, ⟨4, _⟩ => ⟨S_, .f32⟩
  | .hbm, ⟨5, _⟩ => ⟨S1024x112, .f32⟩
  | .hbm, ⟨6, _⟩ => ⟨S1024x2176, .f32⟩
  | .hbm, ⟨7, _⟩ => ⟨S1024x2176, .bf16⟩
  | .hbm, ⟨8, _⟩ => ⟨S1x1024, .f32⟩
  | .hbm, ⟨9, _⟩ => ⟨S33792x1024, .bf16⟩
  | .hbm, ⟨10, _⟩ => ⟨S33792x1024, .bf16⟩
  | .hbm, ⟨11, _⟩ => ⟨S33792x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x2176, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c32_i32_0 : BitVec 32 := 32#32
  let v2 : BitVec 32 := Scalar.addi v1 c32_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S33792x1024 : Shape := ⟨2, ![33792, 1024]⟩
abbrev S8x6x1024 : Shape := ⟨3, ![8, 6, 1024]⟩
abbrev S1024 : Shape := ⟨1, ![1024]⟩
abbrev S1024x2064 : Shape := ⟨2, ![1024, 2064]⟩
abbrev S32768x1024 : Shape := ⟨2, ![32768, 1024]⟩
abbrev S4x8192x1024 : Shape := ⟨3, ![4, 8192, 1024]⟩
abbrev S1024x1024 : Shape := ⟨2, ![1024, 1024]⟩
abbrev S4x256x1024 : Shape := ⟨3, ![4, 256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x1024 : Shape := ⟨2, ![4, 1024]⟩
abbrev S4x8192x2064 : Shape := ⟨3, ![4, 8192, 2064]⟩
abbrev S4x256 : Shape := ⟨2, ![4, 256]⟩
abbrev S4x256x1 : Shape := ⟨3, ![4, 256, 1]⟩
abbrev S4x256x2064 : Shape := ⟨3, ![4, 256, 2064]⟩
abbrev S32768x2064 : Shape := ⟨2, ![32768, 2064]⟩
abbrev S33792x2064 : Shape := ⟨2, ![33792, 2064]⟩
abbrev S33792x16 : Shape := ⟨2, ![33792, 16]⟩
abbrev S33792x128 : Shape := ⟨2, ![33792, 128]⟩

abbrev nBuf : Space → Nat
  | .hbm => 79
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x6x1024, .f32⟩
  | .hbm, ⟨2, _⟩ => ⟨S1024, .f32⟩
  | .hbm, ⟨3, _⟩ => ⟨S1024x2064, .f32⟩
  | .hbm, ⟨4, _⟩ => ⟨S32768x1024, .f32⟩
  | .hbm, ⟨5, _⟩ => ⟨S4x8192x1024, .f32⟩
  | .hbm, ⟨6, _⟩ => ⟨S1024x1024, .f32⟩
  | .hbm, ⟨7, _⟩ => ⟨S4x256x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S4x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S4x8192x2064, .f32⟩
  | .hbm, ⟨38, _⟩ => ⟨S4x256x1024, .f32⟩
  | .hbm, ⟨39, _⟩ => ⟨S_, .f32⟩
  | .hbm, ⟨40, _⟩ => ⟨S4x256, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S4x256x1, .f32⟩
  | .hbm, ⟨49, _⟩ => ⟨S4x256x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S1x1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1x1024, .f32⟩
  | .hbm, ⟨60, _⟩ => ⟨S4x256x1024, .f32⟩
  | .hbm, ⟨61, _⟩ => ⟨S4x256x1024, .f32⟩
  | .hbm, ⟨62, _⟩ => ⟨S1x1x1024, .f32⟩
  | .hbm, ⟨63, _⟩ => ⟨S1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S4x256x2064, .f32⟩
  | .hbm, ⟨68, _⟩ => ⟨S32768x2064, .f32⟩
  | .hbm, ⟨69, _⟩ => ⟨S1024x2064, .f32⟩
  | .hbm, ⟨70, _⟩ => ⟨S33792x2064, .f32⟩
  | .hbm, ⟨71, _⟩ => ⟨S33792x1024, .f32⟩
  | .hbm, ⟨72, _⟩ => ⟨S33792x1024, .bf16⟩
  | .hbm, ⟨73, _⟩ => ⟨S33792x1024, .f32⟩
  | .hbm, ⟨74, _⟩ => ⟨S33792x1024, .bf16⟩
  | .hbm, ⟨75, _⟩ => ⟨S33792x16, .f32⟩
  | .hbm, ⟨76, _⟩ => ⟨S_, .i32⟩
  | .hbm, ⟨77, _⟩ => ⟨S_, .f32⟩
  | .hbm, ⟨78, _⟩ => ⟨S33792x128, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c : Ref sig .tc := ⟨.hbm, 76, rfl⟩
abbrev main_call0_v0 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.Trips.lean ====
/-
  The reference's run stated by the step of its loop: at a valuation that holds a state, one trip of the run's valuation
  holds the stepped state, so the two results are read off the 66th state of the sequence that starts at the initial
  state and goes on by the step.
-/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The valuation holds the state, the mask the loop reads and the trip's number. -/
structure Holds (V0 : Valuation τ sig (Elt F)) (s : State F) (j : ℕ) : Prop where
  f_7 : V0 (Proc.devRef .tc main_v87_7) = s.main_v87_7
  f_8 : V0 (Proc.devRef .tc main_v87_8) = s.main_v87_8
  f_9 : V0 (Proc.devRef .tc main_v87_9) = s.main_v87_9
  f_10 : V0 (Proc.devRef .tc main_v87_10) = s.main_v87_10
  f_0 : V0 (Proc.devRef .tc main_v87_0) = s.main_v87_0
  f_1 : V0 (Proc.devRef .tc main_v87_1) = s.main_v87_1
  f_2 : V0 (Proc.devRef .tc main_v87_2) = s.main_v87_2
  f_3 : V0 (Proc.devRef .tc main_v87_3) = s.main_v87_3
  f_4 : V0 (Proc.devRef .tc main_v87_4) = s.main_v87_4
  n_6 : V0 (Proc.devRef .tc main_v87_6) = constantI S_ 32 (BitVec.ofNat 32 j)
  k_5 : V0 (Proc.devRef .tc main_v87_5) = Step.K_main_v82 (F := F)

variable {V0 : Valuation τ sig (Elt F)} {s : State F} {j : ℕ}

set_option maxRecDepth 8192

/-- One trip's queries. -/
theorem r_112 (h : Holds V0 s j) : res_main_while0b_v112 V0 = Step.b6 j s := by
  unfold res_main_while0b_v112
  rw [h.f_0, h.n_6]
  rfl

/-- One trip's keys. -/
theorem r_113 (h : Holds V0 s j) : res_main_while0b_v113 V0 = Step.b13 j s := by
  unfold res_main_while0b_v113
  rw [h.f_1, h.n_6]
  rfl

/-- One trip's values. -/
theorem r_114 (h : Holds V0 s j) : res_main_while0b_v114 V0 = Step.b20 j s := by
  unfold res_main_while0b_v114
  rw [h.f_2, h.n_6]
  rfl

/-- One trip's input gates. -/
theorem r_115 (h : Holds V0 s j) : res_main_while0b_v115 V0 = Step.b26 j s := by
  unfold res_main_while0b_v115
  rw [h.f_3, h.n_6]
  rfl

/-- One trip's forget gates before the sigmoid. -/
theorem r_116 (h : Holds V0 s j) : res_main_while0b_v116 V0 = Step.b32 j s := by
  unfold res_main_while0b_v116
  rw [h.f_4, h.n_6]
  rfl

/-- One trip's running sums. -/
theorem r_126 (h : Holds V0 s j) : res_main_while0b_v126 V0 = Step.b45 j s := by
  unfold res_main_while0b_v126
  rw [r_116 h]
  rfl

/-- One trip's logarithms of the weights. -/
theorem r_135 (h : Holds V0 s j) : res_main_while0b_v135 V0 = Step.b58 j s := by
  unfold res_main_while0b_v135
  rw [r_126 h, r_115 h, h.k_5]
  rfl

/-- One trip's logarithms of the state's weights. -/
theorem r_138 (h : Holds V0 s j) : res_main_while0b_v138 V0 = Step.b61 j s := by
  unfold res_main_while0b_v138
  rw [r_126 h, h.f_9]
  rfl

/-- One trip's stabilisers. -/
theorem r_140 (h : Holds V0 s j) : res_main_while0b_v140 V0 = Step.b64 j s := by
  unfold res_main_while0b_v140
  rw [r_138 h, r_135 h]
  rfl

/-- One trip's weighted products. -/
theorem r_146 (h : Holds V0 s j) : res_main_while0b_v146 V0 = Step.b70 j s := by
  unfold res_main_while0b_v146
  rw [r_112 h, r_113 h, r_135 h, r_140 h]
  rfl

/-- One trip's state's weights. -/
theorem r_148 (h : Holds V0 s j) : res_main_while0b_v148 V0 = Step.b72 j s := by
  unfold res_main_while0b_v148
  rw [r_138 h, r_140 h]
  rfl

/-- One trip's last running sum. -/
theorem r_167 (h : Holds V0 s j) : res_main_while0b_v167 V0 = Step.b92 j s := by
  unfold res_main_while0b_v167
  rw [r_126 h]
  rfl

/-- One trip's logarithms of the weights in the next state. -/
theorem r_171 (h : Holds V0 s j) : res_main_while0b_v171 V0 = Step.b96 j s := by
  unfold res_main_while0b_v171
  rw [r_167 h, r_126 h, r_115 h]
  rfl

/-- One trip's next stabiliser. -/
theorem r_174 (h : Holds V0 s j) : res_main_while0b_v174 V0 = Step.b100 j s := by
  unfold res_main_while0b_v174
  rw [r_167 h, r_171 h, h.f_9]
  rfl

/-- One trip's state's weight in the next state. -/
theorem r_177 (h : Holds V0 s j) : res_main_while0b_v177 V0 = Step.b103 j s := by
  unfold res_main_while0b_v177
  rw [r_167 h, r_174 h, h.f_9]
  rfl

/-- One trip's weighted keys. -/
theorem r_184 (h : Holds V0 s j) : res_main_while0b_v184 V0 = Step.b110 j s := by
  unfold res_main_while0b_v184
  rw [r_113 h, r_171 h, r_174 h]
  rfl

theorem s_7 (h : Holds V0 s j) : step_main_v87_7 V0 = (step j s).main_v87_7 := by
  unfold step_main_v87_7
  rw [r_177 h, r_114 h, r_184 h, h.f_7]
  rfl

theorem s_8 (h : Holds V0 s j) : step_main_v87_8 V0 = (step j s).main_v87_8 := by
  unfold step_main_v87_8
  rw [r_177 h, r_184 h, h.f_8]
  rfl

theorem s_9 (h : Holds V0 s j) : step_main_v87_9 V0 = (step j s).main_v87_9 := by
  unfold step_main_v87_9
  rw [r_174 h]
  rfl

theorem s_10 (h : Holds V0 s j) : step_main_v87_10 V0 = (step j s).main_v87_10 := by
  unfold step_main_v87_10
  rw [r_146 h, r_114 h, r_148 h, r_112 h, r_140 h, h.f_10, h.f_7, h.f_8, h.n_6]
  rfl

theorem s_6 (h : Holds V0 s j) : step_main_v87_6 V0 = constantI S_ 32 (BitVec.ofNat 32 (j + 1)) := by
  unfold step_main_v87_6
  rw [h.n_6]
  exact funext fun _ => (BitVec.ofNat_add j 1).symm

/-- One trip keeps the valuation holding the state. -/
theorem Holds.trip (h : Holds V0 s j) : Holds (STEP V0) (step j s) (j + 1) where
  f_7 := (STEP_main_v87_7 V0).trans (s_7 h)
  f_8 := (STEP_main_v87_8 V0).trans (s_8 h)
  f_9 := (STEP_main_v87_9 V0).trans (s_9 h)
  f_10 := (STEP_main_v87_10 V0).trans (s_10 h)
  n_6 := (STEP_main_v87_6 V0).trans (s_6 h)
  k_5 := (STEP_main_v87_5 V0).trans h.k_5
  f_0 := (STEP_main_v87_0 V0).trans h.f_0
  f_1 := (STEP_main_v87_1 V0).trans h.f_1
  f_2 := (STEP_main_v87_2 V0).trans h.f_2
  f_3 := (STEP_main_v87_3 V0).trans h.f_3
  f_4 := (STEP_main_v87_4 V0).trans h.f_4

theorem Holds.out_99 (h : Holds V0 s j) : out_main_v99 V0 = Step.R_main_v99 s := by
  unfold out_main_v99 Step.R_main_v99
  rw [h.f_10]

theorem Holds.out_111 (h : Holds V0 s j) : out_main_v111 V0 = Step.R_main_v111 s := by
  unfold out_main_v111 Step.R_main_v111
  rw [h.f_10]

variable (m : (ℓ : Loc nD τ sig) → Buf (Elt F) ℓ) (c : Dev nD)

/-- The state of the first trip, of the arguments the run starts from. -/
abbrev start : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The states of the trips. -/
def iter : ℕ → State F
  | 0 => start m c
  | n + 1 => step n (iter n)

set_option maxRecDepth 65536 in
set_option maxHeartbeats 1200000 in
/-- The operations before the loop leave the initial state. -/
theorem entry : Holds (entryContents preI m c) (start m c) 0 := by
  constructor <;> (simp only [entryContents, afterL_cons, afterL_nil]; after_reads_simp) <;> rfl

theorem holds_iter : ∀ k, Holds (STEP^[k] (entryContents preI m c)) (iter m c k) k
  | 0 => entry m c
  | k + 1 => by
    rw [Function.iterate_succ_apply']
    exact (holds_iter k).trip

/-- Every execution of the reference ends with its two results read off the state after 66 trips, its arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v99) = Step.R_main_v99 (iter m c 66)
      ∧ r.2.mem ((c.tc : Thread nD τ).loc main_v111) = Step.R_main_v111 (iter m c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c 66
    ⟨(h c).1.trans hk.out_99, (h c).2.1.trans hk.out_111, (h c).2.2⟩) (Value.run m ρ)

end Cert.ReferenceIdeal.Trips

end
-- ==== Proof.Spec.lean ====
/-
  One chunk of the stabilised matrix-memory recurrence over the extended reals, for one direction, sample and
  head: from 128 positions' queries, keys, values, input gates and log forget gates and the state (matrix C,
  vector n, stabiliser m), the outputs of the positions and the next state. Both programs are read as this.
-/
module

public import Idealize.ShloMosaic.PureOps.Ideal
public import Idealize.ShloMosaic.PureOps.Ideal.Laws
public import Idealize.ShloMosaic.Lib.IdealHost
public import Mathlib.Data.EReal.Operations
public import Mathlib.Data.EReal.Inv

@[expose] public section

noncomputable section

namespace Cert.Mlstm

open Idealize.ShloMosaic

/-- A chunk's rows: queries, keys, values, input gates and logarithms of the forget gates. -/
structure Dat where
  q : Fin 128 → Fin 256 → EReal
  k : Fin 128 → Fin 256 → EReal
  v : Fin 128 → Fin 256 → EReal
  li : Fin 128 → EReal
  lf : Fin 128 → EReal

/-- The state a chunk hands the next: matrix, vector, stabiliser. -/
structure Sta where
  C : Fin 256 → Fin 256 → EReal
  n : Fin 256 → EReal
  m : EReal

/-- The state before the first chunk: all zero. -/
def Sta.zero : Sta := ⟨fun _ _ => 0, fun _ => 0, 0⟩

/-- The chunk's gates are what the layer makes them: no log forget gate above zero, no input gate at infinity. -/
structure Dat.Fine (D : Dat) : Prop where
  lf_le : ∀ s, D.lf s ≤ 0
  li_ne : ∀ s, D.li s ≠ ⊤

/-- The logarithm of the sigmoid. -/
def lsig (z : EReal) : EReal := -(max (-z) 0 + Ideal.log1p (Ideal.exp (-(max z (-z)))))

namespace Dat

variable (D : Dat) (S : Sta)

/-- The running sum of the log forget gates. -/
def b (t : Fin 128) : EReal := ∑ s : Fin 128, if s ≤ t then D.lf s else 0

/-- The logarithm of position `s`'s weight at position `t`. -/
def logd (t s : Fin 128) : EReal := if s ≤ t then D.b t - D.b s + D.li s else ⊥

/-- The logarithm of the state's weight at position `t`. -/
def inter (t : Fin 128) : EReal := D.b t + S.m

/-- Position `t`'s stabiliser: the greatest of the logarithms of its weights. -/
def mrow (t : Fin 128) : EReal := max (D.inter S t) (Finset.univ.sup (D.logd t))

/-- The stabilised weight of position `s` at `t`, times the product of the key and the query. -/
def w (t s : Fin 128) : EReal := (∑ d, D.q t d * D.k s d) * Ideal.exp (D.logd t s - D.mrow S t)

/-- The state's stabilised weight at `t`. -/
def wi (t : Fin 128) : EReal := Ideal.exp (D.inter S t - D.mrow S t)

/-- The normaliser before its lower bound. -/
def den (t : Fin 128) : EReal := (∑ s, D.w S t s) + D.wi S t * ∑ d, S.n d * D.q t d

/-- The divisor of the output. -/
def bound (t : Fin 128) : EReal := max (max (D.den S t) (-D.den S t)) (Ideal.exp (-D.mrow S t))

/-- What the output reads from the state. -/
def fs (t : Fin 128) (e : Fin 256) : EReal := ∑ d, S.C e d * D.q t d

/-- The output of position `t`. -/
def h (t : Fin 128) (e : Fin 256) : EReal :=
  Ideal.div ((∑ s, D.w S t s * D.v s e) + D.wi S t * D.fs S t e) (D.bound S t)

/-- The logarithm of position `s`'s weight in the next state. -/
def logIn (s : Fin 128) : EReal := D.b 127 - D.b s + D.li s

/-- The next stabiliser. -/
def m' : EReal := max (D.b 127 + S.m) (Finset.univ.sup D.logIn)

/-- The weight of the state in the next state. -/
def carry : EReal := Ideal.exp (D.b 127 + S.m - D.m' S)

/-- The weight of position `s` in the next state. -/
def win (s : Fin 128) : EReal := Ideal.exp (D.logIn s - D.m' S)

/-- The next state. -/
def next : Sta where
  C := fun e d => D.carry S * S.C e d + ∑ s, D.v s e * (D.k s d * D.win S s)
  n := fun d => D.carry S * S.n d + ∑ s, D.k s d * D.win S s
  m := D.m' S

end Dat

/-! ### No stabiliser is plus infinity -/

variable {D : Dat} {S : Sta}

theorem Dat.Fine.b_anti (hD : D.Fine) {s t : Fin 128} (h : s ≤ t) : D.b t ≤ D.b s := by
  unfold Dat.b
  refine Finset.sum_le_sum fun i _ => ?_
  by_cases h1 : i ≤ s
  · rw [if_pos h1, if_pos (h1.trans h)]
  · rw [if_neg h1]
    split_ifs
    · exact hD.lf_le i
    · exact le_rfl

theorem Dat.Fine.b_nonpos (hD : D.Fine) (t : Fin 128) : D.b t ≤ 0 := by
  unfold Dat.b
  refine Finset.sum_nonpos fun i _ => ?_
  split_ifs
  · exact hD.lf_le i
  · exact le_rfl

theorem Dat.Fine.b_ne_top (hD : D.Fine) (t : Fin 128) : D.b t ≠ ⊤ := fun e => by
  have := hD.b_nonpos t; rw [e] at this; exact absurd this (by simp)

theorem add_ne_top' {a c : EReal} (ha : a ≠ ⊤) (hc : c ≠ ⊤) : a + c ≠ ⊤ := by
  induction a <;> induction c <;> simp_all
  rename_i x y
  exact EReal.coe_ne_top (x + y)

theorem sub_ne_top_of_le {a c : EReal} (h : a ≤ c) (hc : c ≠ ⊤) : a - c ≠ ⊤ := by
  induction c with
  | bot => rw [le_bot_iff.mp h]; simp
  | top => exact absurd rfl hc
  | coe y =>
    have ha : a ≠ ⊤ := fun e => by rw [e] at h; exact absurd h (by simp)
    rw [sub_eq_add_neg]
    exact add_ne_top' ha (by rw [← EReal.coe_neg]; exact EReal.coe_ne_top _)

theorem sup_ne_top {f : Fin 128 → EReal} (h : ∀ i, f i ≠ ⊤) : Finset.univ.sup f ≠ ⊤ := by
  have : Finset.univ.sup f < ⊤ := (Finset.sup_lt_iff (by simp)).2 fun i _ => lt_top_iff_ne_top.2 (h i)
  exact this.ne

theorem Dat.Fine.logd_ne_top (hD : D.Fine) (t s : Fin 128) : D.logd t s ≠ ⊤ := by
  unfold Dat.logd
  split_ifs with h
  · exact add_ne_top' (sub_ne_top_of_le (hD.b_anti h) (hD.b_ne_top s)) (hD.li_ne s)
  · simp

/-- No row's stabiliser is plus infinity. -/
theorem Dat.Fine.mrow_ne_top (hD : D.Fine) (hS : S.m ≠ ⊤) (t : Fin 128) : D.mrow S t ≠ ⊤ := by
  have h : D.mrow S t < ⊤ := max_lt (lt_top_iff_ne_top.2 (add_ne_top' (hD.b_ne_top t) hS))
    (lt_top_iff_ne_top.2 (sup_ne_top (hD.logd_ne_top t)))
  exact h.ne

/-- No state's stabiliser is plus infinity. -/
theorem Dat.Fine.next_ne_top (hD : D.Fine) (hS : S.m ≠ ⊤) : (D.next S).m ≠ ⊤ := by
  have h : D.m' S < ⊤ := max_lt (lt_top_iff_ne_top.2 (add_ne_top' (hD.b_ne_top 127) hS))
    (lt_top_iff_ne_top.2 (sup_ne_top fun s =>
      add_ne_top' (sub_ne_top_of_le (hD.b_anti (Fin.le_last s)) (hD.b_ne_top s)) (hD.li_ne s)))
  exact h.ne

/-! ### The output's divisor is positive -/

theorem exp_pos_of_ne_bot {x : EReal} (h : x ≠ ⊥) : 0 < Ideal.exp x := by
  induction x with
  | bot => exact absurd rfl h
  | top => exact EReal.coe_lt_top 0
  | coe r => exact EReal.coe_pos.2 (Real.exp_pos r)

theorem Dat.Fine.bound_pos (hD : D.Fine) (hS : S.m ≠ ⊤) (t : Fin 128) : 0 < D.bound S t := by
  refine lt_of_lt_of_le (exp_pos_of_ne_bot ?_) (le_max_right _ _)
  intro e
  exact hD.mrow_ne_top hS t (EReal.neg_eq_bot_iff.1 e)

/-- The reciprocal of a positive number is a real number that is not negative. -/
theorem inv_range {x : EReal} (h : 0 < x) : 0 ≤ x⁻¹ ∧ x⁻¹ ≠ ⊤ := by
  induction x with
  | bot => exact absurd h (by simp)
  | top => simp
  | coe r => exact ⟨by rw [← EReal.coe_inv]; exact EReal.coe_nonneg.2 (inv_nonneg.2 (EReal.coe_pos.1 h).le),
      by rw [← EReal.coe_inv]; exact EReal.coe_ne_top _⟩

/-- A sum times a real number that is not negative is the sum of the products. -/
theorem sum_mul_of_range {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

/-- The output with the division taken into the sums, as the reciprocal of the divisor. -/
theorem Dat.Fine.h_eq (hD : D.Fine) (hS : S.m ≠ ⊤) (t : Fin 128) (e : Fin 256) :
    D.h S t e = (∑ s, D.w S t s * Ideal.div 1 (D.bound S t) * D.v s e)
      + D.wi S t * Ideal.div 1 (D.bound S t) * D.fs S t e := by
  have hp := hD.bound_pos hS t
  obtain ⟨h0, h1⟩ := inv_range hp
  have hi : Ideal.div 1 (D.bound S t) = (D.bound S t)⁻¹ := by
    unfold Ideal.div; rw [if_neg hp.ne', one_mul]
  unfold Dat.h
  rw [← Ideal.mul_one_div hp.ne', hi, EReal.right_distrib_of_nonneg_of_ne_top h0 h1, sum_mul_of_range _ _ h0 h1]
  congr 1
  · exact Finset.sum_congr rfl fun s _ => mul_right_comm _ _ _
  · exact mul_right_comm _ _ _

/-! ### The logarithm of the sigmoid -/

theorem log1p_exp_nonneg (x : EReal) : 0 ≤ Ideal.log1p (Ideal.exp x) := by
  induction x with
  | bot =>
    show 0 ≤ Ideal.log ((1 : EReal) + 0)
    rw [add_zero]
    show 0 ≤ if (1 : ℝ) ≤ 0 then (⊥ : EReal) else (Real.log 1 : EReal)
    rw [if_neg (by norm_num), Real.log_one]
    exact le_rfl
  | top =>
    show 0 ≤ Ideal.log ((1 : EReal) + ⊤)
    rw [show (1 : EReal) + ⊤ = ⊤ from rfl]
    exact le_top
  | coe r =>
    show 0 ≤ if (1 + Real.exp r : ℝ) ≤ 0 then (⊥ : EReal) else (Real.log (1 + Real.exp r) : EReal)
    have := Real.exp_pos r
    rw [if_neg (by linarith)]
    exact EReal.coe_nonneg.2 (Real.log_nonneg (by linarith))

/-- The logarithm of the sigmoid is not positive. -/
theorem lsig_nonpos (z : EReal) : lsig z ≤ 0 := by
  unfold lsig
  rw [EReal.neg_le, neg_zero]
  exact add_nonneg (le_max_right _ _) (log1p_exp_nonneg _)

/-- The logarithm of the sigmoid, as the smaller of the number and zero less a logarithm. -/
theorem lsig_eq (z : EReal) : min z 0 - Ideal.log (1 + Ideal.exp (0 - max z (-z))) = lsig z := by
  have ha : max (-z) 0 ≠ ⊥ := fun e => by have := le_max_right (-z) 0; rw [e] at this; exact absurd this (by simp)
  have hb : Ideal.log1p (Ideal.exp (-(max z (-z)))) ≠ ⊥ := fun e => by
    have := log1p_exp_nonneg (-(max z (-z))); rw [e] at this; exact absurd this (by simp)
  have hm : -(max (-z) 0) = min z 0 := by
    rcases le_total z 0 with h | h
    · rw [min_eq_left h, max_eq_left (by rw [EReal.le_neg, neg_zero]; exact h), neg_neg]
    · rw [min_eq_right h, max_eq_right (by rw [EReal.neg_le, neg_zero]; exact h), neg_zero]
  unfold lsig
  rw [EReal.neg_add (.inl ha) (.inr hb), hm, sub_eq_add_neg 0, zero_add]
  rfl

/-- A number below plus infinity is its own sum of three parts. -/
theorem add_rests {g : EReal} (h : g ≠ ⊤) : g + (g - g) + (g - g - (g - g)) = g := by
  induction g with
  | bot => rfl
  | top => exact absurd rfl h
  | coe r => rw [← EReal.coe_sub, sub_self, ← EReal.coe_sub, sub_self, EReal.coe_zero, add_zero, add_zero]

end Cert.Mlstm

end
-- ==== Proof.Data.lean ====
/-
  The layer's arguments as the chunks of `Spec`: a direction's positions are the context's tokens and then the latent's,
  in that direction's order, and a direction, sample and head has one chain of states.
-/
module

public import proofs.«01_k».proof.Proof.Spec

@[expose] public section

noncomputable section

namespace Cert.Mlstm

open Idealize.ShloMosaic

/-- The arguments: rows of the latent (`l`) and context (`c`) tokens of each sample, gates before bias, gate biases. -/
structure In where
  ql : Fin 4 → Fin 8192 → Fin 1024 → EReal
  qc : Fin 4 → Fin 256 → Fin 1024 → EReal
  kl : Fin 4 → Fin 8192 → Fin 1024 → EReal
  kc : Fin 4 → Fin 256 → Fin 1024 → EReal
  vl : Fin 4 → Fin 8192 → Fin 1024 → EReal
  vc : Fin 4 → Fin 256 → Fin 1024 → EReal
  gl : Fin 4 → Fin 8192 → Fin 16 → EReal
  gc : Fin 4 → Fin 256 → Fin 16 → EReal
  bi : Fin 2 → Fin 4 → EReal
  bf : Fin 2 → Fin 4 → EReal

/-- The place of position `j` of chunk `n` among the context's tokens (the first two chunks) or the latent's. -/
def place (d : Fin 2) (n : ℕ) (j : Fin 128) : ℕ :=
  if n < 2 then (if d = 0 then n * 128 + j.val else 255 - (n * 128 + j.val))
  else if d = 0 then (n - 2) * 128 + j.val else 8191 - ((n - 2) * 128 + j.val)

theorem place_lt_c (d : Fin 2) (n : ℕ) (j : Fin 128) (h : n < 2) : place d n j < 256 := by
  unfold place
  rw [if_pos h]
  split_ifs <;> omega

theorem place_lt_l (d : Fin 2) (n : ℕ) (j : Fin 128) (h : ¬n < 2) (hn : n < 66) : place d n j < 8192 := by
  unfold place
  rw [if_neg h]
  split_ifs <;> omega

/-- An argument's row at a position. -/
def tok {w : ℕ} (xl : Fin 4 → Fin 8192 → Fin w → EReal) (xc : Fin 4 → Fin 256 → Fin w → EReal) (d : Fin 2) (b : Fin 4)
    (n : Fin 66) (j : Fin 128) (e : Fin w) : EReal :=
  if h : n.val < 2 then xc b ⟨place d n.val j, place_lt_c d n.val j h⟩ e
  else xl b ⟨place d n.val j, place_lt_l d n.val j h n.isLt⟩ e

/-- A head's column, and the lanes of its gates. -/
abbrev headCol (hd : Fin 4) (e : Fin 256) : Fin 1024 := ⟨hd.val * 256 + e.val, by omega⟩
abbrev inLane (d : Fin 2) (hd : Fin 4) : Fin 16 := ⟨d.val * 4 + hd.val, by omega⟩
abbrev forgetLane (d : Fin 2) (hd : Fin 4) : Fin 16 := ⟨8 + (d.val * 4 + hd.val), by omega⟩

namespace In

variable (I : In)

/-- Chunk `n` of a direction, sample and head. -/
def dat (d : Fin 2) (b hd : Fin 4) (n : Fin 66) : Dat where
  q j e := tok I.ql I.qc d b n j (headCol hd e)
  k j e := tok I.kl I.kc d b n j (headCol hd e)
  v j e := tok I.vl I.vc d b n j (headCol hd e)
  li j := tok I.gl I.gc d b n j (inLane d hd) + I.bi d hd
  lf j := lsig (tok I.gl I.gc d b n j (forgetLane d hd) + I.bf d hd)

/-- The state after `n` chunks. -/
def sta (d : Fin 2) (b hd : Fin 4) : ℕ → Sta
  | 0 => Sta.zero
  | n + 1 => if h : n < 66 then (I.dat d b hd ⟨n, h⟩).next (sta d b hd n) else sta d b hd n

theorem sta_succ (d : Fin 2) (b hd : Fin 4) (n : Fin 66) : I.sta d b hd (n.val + 1) = (I.dat d b hd n).next (I.sta d b hd n.val) :=
  dif_pos n.isLt

/-- The output at a position. -/
def out (d : Fin 2) (b hd : Fin 4) (n : Fin 66) (j : Fin 128) (e : Fin 256) : EReal :=
  (I.dat d b hd n).h (I.sta d b hd n.val) j e

/-- No input gate is plus infinity. -/
structure Fine : Prop where
  l : ∀ b t d hd, I.gl b t (inLane d hd) + I.bi d hd ≠ ⊤
  c : ∀ b t d hd, I.gc b t (inLane d hd) + I.bi d hd ≠ ⊤

variable {I}

theorem Fine.dat (h : I.Fine) (d : Fin 2) (b hd : Fin 4) (n : Fin 66) : (I.dat d b hd n).Fine where
  lf_le _ := lsig_nonpos _
  li_ne j := by
    show tok I.gl I.gc d b n j (inLane d hd) + I.bi d hd ≠ ⊤
    unfold tok
    split_ifs
    · exact h.c b _ d hd
    · exact h.l b _ d hd

theorem Fine.sta (h : I.Fine) (d : Fin 2) (b hd : Fin 4) : ∀ n, (I.sta d b hd n).m ≠ ⊤
  | 0 => EReal.zero_ne_top
  | n + 1 => by
    unfold In.sta
    split_ifs with hn
    · exact (h.dat d b hd ⟨n, hn⟩).next_ne_top (h.sta d b hd n)
    · exact h.sta d b hd n

end In

end Cert.Mlstm

end
-- ==== Proof.HostArr.lean ====
/-
  The arrays that the kernel's windows read, at an index: the rows of the latents and then of the contexts, and the biases.
-/
module

public import proofs.«01_k».proof.Proof.Gen.KernelIdeal.Frame
public import proofs.«01_k».proof.Proof.Data
public import Idealize.ShloMosaic.Lib.Pointwise

@[expose] public section

noncomputable section

namespace Cert.KernelIdeal.Body

open Idealize.ShloMosaic Idealize.ShloMosaic.TcCoe Idealize.SL.Sem Cert.KernelIdeal Cert.KernelIdeal.Gen Cert.Mlstm

variable (m : (ℓ : Loc nD τ sig) → Buf (Elt Ideal) ℓ) (c : Dev nD)

/-- An argument's contents. -/
abbrev arg (r : Ref sig .tc) := m ((c : Thread nD τ).loc r)

/-- The arguments as functions of sample, token and column. -/
def inOf : In where
  ql b t e := (arg m c main_arg0 : Vec Ideal S4x8192x1024 .f32) (ix3 b t e)
  qc b t e := (arg m c main_arg1 : Vec Ideal S4x256x1024 .f32) (ix3 b t e)
  kl b t e := (arg m c main_arg2 : Vec Ideal S4x8192x1024 .f32) (ix3 b t e)
  kc b t e := (arg m c main_arg3 : Vec Ideal S4x256x1024 .f32) (ix3 b t e)
  vl b t e := (arg m c main_arg4 : Vec Ideal S4x8192x1024 .f32) (ix3 b t e)
  vc b t e := (arg m c main_arg5 : Vec Ideal S4x256x1024 .f32) (ix3 b t e)
  gl b t e := (arg m c main_arg6 : Vec Ideal S4x8192x16 .f32) (ix3 b t e)
  gc b t e := (arg m c main_arg7 : Vec Ideal S4x256x16 .f32) (ix3 b t e)
  bi d h := (arg m c main_arg8 : Vec Ideal S2x4 .f32) (ix2 d h)
  bf d h := (arg m c main_arg9 : Vec Ideal S2x4 .f32) (ix2 d h)

/-- The number of the row that holds a token: a latent's, or a context's after all the latents. -/
def rowOf (b : Fin 4) (d : Fin 2) (n : Fin 66) (j : Fin 128) : Fin 33792 :=
  if h : n.val < 2 then ⟨32768 + b.val * 256 + place d n.val j, by have := place_lt_c d n.val j h; omega⟩
  else ⟨b.val * 8192 + place d n.val j, by have := place_lt_l d n.val j h n.isLt; omega⟩

/-- Rows of latents and contexts set after each other hold a token's row at its number. -/
theorem rows_rowOf {w : ℕ} (xl : Fin 4 → Fin 8192 → Fin w → EReal) (xc : Fin 4 → Fin 256 → Fin w → EReal)
    (f : Fin 33792 → Fin w → EReal)
    (hl : ∀ (b : Fin 4) (p : Fin 8192) (e : Fin w), f ⟨b.val * 8192 + p.val, by omega⟩ e = xl b p e)
    (hc : ∀ (b : Fin 4) (p : Fin 256) (e : Fin w), f ⟨32768 + b.val * 256 + p.val, by omega⟩ e = xc b p e)
    (b : Fin 4) (d : Fin 2) (n : Fin 66) (j : Fin 128) (e : Fin w) : f (rowOf b d n j) e = tok xl xc d b n j e := by
  unfold rowOf tok
  split_ifs with h
  · exact hc b ⟨place d n.val j, place_lt_c d n.val j h⟩ e
  · exact hl b ⟨place d n.val j, place_lt_l d n.val j h n.isLt⟩ e

theorem cat_l (x : Vec Ideal S32768x1024 .f32) (y : Vec Ideal S1024x1024 .f32) (h) (R : Fin 32768) (e : Fin 1024) :
    concatenate S33792x1024 0 [⟨S32768x1024, x⟩, ⟨S1024x1024, y⟩] h (ix2 ⟨R.val, by omega⟩ e) = x (ix2 R e) := by
  pointwise []

theorem cat_c (x : Vec Ideal S32768x1024 .f32) (y : Vec Ideal S1024x1024 .f32) (h) (R : Fin 1024) (e : Fin 1024) :
    concatenate S33792x1024 0 [⟨S32768x1024, x⟩, ⟨S1024x1024, y⟩] h (ix2 ⟨32768 + R.val, by omega⟩ e) = y (ix2 R e) := by
  pointwise []

theorem flat_l (x : Vec Ideal S4x8192x1024 .f32) (h) (b : Fin 4) (p : Fin 8192) (e : Fin 1024) :
    shapeCast S32768x1024 x h (ix2 ⟨b.val * 8192 + p.val, by omega⟩ e) = x (ix3 b p e) := by
  pointwise []

theorem flat_c (x : Vec Ideal S4x256x1024 .f32) (h) (b : Fin 4) (p : Fin 256) (e : Fin 1024) :
    shapeCast S1024x1024 x h (ix2 ⟨b.val * 256 + p.val, by omega⟩ e) = x (ix3 b p e) := by
  pointwise []

/-- The rows of the queries. -/
theorem V_q (i : S33792x1024.Idx) : (V m c main_v3 : Vec Ideal S33792x1024 .bf16) i
    = concatenate S33792x1024 0 [⟨S32768x1024, shapeCast S32768x1024 (arg m c main_arg0 : Vec Ideal S4x8192x1024 .f32) shapeCasts_S4x8192x1024_S32768x1024⟩,
      ⟨S1024x1024, shapeCast S1024x1024 (arg m c main_arg1 : Vec Ideal S4x256x1024 .f32) shapeCasts_S4x256x1024_S1024x1024⟩] concatenates_S32768x1024_S1024x1024_S33792x1024_d0 i := by
  entry_read
  rfl

theorem V_q_row (b : Fin 4) (d : Fin 2) (n : Fin 66) (j : Fin 128) (e : Fin 1024) :
    (V m c main_v3 : Vec Ideal S33792x1024 .bf16) (ix2 (rowOf b d n j) e) = tok (inOf m c).ql (inOf m c).qc d b n j e := by
  refine rows_rowOf _ _ (fun R e => (V m c main_v3 : Vec Ideal S33792x1024 .bf16) (ix2 R e)) (fun b p e => ?_) (fun b p e => ?_) b d n j e
  · exact (V_q m c _).trans ((cat_l _ _ _ ⟨b.val * 8192 + p.val, by omega⟩ e).trans (flat_l _ _ b p e))
  · rw [show (⟨32768 + b.val * 256 + p.val, by omega⟩ : Fin 33792) = ⟨32768 + (⟨b.val * 256 + p.val, by omega⟩ : Fin 1024).val, by simp only []; omega⟩ from
      Fin.ext (by simp only []; omega)]
    exact (V_q m c _).trans ((cat_c _ _ _ ⟨b.val * 256 + p.val, by omega⟩ e).trans (flat_c _ _ b p e))

/-- The rows of the keys. -/
theorem V_k (i : S33792x1024.Idx) : (V m c main_v7 : Vec Ideal S33792x1024 .bf16) i
    = concatenate S33792x1024 0 [⟨S32768x1024, shapeCast S32768x1024 (arg m c main_arg2 : Vec Ideal S4x8192x1024 .f32) shapeCasts_S4x8192x1024_S32768x1024⟩,
      ⟨S1024x1024, shapeCast S1024x1024 (arg m c main_arg3 : Vec Ideal S4x256x1024 .f32) shapeCasts_S4x256x1024_S1024x1024⟩] concatenates_S32768x1024_S1024x1024_S33792x1024_d0 i := by
  entry_read
  rfl

theorem V_k_row (b : Fin 4) (d : Fin 2) (n : Fin 66) (j : Fin 128) (e : Fin 1024) :
    (V m c main_v7 : Vec Ideal S33792x1024 .bf16) (ix2 (rowOf b d n j) e) = tok (inOf m c).kl (inOf m c).kc d b n j e := by
  refine rows_rowOf _ _ (fun R e => (V m c main_v7 : Vec Ideal S33792x1024 .bf16) (ix2 R e)) (fun b p e => ?_) (fun b p e => ?_) b d n j e
  · exact (V_k m c _).trans ((cat_l _ _ _ ⟨b.val * 8192 + p.val, by omega⟩ e).trans (flat_l _ _ b p e))
  · rw [show (⟨32768 + b.val * 256 + p.val, by omega⟩ : Fin 33792) = ⟨32768 + (⟨b.val * 256 + p.val, by omega⟩ : Fin 1024).val, by simp only []; omega⟩ from
      Fin.ext (by simp only []; omega)]
    exact (V_k m c _).trans ((cat_c _ _ _ ⟨b.val * 256 + p.val, by omega⟩ e).trans (flat_c _ _ b p e))

/-- The rows of the values. -/
theorem V_v (i : S33792x1024.Idx) : (V m c main_v11 : Vec Ideal S33792x1024 .bf16) i
    = concatenate S33792x1024 0 [⟨S32768x1024, shapeCast S32768x1024 (arg m c main_arg4 : Vec Ideal S4x8192x1024 .f32) shapeCasts_S4x8192x1024_S32768x1024⟩,
      ⟨S1024x1024, shapeCast S1024x1024 (arg m c main_arg5 : Vec Ideal S4x256x1024 .f32) shapeCasts_S4x256x1024_S1024x1024⟩] concatenates_S32768x1024_S1024x1024_S33792x1024_d0 i := by
  entry_read
  rfl

theorem V_v_row (b : Fin 4) (d : Fin 2) (n : Fin 66) (j : Fin 128) (e : Fin 1024) :
    (V m c main_v11 : Vec Ideal S33792x1024 .bf16) (ix2 (rowOf b d n j) e) = tok (inOf m c).vl (inOf m c).vc d b n j e := by
  refine rows_rowOf _ _ (fun R e => (V m c main_v11 : Vec Ideal S33792x1024 .bf16) (ix2 R e)) (fun b p e => ?_) (fun b p e => ?_) b d n j e
  · exact (V_v m c _).trans ((cat_l _ _ _ ⟨b.val * 8192 + p.val, by omega⟩ e).trans (flat_l _ _ b p e))
  · rw [show (⟨32768 + b.val * 256 + p.val, by omega⟩ : Fin 33792) = ⟨32768 + (⟨b.val * 256 + p.val, by omega⟩ : Fin 1024).val, by simp only []; omega⟩ from
      Fin.ext (by simp only []; omega)]
    exact (V_v m c _).trans ((cat_c _ _ _ ⟨b.val * 256 + p.val, by omega⟩ e).trans (flat_c _ _ b p e))

set_option maxRecDepth 16384 in
set_option maxHeartbeats 4000000 in
/-- The biases. -/
theorem V_bias : (V m c main_v21 : Vec Ideal S1x128 .f32) = shapeCast S1x128 (concatenate S128 0
    [⟨S8, shapeCast S8 (arg m c main_arg8 : Vec Ideal S2x4 .f32) shapeCasts_S2x4_S8⟩, ⟨S8, shapeCast S8 (arg m c main_arg9 : Vec Ideal S2x4 .f32) shapeCasts_S2x4_S8⟩,
     ⟨S112, broadcastInDim S112 ![] bcast_S_S112 (constant (F := Ideal) S_ .f32 0x00000000#32)⟩] concatenates_S8_S8_S112_S128_d0) shapeCasts_S128_S1x128 := by
  sl_kernel_rfl

set_option maxRecDepth 16384 in
/-- The rows of the gates. -/
theorem V_gates (i : S33792x128.Idx) : (V m c main_v16 : Vec Ideal S33792x128 .f32) i = concatenate S33792x128 1 [⟨S33792x16,
      concatenate S33792x16 0 [⟨S32768x16, shapeCast S32768x16 (arg m c main_arg6 : Vec Ideal S4x8192x16 .f32) shapeCasts_S4x8192x16_S32768x16⟩,
        ⟨S1024x16, shapeCast S1024x16 (arg m c main_arg7 : Vec Ideal S4x256x16 .f32) shapeCasts_S4x256x16_S1024x16⟩] concatenates_S32768x16_S1024x16_S33792x16_d0⟩,
      ⟨S33792x112, broadcastInDim S33792x112 ![] bcast_S_S33792x112 (constant (F := Ideal) S_ .f32 0x00000000#32)⟩] concatenates_S33792x16_S33792x112_S33792x128_d1 i := by
  entry_read
  rfl

/-- A gate's lane of the padded rows. -/
theorem pad_apply (x : Vec Ideal S33792x16 .f32) (y : Vec Ideal S33792x112 .f32) (h) (R : Fin 33792) (l : Fin 16) :
    concatenate S33792x128 1 [⟨S33792x16, x⟩, ⟨S33792x112, y⟩] h (ix2 R ⟨l.val, by omega⟩) = x (ix2 R l) := by
  pointwise []

theorem gcat_l (x : Vec Ideal S4x8192x16 .f32) (y : Vec Ideal S4x256x16 .f32) (h h' h'') (b : Fin 4) (p : Fin 8192) (e : Fin 16) :
    concatenate S33792x16 0 [⟨S32768x16, shapeCast S32768x16 x h⟩, ⟨S1024x16, shapeCast S1024x16 y h'⟩] h'' (ix2 ⟨b.val * 8192 + p.val, by omega⟩ e)
      = x (ix3 b p e) := by
  pointwise []
  exact dif_pos (by omega)

theorem gcat_c (x : Vec Ideal S4x8192x16 .f32) (y : Vec Ideal S4x256x16 .f32) (h h' h'') (b : Fin 4) (p : Fin 256) (e : Fin 16) :
    concatenate S33792x16 0 [⟨S32768x16, shapeCast S32768x16 x h⟩, ⟨S1024x16, shapeCast S1024x16 y h'⟩] h'' (ix2 ⟨32768 + b.val * 256 + p.val, by omega⟩ e)
      = y (ix3 b p e) := by
  pointwise []
  rw [dif_neg (by omega)]
  exact congrArg y (congrArg₂ (fun b p => ix3 b p e) (Fin.ext (by simp only []; omega)) (Fin.ext (by simp only []; omega)))

theorem V_g_row (b : Fin 4) (d : Fin 2) (n : Fin 66) (j : Fin 128) (l : Fin 16) :
    (V m c main_v16 : Vec Ideal S33792x128 .f32) (ix2 (rowOf b d n j) ⟨l.val, by omega⟩) = tok (inOf m c).gl (inOf m c).gc d b n j l := by
  refine rows_rowOf _ _ (fun R l => (V m c main_v16 : Vec Ideal S33792x128 .f32) (ix2 R ⟨l.val, by omega⟩)) (fun b p e => ?_) (fun b p e => ?_) b d n j l
  · exact (V_gates m c _).trans ((pad_apply _ _ _ _ e).trans (gcat_l _ _ _ _ _ b p e))
  · exact (V_gates m c _).trans ((pad_apply _ _ _ _ e).trans (gcat_c _ _ _ _ _ b p e))

theorem V_bias_in (d : Fin 2) (hd : Fin 4) (h) :
    (V m c main_v21 : Vec Ideal S1x128 .f32) (ix2 0 ⟨d.val * 4 + hd.val, h⟩) = (inOf m c).bi d hd := by
  rw [V_bias]
  pointwise []
  exact dif_pos (by omega)

theorem V_bias_forget (d : Fin 2) (hd : Fin 4) (h) :
    (V m c main_v21 : Vec Ideal S1x128 .f32) (ix2 0 ⟨8 + (d.val * 4 + hd.val), h⟩) = (inOf m c).bf d hd := by
  rw [V_bias]
  pointwise []
  exact dif_pos (by omega)

end Cert.KernelIdeal.Body

end
-- ==== Proof.Chain.lean ====
/-
  What the kernel computes of one direction, sample and head of a chunk, as functions of the vectors it loads, over any
  float values: the gates, the running sums of the log forget gates, the output block and the next state.
-/
module

public import proofs.«01_k».proof.Proof.Gen.KernelIdeal.Skeleton

@[expose] public section

noncomputable section

namespace Cert.KernelIdeal.Chain

open Idealize.ShloMosaic Cert.KernelIdeal Cert.KernelIdeal.Gen

variable {F : FTy → Type} [FloatOps F]

/-- The rows' and the columns' numbers of a square of positions. -/
def rowIx : IVec S128x128 32 := iota .tc S128x128 32 [0] iota_S128x128_d0_w32
def colIx : IVec S128x128 32 := iota .tc S128x128 32 [1] iota_S128x128_d1_w32

/-- The lanes of the forget gates. -/
def forgetLanes : IVec S1x128 1 :=
  andi (cmpi .sge (iota .tc S1x128 32 [1] iota_S1x128_d1_w32) (broadcast S1x128 8#32))
    (cmpi .slt (iota .tc S1x128 32 [1] iota_S1x128_d1_w32) (broadcast S1x128 16#32))

/-- The diagonal. -/
def eyeM : IVec S128x128 1 := cmpi .eq rowIx colIx

/-- A gate block with its bias added. -/
def preV (x : Vec F S128x128 .f32) (bias : Vec F S1x128 .f32) : FVec F S128x128 .f32 :=
  addf (shapeCast S128x128 x shapeCasts_S128x128_S128x128)
    (broadcastTo S128x128 (shapeCast S1x128 bias shapeCasts_S1x128_S1x128) broadcasts_S1x128_S128x128)

/-- The gates: the input gates as they are, the forget gates through the logarithm of the sigmoid. -/
def glV (x : Vec F S128x128 .f32) (bias : Vec F S1x128 .f32) : FVec F S128x128 .f32 :=
  select (broadcastTo S128x128 (shapeCast S1x128 forgetLanes shapeCasts_S1x128_S1x128) broadcasts_S1x128_S128x128)
    (subf (minimumf (preV x bias) (broadcast S128x128 (Scalar.ofBits .f32 0x00000000#32)))
      (log (addf (broadcast S128x128 (Scalar.ofBits .f32 0x3F800000#32))
        (exp (subf (broadcast S128x128 (Scalar.ofBits .f32 0x00000000#32)) (absf (preV x bias)))))))
    (preV x bias)

/-- The gates' leading part, and what is left of them after it. -/
def hiV (gl : FVec F S128x128 .f32) : FVec F S128x128 .bf16 := truncf .bf16 gl bitsLt_bf16_f32
def restV (gl : FVec F S128x128 .f32) : FVec F S128x128 .f32 := subf gl (extf .f32 (hiV gl) bitsLt_bf16_f32)

/-- A mask as a matrix of zeros and ones. -/
def maskV (bef : IVec S128x128 1) : FVec F S128x128 .bf16 :=
  truncf .bf16 (sitofp .f32 (extui 32 bef natLt_1_32)) bitsLt_bf16_f32

/-- The running sums along the positions, by three products of the mask with the gates' three parts. -/
def bcV (bef : IVec S128x128 1) (gl : FVec F S128x128 .f32) : FVec F S128x128 .f32 :=
  addf (addf (matmul dot_S128x128_S128x128_S128x128_1_0_0_1_n_n none (maskV bef) (hiV gl) (constant S128x128 .f32 0x00000000#32))
      (matmul dot_S128x128_S128x128_S128x128_1_0_0_1_n_n none (maskV bef) (hiV (restV gl)) (constant S128x128 .f32 0x00000000#32)))
    (matmul dot_S128x128_S128x128_S128x128_1_0_0_1_n_n none (maskV bef) (hiV (restV (restV gl))) (constant S128x128 .f32 0x00000000#32))

/-- The logarithms of the weights, source positions along the rows. -/
def logdV (bef : IVec S128x128 1) (bRow : FVec F S1x128 .f32) (src : FVec F S128x1 .f32) : FVec F S128x128 .f32 :=
  select bef (addf (broadcastTo S128x128 bRow broadcasts_S1x128_S128x128) (broadcastTo S128x128 src broadcasts_S128x1_S128x128))
    (broadcast S128x128 (Scalar.ofBits .f32 0xFF800000#32))

/-- The logarithms of the state's weights. -/
def interV (bRow : FVec F S1x128 .f32) (m : FVec F S1x1 .f32) : FVec F S1x128 .f32 :=
  addf bRow (broadcastTo S1x128 m broadcasts_S1x1_S1x128)

/-- The positions' stabilisers. -/
def mrowV (bef : IVec S128x128 1) (bRow : FVec F S1x128 .f32) (src : FVec F S128x1 .f32) (m : FVec F S1x1 .f32) : FVec F S1x128 .f32 :=
  maximumf (interV bRow m)
    (shapeCast S1x128 (multiReduction .maximumf [0] S128 (logdV bef bRow src) 0xFF800000#32 reduces_S128x128_S128 (.inl rfl) rfl)
      shapeCasts_S128_S1x128)

/-- The products of the keys with the queries. -/
def skV (k q : FVec F S128x256 .bf16) : FVec F S128x128 .f32 :=
  matmul dot_S128x256_S128x256_S128x128_1_1_0_0_n_n none k q (constant S128x128 .f32 0x00000000#32)

/-- The weighted products. -/
def sV (bef : IVec S128x128 1) (bRow : FVec F S1x128 .f32) (src : FVec F S128x1 .f32) (m : FVec F S1x1 .f32)
    (k q : FVec F S128x256 .bf16) : FVec F S128x128 .f32 :=
  mulf (skV k q) (exp (subf (logdV bef bRow src) (broadcastTo S128x128 (mrowV bef bRow src m) broadcasts_S1x128_S128x128)))

/-- The state's weights. -/
def wiV (bef : IVec S128x128 1) (bRow : FVec F S1x128 .f32) (src : FVec F S128x1 .f32) (m : FVec F S1x1 .f32) : FVec F S1x128 .f32 :=
  exp (subf (interV bRow m) (mrowV bef bRow src m))

/-- What the output reads from the state's matrix, and its normaliser from the state's vector. -/
def fsV (q : FVec F S128x256 .bf16) (C : FVec F S256x256 .f32) : FVec F S128x256 .f32 :=
  matmul dot_S128x256_S256x256_S128x256_1_1_0_0_n_n none q (truncf .bf16 C bitsLt_bf16_f32) (constant S128x256 .f32 0x00000000#32)
def qnV (q : FVec F S128x256 .bf16) (n : FVec F S1x256 .f32) : FVec F S1x128 .f32 :=
  extractStridedSlice S1x128 ![0, 0]
    (matmul dot_S16x256_S128x256_S16x128_1_1_0_0_n_n none
      (truncf .bf16 (broadcastTo S16x256 (shapeCast S1x256 n shapeCasts_S1x256_S1x256) broadcasts_S1x256_S16x256) bitsLt_bf16_f32) q
      (constant S16x128 .f32 0x00000000#32))
    slices_S16x128_o0_0_S1x128

/-- The normalisers. -/
def denV (bef : IVec S128x128 1) (bRow : FVec F S1x128 .f32) (src : FVec F S128x1 .f32) (m : FVec F S1x1 .f32)
    (k q : FVec F S128x256 .bf16) (n : FVec F S1x256 .f32) : FVec F S1x128 .f32 :=
  addf (shapeCast S1x128 (multiReduction .add [0] S128 (sV bef bRow src m k q) 0x00000000#32 reduces_S128x128_S128 (.inl rfl) rfl)
      shapeCasts_S128_S1x128)
    (mulf (wiV bef bRow src m) (qnV q n))

/-- The reciprocals of the divisors. -/
def invV (bef : IVec S128x128 1) (bRow : FVec F S1x128 .f32) (src : FVec F S128x1 .f32) (m : FVec F S1x1 .f32)
    (k q : FVec F S128x256 .bf16) (n : FVec F S1x256 .f32) : FVec F S1x128 .f32 :=
  divf (broadcast S1x128 (Scalar.ofBits .f32 0x3F800000#32))
    (maximumf (absf (denV bef bRow src m k q n))
      (exp (subf (broadcast S1x128 (Scalar.ofBits .f32 0x00000000#32)) (mrowV bef bRow src m))))

/-- A row laid on the diagonal. -/
def diagV (x : FVec F S1x128 .f32) : FVec F S128x128 .f32 :=
  select eyeM (broadcastTo S128x128 (shapeCast S1x128 x shapeCasts_S1x128_S1x128) broadcasts_S1x128_S128x128)
    (broadcast S128x128 (Scalar.ofBits .f32 0x00000000#32))

/-- The outputs: one product of the weights over the values and of the state's weights over what is read from it. -/
def hV (bef : IVec S128x128 1) (bRow : FVec F S1x128 .f32) (src : FVec F S128x1 .f32) (m : FVec F S1x1 .f32)
    (q k v : FVec F S128x256 .bf16) (n : FVec F S1x256 .f32) (C : FVec F S256x256 .f32) : FVec F S128x256 .f32 :=
  matmul dot_S256x128_S256x256_S128x256_0_0_1_1_n_n none
    (truncf .bf16 (concatenate S256x128 0
      [⟨S128x128, mulf (sV bef bRow src m k q) (broadcastTo S128x128 (invV bef bRow src m k q n) broadcasts_S1x128_S128x128)⟩,
       ⟨S128x128, diagV (mulf (wiV bef bRow src m) (invV bef bRow src m k q n))⟩]
      concatenates_S128x128_S128x128_S256x128_d0) bitsLt_bf16_f32)
    (concatenate S256x256 0 [⟨S128x256, v⟩, ⟨S128x256, truncf .bf16 (fsV q C) bitsLt_bf16_f32⟩]
      concatenates_S128x256_S128x256_S256x256_d0)
    (constant S128x256 .f32 0x00000000#32)

/-- The logarithms of the positions' weights in the next state. -/
def loginV (bLast : FVec F S1x1 .f32) (bRow liRow : FVec F S1x128 .f32) : FVec F S1x128 .f32 :=
  addf (subf (broadcastTo S1x128 bLast broadcasts_S1x1_S1x128) bRow) liRow

/-- The next stabiliser. -/
def mnewV (bLast : FVec F S1x1 .f32) (bRow liRow : FVec F S1x128 .f32) (m : FVec F S1x1 .f32) : FVec F S1x1 .f32 :=
  maximumf (addf bLast m)
    (shapeCast S1x1 (multiReduction .maximumf [1] S1 (loginV bLast bRow liRow) 0xFF800000#32 reduces_S1x128_S1 (.inl rfl) rfl)
      shapeCasts_S1_S1x1)

/-- The state's and the positions' weights in the next state. -/
def carryV (bLast : FVec F S1x1 .f32) (bRow liRow : FVec F S1x128 .f32) (m : FVec F S1x1 .f32) : FVec F S1x1 .f32 :=
  exp (subf (addf bLast m) (mnewV bLast bRow liRow m))
def winV (bLast : FVec F S1x1 .f32) (bRow liRow : FVec F S1x128 .f32) (m : FVec F S1x1 .f32) : FVec F S1x128 .f32 :=
  exp (subf (loginV bLast bRow liRow) (broadcastTo S1x128 (mnewV bLast bRow liRow m) broadcasts_S1x1_S1x128))

/-- The weighted keys. -/
def kwV (w : FVec F S1x128 .f32) (k : FVec F S128x256 .bf16) : FVec F S128x256 .f32 :=
  matmul dot_S128x128_S128x256_S128x256_1_0_0_1_n_n none (truncf .bf16 (diagV w) bitsLt_bf16_f32) k
    (constant S128x256 .f32 0x00000000#32)

/-- The next matrix. -/
def cnewV (bLast : FVec F S1x1 .f32) (bRow liRow : FVec F S1x128 .f32) (m : FVec F S1x1 .f32)
    (k v : FVec F S128x256 .bf16) (C : FVec F S256x256 .f32) : FVec F S256x256 .f32 :=
  addf (mulf (broadcastTo S256x256 (carryV bLast bRow liRow m) broadcasts_S1x1_S256x256) C)
    (matmul dot_S128x256_S128x256_S256x256_0_0_1_1_n_n none v
      (truncf .bf16 (kwV (winV bLast bRow liRow m) k) bitsLt_bf16_f32) (constant S256x256 .f32 0x00000000#32))

/-- The next vector. -/
def nnewV (bLast : FVec F S1x1 .f32) (bRow liRow : FVec F S1x128 .f32) (m : FVec F S1x1 .f32)
    (k : FVec F S128x256 .bf16) (n : FVec F S1x256 .f32) : FVec F S1x256 .f32 :=
  addf (mulf (broadcastTo S1x256 (carryV bLast bRow liRow m) broadcasts_S1x1_S1x256) n)
    (extractStridedSlice S1x256 ![0, 0]
      (matmul dot_S16x128_S128x256_S16x256_1_0_0_1_n_n none
        (truncf .bf16 (broadcastTo S16x128 (shapeCast S1x128 (winV bLast bRow liRow m) shapeCasts_S1x128_S1x128)
          broadcasts_S1x128_S16x128) bitsLt_bf16_f32) k (constant S16x256 .f32 0x00000000#32))
      slices_S16x256_o0_0_S1x256)

end Cert.KernelIdeal.Chain

end
-- ==== Proof.ChainValue.lean ====
/-
  The kernel's functions of `Chain` over the extended reals, at an index, are the chunk's of `Spec`: for positions in
  their order, and, with the other mask, for positions in the opposite order (`σ` is the order).
-/
module

public import proofs.«01_k».proof.Proof.Chain
public import proofs.«01_k».proof.Proof.Spec
public import Idealize.ShloMosaic.Lib.Pointwise

@[expose] public section

noncomputable section

namespace Cert.KernelIdeal.Chain

open Idealize.ShloMosaic Cert.KernelIdeal Cert.KernelIdeal.Gen Cert.Mlstm

variable (σ : Equiv.Perm (Fin 128)) (D : Dat) (S : Sta)
variable (bef : IVec S128x128 1) (bRow liRow : FVec Ideal S1x128 .f32) (src : FVec Ideal S128x1 .f32) (bLast : FVec Ideal S1x1 .f32)
variable (q k v : FVec Ideal S128x256 .bf16) (C : FVec Ideal S256x256 .f32) (n : FVec Ideal S1x256 .f32) (m : FVec Ideal S1x1 .f32)

/-- The vectors hold a chunk's rows, in the order `σ`, and a state. -/
structure Holds : Prop where
  bef : ∀ s t, bef (ix2 (σ s) (σ t)) = if s ≤ t then 1#1 else 0#1
  bRow : ∀ t, bRow (ix2 0 (σ t)) = D.b t
  liRow : ∀ t, liRow (ix2 0 (σ t)) = D.li t
  src : ∀ t, src (ix2 (σ t) 0) = D.li t - D.b t
  bLast : bLast (ix2 0 0) = D.b 127
  q : ∀ t d, q (ix2 (σ t) d) = D.q t d
  k : ∀ t d, k (ix2 (σ t) d) = D.k t d
  v : ∀ t d, v (ix2 (σ t) d) = D.v t d
  C : ∀ e d, C (ix2 e d) = S.C e d
  n : ∀ d, n (ix2 0 d) = S.n d
  m : m (ix2 0 0) = S.m

variable {σ D S bef bRow liRow src bLast q k v C n m}

theorem sup_perm (σ : Equiv.Perm (Fin 128)) (f : Fin 128 → EReal) :
    Finset.univ.sup (fun i => f (σ i)) = Finset.univ.sup f :=
  le_antisymm (Finset.sup_le fun i _ => Finset.le_sup (f := f) (Finset.mem_univ (σ i)))
    (Finset.sup_le fun i _ => by
      have := Finset.le_sup (f := fun i => f (σ i)) (Finset.mem_univ (σ.symm i))
      simpa using this)

theorem fold_max_eq (f : Fin 128 → EReal) :
    Finset.univ.fold max (Ideal.ofBits .f32 0xFF800000#32) f = Finset.univ.sup f := by
  rw [show Ideal.ofBits .f32 0xFF800000#32 = (⊥ : EReal) from by simp [Ideal.ofBits, Ideal.ieee]]
  rfl

theorem select_ite (p : Prop) [Decidable p] (x y : EReal) :
    Scalar.select (if p then 1#1 else 0#1) x y = if p then x else y := by
  split_ifs <;> rfl

theorem ofBits_neg_inf : Ideal.ofBits .f32 0xFF800000#32 = (⊥ : EReal) := by simp [Ideal.ofBits, Ideal.ieee]

theorem sle_ix (s t : Fin 128) :
    IntOp.cmpi CmpIPredicate.sle (BitVec.ofNat 32 ↑s) (BitVec.ofNat 32 ↑t) = if s ≤ t then 1#1 else 0#1 := by
  revert s t
  decide +kernel

theorem sge_ix (s t : Fin 128) :
    IntOp.cmpi CmpIPredicate.sge (BitVec.ofNat 32 ↑s) (BitVec.ofNat 32 ↑t) = if t ≤ s then 1#1 else 0#1 := by
  revert s t
  decide +kernel

theorem eq_ix (s t : Fin 128) :
    IntOp.cmpi CmpIPredicate.eq (BitVec.ofNat 32 ↑s) (BitVec.ofNat 32 ↑t) = if s = t then 1#1 else 0#1 := by
  revert s t
  decide +kernel

theorem eyeM_apply (s t : Fin 128) : eyeM (ix2 s t) = if s = t then 1#1 else 0#1 := by
  pointwise [eyeM, rowIx, colIx]
  exact eq_ix s t

theorem bef0_apply (s t : Fin 128) : (cmpi .sle rowIx colIx : IVec S128x128 1) (ix2 s t) = if s ≤ t then 1#1 else 0#1 := by
  pointwise [rowIx, colIx]
  exact sle_ix s t

theorem bef1_apply (s t : Fin 128) : (cmpi .sge rowIx colIx : IVec S128x128 1) (ix2 s t) = if t ≤ s then 1#1 else 0#1 := by
  pointwise [rowIx, colIx]
  exact sge_ix s t

theorem sum0_apply (t s : Fin 128) : (cmpi .sle colIx rowIx : IVec S128x128 1) (ix2 t s) = if s ≤ t then 1#1 else 0#1 := by
  pointwise [rowIx, colIx]
  exact sle_ix s t

theorem sum1_apply (t s : Fin 128) : (cmpi .sge colIx rowIx : IVec S128x128 1) (ix2 t s) = if t ≤ s then 1#1 else 0#1 := by
  pointwise [rowIx, colIx]
  exact sge_ix s t

theorem logdV_apply (h : Holds σ D S bef bRow liRow src bLast q k v C n m) (s t : Fin 128) :
    logdV bef bRow src (ix2 (σ s) (σ t)) = D.logd t s := by
  pointwise [logdV]
  rw [h.bef, h.bRow, h.src, select_ite, ofBits_neg_inf, Dat.logd]
  refine if_congr Iff.rfl ?_ rfl
  rw [sub_eq_add_neg, sub_eq_add_neg, add_comm (D.li s), ← add_assoc]

theorem interV_apply (h : Holds σ D S bef bRow liRow src bLast q k v C n m) (t : Fin 128) :
    interV bRow m (ix2 0 (σ t)) = D.inter S t := by
  pointwise [interV]
  rw [h.bRow, h.m, Dat.inter]

theorem mrowV_apply (h : Holds σ D S bef bRow liRow src bLast q k v C n m) (t : Fin 128) :
    mrowV bef bRow src m (ix2 0 (σ t)) = D.mrow S t := by
  pointwise [mrowV]
  rw [interV_apply h, fold_max_eq, ← sup_perm σ, Dat.mrow]
  congr 2
  exact funext fun s => logdV_apply h s t

theorem sV_apply (h : Holds σ D S bef bRow liRow src bLast q k v C n m) (s t : Fin 128) :
    sV bef bRow src m k q (ix2 (σ s) (σ t)) = D.w S t s := by
  pointwise [sV, skV]
  rw [logdV_apply h, mrowV_apply h, Dat.w]
  refine congrArg (· * _) (Finset.sum_congr rfl fun d _ => ?_)
  rw [h.k, h.q, mul_comm]

theorem wiV_apply (h : Holds σ D S bef bRow liRow src bLast q k v C n m) (t : Fin 128) :
    wiV bef bRow src m (ix2 0 (σ t)) = D.wi S t := by
  pointwise [wiV]
  rw [interV_apply h, mrowV_apply h, Dat.wi]

theorem denV_apply (h : Holds σ D S bef bRow liRow src bLast q k v C n m) (t : Fin 128) :
    denV bef bRow src m k q n (ix2 0 (σ t)) = D.den S t := by
  pointwise [denV, qnV]
  rw [← Equiv.sum_comp σ, wiV_apply h, Dat.den]
  simp only [sV_apply h, h.n, h.q]

theorem invV_apply (h : Holds σ D S bef bRow liRow src bLast q k v C n m) (t : Fin 128) :
    invV bef bRow src m k q n (ix2 0 (σ t)) = Ideal.div 1 (D.bound S t) := by
  pointwise [invV]
  rw [denV_apply h, mrowV_apply h, Dat.bound, zero_sub]
  rfl

/-- A sum over a row laid on the diagonal has the one term. -/
theorem sum_diag (t : Fin 128) (f : Fin 128 → EReal) :
    ∑ x, Scalar.select (eyeM (ix2 x t)) (f x) 0 = f t := by
  simp only [eyeM_apply, select_ite]
  rw [Finset.sum_ite_eq' Finset.univ t f, if_pos (Finset.mem_univ t)]

theorem sum_diag' (t : Fin 128) (f : Fin 128 → EReal) :
    ∑ x, Scalar.select (eyeM (ix2 t x)) (f x) 0 = f t := by
  simp only [eyeM_apply, select_ite]
  rw [Finset.sum_ite_eq Finset.univ t f, if_pos (Finset.mem_univ t)]

/-- The output block at a position and a lane. -/
theorem hV_apply (h : Holds σ D S bef bRow liRow src bLast q k v C n m) (hD : D.Fine) (hS : S.m ≠ ⊤) (t : Fin 128) (e : Fin 256) :
    hV bef bRow src m q k v n C (ix2 (σ t) e) = D.h S t e := by
  pointwise [hV, diagV, fsV]
  rw [sum_diag, ← Equiv.sum_comp σ, wiV_apply h, invV_apply h, hD.h_eq hS]
  simp only [sV_apply h, h.v, h.q, h.C, Dat.fs]
  refine congrArg (_ + _ * ·) (Finset.sum_congr rfl fun d _ => mul_comm _ _)

theorem loginV_apply (h : Holds σ D S bef bRow liRow src bLast q k v C n m) (t : Fin 128) :
    loginV bLast bRow liRow (ix2 0 (σ t)) = D.logIn t := by
  pointwise [loginV]
  rw [h.bLast, h.bRow, h.liRow, Dat.logIn]

/-- The next stabiliser. -/
theorem mnewV_apply (h : Holds σ D S bef bRow liRow src bLast q k v C n m) :
    mnewV bLast bRow liRow m (ix2 0 0) = (D.next S).m := by
  pointwise [mnewV]
  rw [h.bLast, h.m, fold_max_eq, ← sup_perm σ]
  show _ = D.m' S
  rw [Dat.m']
  congr 2
  exact funext fun s => loginV_apply h s

theorem carryV_apply (h : Holds σ D S bef bRow liRow src bLast q k v C n m) :
    carryV bLast bRow liRow m (ix2 0 0) = D.carry S := by
  pointwise [carryV]
  rw [h.bLast, h.m, mnewV_apply h]
  rfl

theorem winV_apply (h : Holds σ D S bef bRow liRow src bLast q k v C n m) (t : Fin 128) :
    winV bLast bRow liRow m (ix2 0 (σ t)) = D.win S t := by
  pointwise [winV]
  rw [loginV_apply h, mnewV_apply h]
  rfl

/-- The next matrix. -/
theorem cnewV_apply (h : Holds σ D S bef bRow liRow src bLast q k v C n m) (e d : Fin 256) :
    cnewV bLast bRow liRow m k v C (ix2 e d) = (D.next S).C e d := by
  pointwise [cnewV, kwV, diagV]
  simp only [sum_diag']
  rw [← Equiv.sum_comp σ, carryV_apply h, h.C]
  simp only [winV_apply h, h.v, h.k]
  exact congrArg (_ + ·) (Finset.sum_congr rfl fun s _ => congrArg (_ * ·) (mul_comm _ _))

/-- The next vector. -/
theorem nnewV_apply (h : Holds σ D S bef bRow liRow src bLast q k v C n m) (d : Fin 256) :
    nnewV bLast bRow liRow m k n (ix2 0 d) = (D.next S).n d := by
  pointwise [nnewV]
  rw [← Equiv.sum_comp σ, carryV_apply h, h.n]
  simp only [winV_apply h, h.k]
  exact congrArg (_ + ·) (Finset.sum_congr rfl fun s _ => mul_comm _ _)

/-! ### The gates -/

theorem preV_apply (x : FVec Ideal S128x128 .f32) (bias : FVec Ideal S1x128 .f32) (t l : Fin 128) :
    preV x bias (ix2 t l) = x (ix2 t l) + bias (ix2 0 l) := by
  pointwise [preV]

theorem forgetLanes_apply (l : Fin 128) : forgetLanes (ix2 0 l) = if 8 ≤ l.val ∧ l.val < 16 then 1#1 else 0#1 := by
  pointwise [forgetLanes]
  revert l
  decide +kernel

/-- The forget gates' lanes hold the logarithm of the sigmoid. -/
theorem glV_forget (x : FVec Ideal S128x128 .f32) (bias : FVec Ideal S1x128 .f32) (t l : Fin 128) (hl : 8 ≤ l.val ∧ l.val < 16) :
    (glV (F := Ideal) x bias (ix2 t l) : EReal) = lsig (x (ix2 t l) + bias (ix2 0 l)) := by
  pointwise [glV]
  rw [forgetLanes_apply, if_pos hl, preV_apply, ← lsig_eq]
  rfl

/-- The other lanes hold the gates as they are. -/
theorem glV_input (x : FVec Ideal S128x128 .f32) (bias : FVec Ideal S1x128 .f32) (t l : Fin 128) (hl : l.val < 8) :
    glV x bias (ix2 t l) = x (ix2 t l) + bias (ix2 0 l) := by
  pointwise [glV]
  rw [forgetLanes_apply, if_neg (by omega), preV_apply]
  rfl

/-- Along a lane that is nowhere plus infinity, the products with the mask are the running sums. -/
theorem bcV_apply (gl : FVec Ideal S128x128 .f32) (l : Fin 128) (hg : ∀ s, gl (ix2 s l) ≠ ⊤)
    (hb : ∀ t s, bef (ix2 (σ t) (σ s)) = if s ≤ t then 1#1 else 0#1) (t : Fin 128) :
    bcV bef gl (ix2 (σ t) l) = ∑ s, if s ≤ t then gl (ix2 (σ s) l) else 0 := by
  pointwise [bcV, maskV, hiV, restV]
  rw [← Finset.sum_add_distrib, ← Finset.sum_add_distrib, ← Equiv.sum_comp σ]
  refine Finset.sum_congr rfl fun s _ => ?_
  rw [hb]
  split_ifs with h
  · have h1 : (FloatOps.sitofp (F := Ideal) FTy.f32 (BitVec.setWidth 32 1#1) : Ideal .f32) = (1 : EReal) := by
      show (((BitVec.setWidth 32 1#1).toInt : ℝ) : EReal) = 1
      rw [show (BitVec.setWidth 32 1#1).toInt = 1 from by decide]; simp
    rw [h1]
    rw [one_mul, one_mul, one_mul]
    exact add_rests (hg _)
  · have h0 : (FloatOps.sitofp (F := Ideal) FTy.f32 (BitVec.setWidth 32 0#1) : Ideal .f32) = (0 : EReal) := by
      show (((BitVec.setWidth 32 0#1).toInt : ℝ) : EReal) = 0
      rw [show (BitVec.setWidth 32 0#1).toInt = 0 from by decide]; simp
    rw [h0]
    rw [zero_mul, zero_mul, zero_mul, add_zero, add_zero]

end Cert.KernelIdeal.Chain

end
-- ==== Proof.Body.lean ====
/-
  What one grid point of the kernel stores, as the functions of `Chain` of the vectors that it loads: eight output
  blocks of each direction, and each scratch array's sixteen parts.
-/
module

public import proofs.«01_k».proof.Proof.Chain
public import proofs.«01_k».proof.Proof.Gen.KernelIdeal.Frame
public import Idealize.ShloMosaic.Lib.Pipeline.ReadBack
public import Idealize.ShloMosaic.Lib.Pipeline.CanonAppend
public import Idealize.ShloMosaic.Lib.Pipeline.ValueKit.Basic

@[expose] public section

noncomputable section

namespace Cert.KernelIdeal.Body

open Idealize.ShloMosaic Idealize.ShloMosaic.TcCoe Idealize.SL.Sem Cert.KernelIdeal Cert.KernelIdeal.Gen Cert.KernelIdeal.Chain

variable {F : FTy → Type} [FloatOps F]

/-- What a grid point loads, by sample of the pair, direction and head. -/
structure Loads (F : FTy → Type) where
  q : Fin 2 → Fin 2 → Fin 4 → Vec F S128x256 .bf16
  k : Fin 2 → Fin 2 → Fin 4 → Vec F S128x256 .bf16
  v : Fin 2 → Fin 2 → Fin 4 → Vec F S128x256 .bf16
  x : Fin 2 → Fin 2 → Vec F S128x128 .f32
  bias : Vec F S1x128 .f32
  C : Fin 2 → Fin 2 → Fin 4 → Vec F S1x1x1x256x256 .f32
  n : Fin 2 → Fin 2 → Fin 4 → Vec F S1x1x1x1x256 .f32
  m : Fin 2 → Fin 2 → Fin 4 → Vec F S1x1x1x1x1 .f32

theorem slices_col (l : ℕ) (h : l < 128) : S128x128.Slices ![0, l] S128x1 :=
  ⟨rfl, fun a => match a with
    | ⟨0, _⟩ => by show 0 + 128 ≤ 128; omega
    | ⟨1, _⟩ => by show l + 1 ≤ 128; omega⟩

theorem slices_row (l : ℕ) (h : l < 128) : S128x128.Slices ![l, 0] S1x128 :=
  ⟨rfl, fun a => match a with
    | ⟨0, _⟩ => by show l + 1 ≤ 128; omega
    | ⟨1, _⟩ => by show 0 + 128 ≤ 128; omega⟩

theorem slices_one (l : ℕ) (h : l < 128) : S128x1.Slices ![l, 0] S1x1 :=
  ⟨rfl, fun a => match a with
    | ⟨0, _⟩ => by show l + 1 ≤ 128; omega
    | ⟨1, _⟩ => by show 0 + 1 ≤ 1; omega⟩

/-- Which positions come before which, in each direction: sources along the rows, and along the columns. -/
def befM (d : Fin 2) : IVec S128x128 1 := ![cmpi .sle rowIx colIx, cmpi .sge rowIx colIx] d
def sumM (d : Fin 2) : IVec S128x128 1 := ![cmpi .sle colIx rowIx, cmpi .sge colIx rowIx] d

/-- The row of a direction's last position. -/
def lastR (d : Fin 2) : ℕ := ![127, 0] d

theorem lastR_lt (d : Fin 2) : lastR d < 128 := by fin_cases d <;> decide

/-- The lane of a direction's and head's input gate; the forget gate's is eight lanes on. -/
def lane (d : Fin 2) (hd : Fin 4) : ℕ := d.val * 4 + hd.val

theorem lane_lt (d : Fin 2) (hd : Fin 4) : lane d hd < 8 := by unfold lane; omega

/-- The parts of the arrays that a head's loads and stores go to. -/
abbrev rowsR (hd : Fin 4) : Rect S128x1024 :=
  Rect.unit (s := S128x1024) ![0, hd.val * 256] S128x256.size fun a => match a with
    | ⟨0, _⟩ => by show 0 + 128 ≤ 128; omega
    | ⟨1, _⟩ => by show hd.val * 256 + 256 ≤ 1024; omega
abbrev hR (g : Fin 2) (hd : Fin 4) : Rect S2x128x1024 :=
  Rect.unit (s := S2x128x1024) ![g.val, 0, hd.val * 256] S1x128x256.size fun a => match a with
    | ⟨0, _⟩ => by show g.val + 1 ≤ 2; omega
    | ⟨1, _⟩ => by show 0 + 128 ≤ 128; omega
    | ⟨2, _⟩ => by show hd.val * 256 + 256 ≤ 1024; omega
abbrev CR (g d : Fin 2) (hd : Fin 4) : Rect S2x2x4x256x256 :=
  Rect.unit (s := S2x2x4x256x256) ![g.val, d.val, hd.val, 0, 0] S1x1x1x256x256.size fun a => match a with
    | ⟨0, _⟩ => by show g.val + 1 ≤ 2; omega
    | ⟨1, _⟩ => by show d.val + 1 ≤ 2; omega
    | ⟨2, _⟩ => by show hd.val + 1 ≤ 4; omega
    | ⟨3, _⟩ => by show 0 + 256 ≤ 256; omega
    | ⟨4, _⟩ => by show 0 + 256 ≤ 256; omega
abbrev nR (g d : Fin 2) (hd : Fin 4) : Rect S2x2x4x1x256 :=
  Rect.unit (s := S2x2x4x1x256) ![g.val, d.val, hd.val, 0, 0] S1x1x1x1x256.size fun a => match a with
    | ⟨0, _⟩ => by show g.val + 1 ≤ 2; omega
    | ⟨1, _⟩ => by show d.val + 1 ≤ 2; omega
    | ⟨2, _⟩ => by show hd.val + 1 ≤ 4; omega
    | ⟨3, _⟩ => by show 0 + 1 ≤ 1; omega
    | ⟨4, _⟩ => by show 0 + 256 ≤ 256; omega
abbrev mR (g d : Fin 2) (hd : Fin 4) : Rect S2x2x4x1x1 :=
  Rect.unit (s := S2x2x4x1x1) ![g.val, d.val, hd.val, 0, 0] S1x1x1x1x1.size fun a => match a with
    | ⟨0, _⟩ => by show g.val + 1 ≤ 2; omega
    | ⟨1, _⟩ => by show d.val + 1 ≤ 2; omega
    | ⟨2, _⟩ => by show hd.val + 1 ≤ 4; omega
    | ⟨3, _⟩ => by show 0 + 1 ≤ 1; omega
    | ⟨4, _⟩ => by show 0 + 1 ≤ 1; omega

namespace Loads

variable (L : Loads F) (g d : Fin 2) (hd : Fin 4)

/-- The gates, and their running sums. -/
def gl : FVec F S128x128 .f32 := glV (L.x g d) L.bias
def bc : FVec F S128x128 .f32 := bcV (sumM d) (L.gl g d)

/-- The running sum of a head's forget gates as a column and as a row, its last value, and the input gates. -/
def bCol : FVec F S128x1 .f32 :=
  extractStridedSlice S128x1 ![0, 8 + lane d hd] (L.bc g d) (slices_col _ (by have := lane_lt d hd; omega))
def src : FVec F S128x1 .f32 :=
  subf (extractStridedSlice S128x1 ![0, lane d hd] (L.gl g d) (slices_col _ (by have := lane_lt d hd; omega))) (L.bCol g d hd)
def liRow : FVec F S1x128 .f32 :=
  extractStridedSlice S1x128 ![lane d hd, 0] (transpose S128x128 [1, 0] (L.gl g d) transposes_S128x128_p1_0_S128x128)
    (slices_row _ (by have := lane_lt d hd; omega))
def bRow : FVec F S1x128 .f32 :=
  extractStridedSlice S1x128 ![8 + lane d hd, 0] (transpose S128x128 [1, 0] (L.bc g d) transposes_S128x128_p1_0_S128x128)
    (slices_row _ (by have := lane_lt d hd; omega))
def bLast : FVec F S1x1 .f32 :=
  extractStridedSlice S1x1 ![lastR d, 0] (L.bCol g d hd) (slices_one _ (lastR_lt d))

/-- The loaded rows and state as matrices. -/
def qM : FVec F S128x256 .bf16 := shapeCast S128x256 (L.q g d hd) shapeCasts_S128x256_S128x256
def kM : FVec F S128x256 .bf16 := shapeCast S128x256 (L.k g d hd) shapeCasts_S128x256_S128x256
def vM : FVec F S128x256 .bf16 := shapeCast S128x256 (L.v g d hd) shapeCasts_S128x256_S128x256
def CM : FVec F S256x256 .f32 := shapeCast S256x256 (L.C g d hd) shapeCasts_S1x1x1x256x256_S256x256
def nM : FVec F S1x256 .f32 := shapeCast S1x256 (L.n g d hd) shapeCasts_S1x1x1x1x256_S1x256
def mM : FVec F S1x1 .f32 := shapeCast S1x1 (L.m g d hd) shapeCasts_S1x1x1x1x1_S1x1

/-- A head's output block and its next state. -/
def hOut : FVec F S128x256 .f32 :=
  hV (befM d) (L.bRow g d hd) (L.src g d hd) (L.mM g d hd) (L.qM g d hd) (L.kM g d hd) (L.vM g d hd) (L.nM g d hd) (L.CM g d hd)
def cOut : FVec F S256x256 .f32 :=
  cnewV (L.bLast g d hd) (L.bRow g d hd) (L.liRow g d hd) (L.mM g d hd) (L.kM g d hd) (L.vM g d hd) (L.CM g d hd)
def nOut : FVec F S1x256 .f32 :=
  nnewV (L.bLast g d hd) (L.bRow g d hd) (L.liRow g d hd) (L.mM g d hd) (L.kM g d hd) (L.nM g d hd)
def mOut : FVec F S1x1 .f32 := mnewV (L.bLast g d hd) (L.bRow g d hd) (L.liRow g d hd) (L.mM g d hd)

/-- The stored pieces: a head's output block, and its part of each scratch array. -/
def hPiece : View.Piece (Elt F) S2x128x1024 .bf16 :=
  ⟨hR g hd,
    shapeCast S1x128x256 (truncf .bf16 (L.hOut g d hd) bitsLt_bf16_f32) shapeCasts_S128x256_S1x128x256⟩
def cPiece : View.Piece (Elt F) S2x2x4x256x256 .f32 :=
  ⟨CR g d hd,
    shapeCast S1x1x1x256x256 (L.cOut g d hd) shapeCasts_S256x256_S1x1x1x256x256⟩
def nPiece : View.Piece (Elt F) S2x2x4x1x256 .f32 :=
  ⟨nR g d hd,
    shapeCast S1x1x1x1x256 (L.nOut g d hd) shapeCasts_S1x256_S1x1x1x1x256⟩
def mPiece : View.Piece (Elt F) S2x2x4x1x1 .f32 :=
  ⟨mR g d hd,
    shapeCast S1x1x1x1x1 (L.mOut g d hd) shapeCasts_S1x1_S1x1x1x1x1⟩

/-- A direction's outputs, the last stored first. -/
def hPieces : List (View.Piece (Elt F) S2x128x1024 .bf16) :=
  [L.hPiece 1 d 3, L.hPiece 1 d 2, L.hPiece 1 d 1, L.hPiece 1 d 0, L.hPiece 0 d 3, L.hPiece 0 d 2, L.hPiece 0 d 1, L.hPiece 0 d 0]

/-- Something of every sample, direction and head, the last first. -/
def each {α : Type} (f : Fin 2 → Fin 2 → Fin 4 → α) : List α :=
  [f 1 1 3, f 1 1 2, f 1 1 1, f 1 1 0, f 1 0 3, f 1 0 2, f 1 0 1, f 1 0 0,
   f 0 1 3, f 0 1 2, f 0 1 1, f 0 1 0, f 0 0 3, f 0 0 2, f 0 0 1, f 0 0 0]

end Loads

/-- The blocks that a point loads from: rows by sample of the pair and direction, gates, bias. -/
structure Blk (F : FTy → Type) where
  q : Fin 2 → Fin 2 → Vec F S128x1024 .bf16
  k : Fin 2 → Fin 2 → Vec F S128x1024 .bf16
  v : Fin 2 → Fin 2 → Vec F S128x1024 .bf16
  x : Fin 2 → Fin 2 → Vec F S128x128 .f32
  bias : Vec F S1x128 .f32

/-- The loads from given blocks and scratch arrays. -/
def Loads.of (B : Blk F) (C : Vec F S2x2x4x256x256 .f32) (n : Vec F S2x2x4x1x256 .f32) (m : Vec F S2x2x4x1x1 .f32) : Loads F where
  q g d hd := View.ld (B.q g d) (rowsR hd)
  k g d hd := View.ld (B.k g d) (rowsR hd)
  v g d hd := View.ld (B.v g d) (rowsR hd)
  x := B.x
  bias := B.bias
  C g d hd := View.ld C (CR g d hd)
  n g d hd := View.ld n (nR g d hd)
  m g d hd := View.ld m (mR g d hd)

/-! ### The runs' pieces -/

section

variable (arg2 : Memref sig .tc .vmem S128x1024 .bf16) (harg2 : arg2.IsWhole)
variable (arg3 : Memref sig .tc .vmem S128x1024 .bf16) (harg3 : arg3.IsWhole)
variable (arg4 : Memref sig .tc .vmem S128x1024 .bf16) (harg4 : arg4.IsWhole)
variable (arg5 : Memref sig .tc .vmem S128x128 .f32) (harg5 : arg5.IsWhole)
variable (arg6 : Memref sig .tc .vmem S128x1024 .bf16) (harg6 : arg6.IsWhole)
variable (arg7 : Memref sig .tc .vmem S128x1024 .bf16) (harg7 : arg7.IsWhole)
variable (arg8 : Memref sig .tc .vmem S128x1024 .bf16) (harg8 : arg8.IsWhole)
variable (arg9 : Memref sig .tc .vmem S128x128 .f32) (harg9 : arg9.IsWhole)
variable (arg10 : Memref sig .tc .vmem S128x1024 .bf16) (harg10 : arg10.IsWhole)
variable (arg11 : Memref sig .tc .vmem S128x1024 .bf16) (harg11 : arg11.IsWhole)
variable (arg12 : Memref sig .tc .vmem S128x1024 .bf16) (harg12 : arg12.IsWhole)
variable (arg13 : Memref sig .tc .vmem S128x128 .f32) (harg13 : arg13.IsWhole)
variable (arg14 : Memref sig .tc .vmem S128x1024 .bf16) (harg14 : arg14.IsWhole)
variable (arg15 : Memref sig .tc .vmem S128x1024 .bf16) (harg15 : arg15.IsWhole)
variable (arg16 : Memref sig .tc .vmem S128x1024 .bf16) (harg16 : arg16.IsWhole)
variable (arg17 : Memref sig .tc .vmem S128x128 .f32) (harg17 : arg17.IsWhole)
variable (arg18 : Memref sig .tc .vmem S1x128 .f32) (harg18 : arg18.IsWhole)
variable (arg19 : Memref sig .tc .vmem S2x128x1024 .bf16) (harg19 : arg19.IsWhole)
variable (arg20 : Memref sig .tc .vmem S2x128x1024 .bf16) (harg20 : arg20.IsWhole)
variable (arg21 : Memref sig .tc .vmem S2x2x4x256x256 .f32) (harg21 : arg21.IsWhole)
variable (arg22 : Memref sig .tc .vmem S2x2x4x1x256 .f32) (harg22 : arg22.IsWhole)
variable (arg23 : Memref sig .tc .vmem S2x2x4x1x1 .f32) (harg23 : arg23.IsWhole)
variable (x0 : Vec F S128x1024 .bf16) (x1 : Vec F S128x1024 .bf16) (x2 : Vec F S128x1024 .bf16) (x3 : Vec F S128x128 .f32) (x4 : Vec F S128x1024 .bf16) (x5 : Vec F S128x1024 .bf16) (x6 : Vec F S128x1024 .bf16) (x7 : Vec F S128x128 .f32) (x8 : Vec F S128x1024 .bf16) (x9 : Vec F S128x1024 .bf16) (x10 : Vec F S128x1024 .bf16) (x11 : Vec F S128x128 .f32) (x12 : Vec F S128x1024 .bf16) (x13 : Vec F S128x1024 .bf16) (x14 : Vec F S128x1024 .bf16) (x15 : Vec F S128x128 .f32) (x16 : Vec F S1x128 .f32)
variable (xs0 : Vec F S2x2x4x256x256 .f32) (xs1 : Vec F S2x2x4x1x256 .f32) (xs2 : Vec F S2x2x4x1x1 .f32)

/-- A head's columns of a block of rows, read out of its buffer. -/
def rdRows (c : Dev nD) (a : Memref sig .tc .vmem S128x1024 .bf16) (h : a.IsWhole) (x : Vec F S128x1024 .bf16) (hd : Fin 4) :
    Vec F S128x256 .bf16 :=
  View.readAt (Elt F) a.view (rowsR hd).toLoadRect (h.unread x)

/-- A whole gate block, and the bias, read out of its buffer. -/
def rdGates (c : Dev nD) (a : Memref sig .tc .vmem S128x128 .f32) (h : a.IsWhole) (x : Vec F S128x128 .f32) : Vec F S128x128 .f32 :=
  View.readAt (Elt F) a.view (Rect.unit (s := S128x128) ![0, 0] S128x128.size (by intro a; fin_cases a <;> simp)).toLoadRect (h.unread x)
def rdBias (c : Dev nD) (a : Memref sig .tc .vmem S1x128 .f32) (h : a.IsWhole) (x : Vec F S1x128 .f32) : Vec F S1x128 .f32 :=
  View.readAt (Elt F) a.view (Rect.unit (s := S1x128) ![0, 0] S1x128.size (by intro a; fin_cases a <;> simp)).toLoadRect (h.unread x)

/-- What a point that is not a run's first loads. -/
def loadsB (c : Dev nD) : Loads F where
  q g d hd := ![![rdRows c arg2 harg2 x0 hd, rdRows c arg6 harg6 x4 hd], ![rdRows c arg10 harg10 x8 hd, rdRows c arg14 harg14 x12 hd]] g d
  k g d hd := ![![rdRows c arg3 harg3 x1 hd, rdRows c arg7 harg7 x5 hd], ![rdRows c arg11 harg11 x9 hd, rdRows c arg15 harg15 x13 hd]] g d
  v g d hd := ![![rdRows c arg4 harg4 x2 hd, rdRows c arg8 harg8 x6 hd], ![rdRows c arg12 harg12 x10 hd, rdRows c arg16 harg16 x14 hd]] g d
  x g d := ![![rdGates c arg5 harg5 x3, rdGates c arg9 harg9 x7], ![rdGates c arg13 harg13 x11, rdGates c arg17 harg17 x15]] g d
  bias := rdBias c arg18 harg18 x16
  C g d hd := View.readAt (Elt F) arg21.view (CR g d hd).toLoadRect (harg21.unread xs0)
  n g d hd := View.readAt (Elt F) arg22.view (nR g d hd).toLoadRect (harg22.unread xs1)
  m g d hd := View.readAt (Elt F) arg23.view (mR g d hd).toLoadRect (harg23.unread xs2)

/-- What a run's first point loads: the scratch arrays just set to zero, its other loads as at any point. -/
def zeroC : View.Piece (Elt F) S2x2x4x256x256 .f32 :=
  ⟨Rect.unit (s := S2x2x4x256x256) ![0, 0, 0, 0, 0] S2x2x4x256x256.size inb_S2x2x4x256x256_S2x2x4x256x256_0_0_0_0_0, k0_pay2⟩
def zeroN : View.Piece (Elt F) S2x2x4x1x256 .f32 :=
  ⟨Rect.unit (s := S2x2x4x1x256) ![0, 0, 0, 0, 0] S2x2x4x1x256.size inb_S2x2x4x1x256_S2x2x4x1x256_0_0_0_0_0, k0_pay3⟩
def zeroM : View.Piece (Elt F) S2x2x4x1x1 .f32 :=
  ⟨Rect.unit (s := S2x2x4x1x1) ![0, 0, 0, 0, 0] S2x2x4x1x1.size inb_S2x2x4x1x1_S2x2x4x1x1_0_0_0_0_0, k0_pay4⟩
def loadsA (c : Dev nD) : Loads F :=
  { loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 k0_pay2 k0_pay3 k0_pay4 c with
    C := fun g d hd => arg21.view.readCov [zeroC] (CR g d hd).toLoadRect
    n := fun g d hd => arg22.view.readCov [zeroN] (nR g d hd).toLoadRect
    m := fun g d hd => arg23.view.readCov [zeroM] (mR g d hd).toLoadRect }

theorem pieces_17_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2).1 = (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c).hPieces 0 := by
  sl_kernel_rfl

theorem pieces_18_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2).2.1 = (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c).hPieces 1 := by
  sl_kernel_rfl

theorem pieces_C_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2).2.2.1 = Loads.each (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c).cPiece := by
  sl_kernel_rfl

theorem pieces_n_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2).2.2.2.1 = Loads.each (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c).nPiece := by
  sl_kernel_rfl

theorem pieces_m_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2).2.2.2.2.1 = Loads.each (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c).mPiece := by
  sl_kernel_rfl

theorem pieces_17_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).1 = (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c).hPieces 0 := by
  sl_kernel_rfl

theorem pieces_18_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.1 = (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c).hPieces 1 := by
  sl_kernel_rfl

theorem pieces_C_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.1 = Loads.each (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c).cPiece ++ [zeroC] := by
  sl_kernel_rfl

theorem pieces_n_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.1 = Loads.each (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c).nPiece ++ [zeroN] := by
  sl_kernel_rfl

theorem pieces_m_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16).2.2.2.2.1 = Loads.each (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c).mPiece ++ [zeroM] := by
  sl_kernel_rfl

/-- The blocks, in the order of the arguments. -/
def blkOf : Blk F where
  q g d := ![![x0, x4], ![x8, x12]] g d
  k g d := ![![x1, x5], ![x9, x13]] g d
  v g d := ![![x2, x6], ![x10, x14]] g d
  x g d := ![![x3, x7], ![x11, x15]] g d
  bias := x16

theorem rdRows_eq (c : Dev nD) (a : Memref sig .tc .vmem S128x1024 .bf16) (h : a.IsWhole) (x : Vec F S128x1024 .bf16) (hd : Fin 4) :
    rdRows c a h x hd = View.ld x (rowsR hd) := by
  unfold rdRows
  rw [View.readAt_eq_ld, h.read_unread]

theorem rdGates_eq (c : Dev nD) (a : Memref sig .tc .vmem S128x128 .f32) (h : a.IsWhole) (x : Vec F S128x128 .f32) :
    rdGates c a h x = x := by
  unfold rdGates
  rw [View.readAt_eq_ld, h.read_unread]
  exact View.ld_unit_lit _ x (by decide)

theorem rdBias_eq (c : Dev nD) (a : Memref sig .tc .vmem S1x128 .f32) (h : a.IsWhole) (x : Vec F S1x128 .f32) :
    rdBias c a h x = x := by
  unfold rdBias
  rw [View.readAt_eq_ld, h.read_unread]
  exact View.ld_unit_lit _ x (by decide)

theorem zeroC_read (v : View sig .tc .vmem S2x2x4x256x256 .f32) (g d : Fin 2) (hd : Fin 4) :
    v.readCov [zeroC (F := F)] (CR g d hd).toLoadRect = View.ld (k0_pay2 (F := F)) (CR g d hd) :=
  View.readCov_fill v _ _ [] _ (by decide)

theorem zeroN_read (v : View sig .tc .vmem S2x2x4x1x256 .f32) (g d : Fin 2) (hd : Fin 4) :
    v.readCov [zeroN (F := F)] (nR g d hd).toLoadRect = View.ld (k0_pay3 (F := F)) (nR g d hd) :=
  View.readCov_fill v _ _ [] _ (by decide)

theorem zeroM_read (v : View sig .tc .vmem S2x2x4x1x1 .f32) (g d : Fin 2) (hd : Fin 4) :
    v.readCov [zeroM (F := F)] (mR g d hd).toLoadRect = View.ld (k0_pay4 (F := F)) (mR g d hd) :=
  View.readCov_fill v _ _ [] _ (by decide)

theorem loadsB_eq (c : Dev nD) :
    (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 xs0 xs1 xs2 c) = Loads.of (blkOf x0 x1 x2 x3 x4 x5 x6 x7 x8 x9 x10 x11 x12 x13 x14 x15 x16) xs0 xs1 xs2 := by
  unfold loadsB Loads.of blkOf
  simp only [rdRows_eq, rdGates_eq, rdBias_eq, View.readAt_eq_ld, harg21.read_unread, harg22.read_unread, harg23.read_unread]
  congr 1 <;> (funext g d hd; fin_cases g <;> fin_cases d <;> rfl)

theorem loadsA_eq (c : Dev nD) :
    (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg21 harg21 arg22 harg22 arg23 harg23 x0 x1 x2 x3 x4 x5 x6 x7 x8 x9 x10 x11 x12 x13 x14 x15 x16 c) = Loads.of (blkOf x0 x1 x2 x3 x4 x5 x6 x7 x8 x9 x10 x11 x12 x13 x14 x15 x16) k0_pay2 k0_pay3 k0_pay4 := by
  unfold loadsA
  rw [loadsB_eq]
  simp only [zeroC_read, zeroN_read, zeroM_read]
  rfl

end

end Cert.KernelIdeal.Body

end
-- ==== Proof.Point.lean ====
/-
  What one grid point leaves: the two output blocks and the three scratch arrays, at every index.
-/
module

public import proofs.«01_k».proof.Proof.Body
public import Idealize.ShloMosaic.Lib.Pointwise

@[expose] public section

noncomputable section

namespace Cert.KernelIdeal.Body

open Idealize.ShloMosaic Idealize.ShloMosaic.TcCoe Idealize.SL.Sem Cert.KernelIdeal Cert.KernelIdeal.Gen Cert.KernelIdeal.Chain

variable {F : FTy → Type} [FloatOps F]

namespace Loads

variable (L : Loads F)

/-- A direction's output block: heads side by side along the columns. -/
def hArr (d : Fin 2) : Vec F S2x128x1024 .bf16 := fun y =>
  truncf .bf16 (L.hOut ⟨(y 0).val, (y 0).isLt⟩ d ⟨(y 2).val / 256, by have : (y 2).val < 1024 := (y 2).isLt; omega⟩) bitsLt_bf16_f32
    (ix2 ⟨(y 1).val, (y 1).isLt⟩ ⟨(y 2).val % 256, by omega⟩)

/-- The scratch arrays: every head's next state. -/
def cArr : Vec F S2x2x4x256x256 .f32 := fun y =>
  L.cOut ⟨(y 0).val, (y 0).isLt⟩ ⟨(y 1).val, (y 1).isLt⟩ ⟨(y 2).val, (y 2).isLt⟩ (ix2 ⟨(y 3).val, (y 3).isLt⟩ ⟨(y 4).val, (y 4).isLt⟩)
def nArr : Vec F S2x2x4x1x256 .f32 := fun y =>
  L.nOut ⟨(y 0).val, (y 0).isLt⟩ ⟨(y 1).val, (y 1).isLt⟩ ⟨(y 2).val, (y 2).isLt⟩ (ix2 0 ⟨(y 4).val, (y 4).isLt⟩)
def mArr : Vec F S2x2x4x1x1 .f32 := fun y =>
  L.mOut ⟨(y 0).val, (y 0).isLt⟩ ⟨(y 1).val, (y 1).isLt⟩ ⟨(y 2).val, (y 2).isLt⟩ (ix2 0 0)

theorem mem_each {α : Type} (f : Fin 2 → Fin 2 → Fin 4 → α) (g d : Fin 2) (hd : Fin 4) : f g d hd ∈ each f := by
  unfold each
  fin_cases g <;> fin_cases d <;> fin_cases hd <;> simp

theorem of_mem_each {α : Type} {f : Fin 2 → Fin 2 → Fin 4 → α} {p : α} (h : p ∈ each f) : ∃ g d hd, p = f g d hd := by
  unfold each at h
  simp only [List.mem_cons, List.not_mem_nil, or_false] at h
  rcases h with h | h | h | h | h | h | h | h | h | h | h | h | h | h | h | h <;> exact ⟨_, _, _, h⟩

theorem mem_hPieces (g d : Fin 2) (hd : Fin 4) : L.hPiece g d hd ∈ L.hPieces d := by
  unfold hPieces
  fin_cases g <;> fin_cases hd <;> simp

theorem of_mem_hPieces {d : Fin 2} {p : View.Piece (Elt F) S2x128x1024 .bf16} (h : p ∈ L.hPieces d) : ∃ g hd, p = L.hPiece g d hd := by
  unfold hPieces at h
  simp only [List.mem_cons, List.not_mem_nil, or_false] at h
  rcases h with h | h | h | h | h | h | h | h <;> exact ⟨_, _, h⟩

theorem hR_emb (g : Fin 2) (hd : Fin 4) (x : S1x128x256.Idx) :
    (hR g hd).emb x = (ix3 g (x 1) (⟨hd.val * 256 + (x 2).val, by have : (x 2).val < 256 := (x 2).isLt; omega⟩ : Fin 1024) : S2x128x1024.Idx) := by
  funext a
  apply Fin.ext
  have h0 : (x 0).val < 1 := (x 0).isLt
  match a with
  | ⟨0, _⟩ => show g.val + 1 * (x 0).val = g.val; omega
  | ⟨1, _⟩ => show 0 + 1 * (x 1).val = (x 1).val; omega
  | ⟨2, _⟩ => show hd.val * 256 + 1 * (x 2).val = hd.val * 256 + (x 2).val; omega

theorem hPiece_apply (g d : Fin 2) (hd : Fin 4) (x : S1x128x256.Idx) :
    (L.hPiece g d hd).2 x = L.hArr d ((hR g hd).emb x) := by
  rw [hR_emb]
  have h2 : (x 2).val < 256 := (x 2).isLt
  have e1 : (⟨(hd.val * 256 + (x 2).val) / 256, by omega⟩ : Fin 4) = hd := Fin.ext (by show (hd.val * 256 + (x 2).val) / 256 = hd.val; omega)
  have e2 : (⟨(hd.val * 256 + (x 2).val) % 256, by omega⟩ : Fin 256) = x 2 := Fin.ext (by show (hd.val * 256 + (x 2).val) % 256 = (x 2).val; omega)
  show shapeCast S1x128x256 (truncf .bf16 (L.hOut g d hd) bitsLt_bf16_f32) shapeCasts_S128x256_S1x128x256 x
    = truncf .bf16 (L.hOut g d ⟨(hd.val * 256 + (x 2).val) / 256, _⟩) bitsLt_bf16_f32 (ix2 (x 1) ⟨(hd.val * 256 + (x 2).val) % 256, _⟩)
  rw [e1, e2]
  generalize truncf .bf16 (L.hOut g d hd) bitsLt_bf16_f32 = w
  idx_vars x
  pointwise []

theorem canon_h (d : Fin 2) : View.canon (L.hPieces d) = L.hArr d := by
  funext y
  refine View.canon_apply_of_pieces (L.hArr d) _ (fun p hp x => ?_) y ?_
  · obtain ⟨g, hd, rfl⟩ := L.of_mem_hPieces hp
    exact L.hPiece_apply g d hd x
  · have h2 : (y 2).val < 1024 := (y 2).isLt
    refine ⟨_, L.mem_hPieces ⟨(y 0).val, (y 0).isLt⟩ d ⟨(y 2).val / 256, by omega⟩, ?_⟩
    show y ∈ (hR _ _).set
    rw [Rect.mem_set_unit]
    intro a
    match a with
    | ⟨0, _⟩ => show (y 0).val ≤ (y 0).val ∧ (y 0).val < (y 0).val + 1; omega
    | ⟨1, _⟩ => show 0 ≤ (y 1).val ∧ (y 1).val < 0 + 128; exact ⟨Nat.zero_le _, by rw [Nat.zero_add]; exact (y 1).isLt⟩
    | ⟨2, _⟩ => show (y 2).val / 256 * 256 ≤ (y 2).val ∧ (y 2).val < (y 2).val / 256 * 256 + 256; omega

theorem CR_emb (g d : Fin 2) (hd : Fin 4) (x : S1x1x1x256x256.Idx) :
    (CR g d hd).emb x = (ix5 g d hd (x 3) (x 4) : S2x2x4x256x256.Idx) := by
  funext a
  apply Fin.ext
  have h0 : (x 0).val < 1 := (x 0).isLt
  have h1 : (x 1).val < 1 := (x 1).isLt
  have h2 : (x 2).val < 1 := (x 2).isLt
  match a with
  | ⟨0, _⟩ => show g.val + 1 * (x 0).val = g.val; omega
  | ⟨1, _⟩ => show d.val + 1 * (x 1).val = d.val; omega
  | ⟨2, _⟩ => show hd.val + 1 * (x 2).val = hd.val; omega
  | ⟨3, _⟩ => show 0 + 1 * (x 3).val = (x 3).val; omega
  | ⟨4, _⟩ => show 0 + 1 * (x 4).val = (x 4).val; omega

theorem cPiece_apply (g d : Fin 2) (hd : Fin 4) (x : S1x1x1x256x256.Idx) :
    (L.cPiece g d hd).2 x = L.cArr ((CR g d hd).emb x) := by
  rw [CR_emb]
  show shapeCast S1x1x1x256x256 (L.cOut g d hd) shapeCasts_S256x256_S1x1x1x256x256 x = L.cOut g d hd (ix2 (x 3) (x 4))
  generalize L.cOut g d hd = w
  idx_vars x
  pointwise []

theorem canon_c (R : List (View.Piece (Elt F) S2x2x4x256x256 .f32)) : View.canon (each L.cPiece ++ R) = L.cArr := by
  funext y
  refine View.canon_append_of_pieces L.cArr _ _ (fun p hp x => ?_) y ?_
  · obtain ⟨g, d, hd, rfl⟩ := of_mem_each hp
    exact L.cPiece_apply g d hd x
  · refine ⟨_, mem_each L.cPiece ⟨(y 0).val, (y 0).isLt⟩ ⟨(y 1).val, (y 1).isLt⟩ ⟨(y 2).val, (y 2).isLt⟩, ?_⟩
    show y ∈ (CR _ _ _).set
    rw [Rect.mem_set_unit]
    intro a
    match a with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show (y 2).val ≤ (y 2).val ∧ (y 2).val < (y 2).val + 1; omega
    | ⟨3, _⟩ => show 0 ≤ (y 3).val ∧ (y 3).val < 0 + 256; exact ⟨Nat.zero_le _, by rw [Nat.zero_add]; exact (y 3).isLt⟩
    | ⟨4, _⟩ => show 0 ≤ (y 4).val ∧ (y 4).val < 0 + 256; exact ⟨Nat.zero_le _, by rw [Nat.zero_add]; exact (y 4).isLt⟩

theorem nR_emb (g d : Fin 2) (hd : Fin 4) (x : S1x1x1x1x256.Idx) :
    (nR g d hd).emb x = (ix5 g d hd ((0 : Fin 1)) (x 4) : S2x2x4x1x256.Idx) := by
  funext a
  apply Fin.ext
  have h0 : (x 0).val < 1 := (x 0).isLt
  have h1 : (x 1).val < 1 := (x 1).isLt
  have h2 : (x 2).val < 1 := (x 2).isLt
  match a with
  | ⟨0, _⟩ => show g.val + 1 * (x 0).val = g.val; omega
  | ⟨1, _⟩ => show d.val + 1 * (x 1).val = d.val; omega
  | ⟨2, _⟩ => show hd.val + 1 * (x 2).val = hd.val; omega
  | ⟨3, _⟩ => show 0 + 1 * (x 3).val = 0; have : (x 3).val < 1 := (x 3).isLt; omega
  | ⟨4, _⟩ => show 0 + 1 * (x 4).val = (x 4).val; omega

theorem nPiece_apply (g d : Fin 2) (hd : Fin 4) (x : S1x1x1x1x256.Idx) :
    (L.nPiece g d hd).2 x = L.nArr ((nR g d hd).emb x) := by
  rw [nR_emb]
  show shapeCast S1x1x1x1x256 (L.nOut g d hd) shapeCasts_S1x256_S1x1x1x1x256 x = L.nOut g d hd (ix2 0 (x 4))
  generalize L.nOut g d hd = w
  idx_vars x
  pointwise []

theorem canon_n (R : List (View.Piece (Elt F) S2x2x4x1x256 .f32)) : View.canon (each L.nPiece ++ R) = L.nArr := by
  funext y
  refine View.canon_append_of_pieces L.nArr _ _ (fun p hp x => ?_) y ?_
  · obtain ⟨g, d, hd, rfl⟩ := of_mem_each hp
    exact L.nPiece_apply g d hd x
  · refine ⟨_, mem_each L.nPiece ⟨(y 0).val, (y 0).isLt⟩ ⟨(y 1).val, (y 1).isLt⟩ ⟨(y 2).val, (y 2).isLt⟩, ?_⟩
    show y ∈ (nR _ _ _).set
    rw [Rect.mem_set_unit]
    intro a
    match a with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show (y 2).val ≤ (y 2).val ∧ (y 2).val < (y 2).val + 1; omega
    | ⟨3, _⟩ => show 0 ≤ (y 3).val ∧ (y 3).val < 0 + 1; exact ⟨Nat.zero_le _, by rw [Nat.zero_add]; exact (y 3).isLt⟩
    | ⟨4, _⟩ => show 0 ≤ (y 4).val ∧ (y 4).val < 0 + 256; exact ⟨Nat.zero_le _, by rw [Nat.zero_add]; exact (y 4).isLt⟩

theorem mR_emb (g d : Fin 2) (hd : Fin 4) (x : S1x1x1x1x1.Idx) :
    (mR g d hd).emb x = (ix5 g d hd ((0 : Fin 1)) ((0 : Fin 1)) : S2x2x4x1x1.Idx) := by
  funext a
  apply Fin.ext
  have h0 : (x 0).val < 1 := (x 0).isLt
  have h1 : (x 1).val < 1 := (x 1).isLt
  have h2 : (x 2).val < 1 := (x 2).isLt
  match a with
  | ⟨0, _⟩ => show g.val + 1 * (x 0).val = g.val; omega
  | ⟨1, _⟩ => show d.val + 1 * (x 1).val = d.val; omega
  | ⟨2, _⟩ => show hd.val + 1 * (x 2).val = hd.val; omega
  | ⟨3, _⟩ => show 0 + 1 * (x 3).val = 0; have : (x 3).val < 1 := (x 3).isLt; omega
  | ⟨4, _⟩ => show 0 + 1 * (x 4).val = 0; have : (x 4).val < 1 := (x 4).isLt; omega

theorem mPiece_apply (g d : Fin 2) (hd : Fin 4) (x : S1x1x1x1x1.Idx) :
    (L.mPiece g d hd).2 x = L.mArr ((mR g d hd).emb x) := by
  rw [mR_emb]
  show shapeCast S1x1x1x1x1 (L.mOut g d hd) shapeCasts_S1x1_S1x1x1x1x1 x = L.mOut g d hd (ix2 0 0)
  generalize L.mOut g d hd = w
  idx_vars x
  pointwise []

theorem canon_m (R : List (View.Piece (Elt F) S2x2x4x1x1 .f32)) : View.canon (each L.mPiece ++ R) = L.mArr := by
  funext y
  refine View.canon_append_of_pieces L.mArr _ _ (fun p hp x => ?_) y ?_
  · obtain ⟨g, d, hd, rfl⟩ := of_mem_each hp
    exact L.mPiece_apply g d hd x
  · refine ⟨_, mem_each L.mPiece ⟨(y 0).val, (y 0).isLt⟩ ⟨(y 1).val, (y 1).isLt⟩ ⟨(y 2).val, (y 2).isLt⟩, ?_⟩
    show y ∈ (mR _ _ _).set
    rw [Rect.mem_set_unit]
    intro a
    match a with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show (y 2).val ≤ (y 2).val ∧ (y 2).val < (y 2).val + 1; omega
    | ⟨3, _⟩ => show 0 ≤ (y 3).val ∧ (y 3).val < 0 + 1; exact ⟨Nat.zero_le _, by rw [Nat.zero_add]; exact (y 3).isLt⟩
    | ⟨4, _⟩ => show 0 ≤ (y 4).val ∧ (y 4).val < 0 + 1; exact ⟨Nat.zero_le _, by rw [Nat.zero_add]; exact (y 4).isLt⟩

/-- All that a point with these loads leaves. -/
def all : Vec F S2x128x1024 .bf16 × Vec F S2x128x1024 .bf16 × Vec F S2x2x4x256x256 .f32 × Vec F S2x2x4x1x256 .f32 × Vec F S2x2x4x1x1 .f32 :=
  (L.hArr 0, L.hArr 1, L.cArr, L.nArr, L.mArr)

end Loads

section

variable (arg2 : Memref sig .tc .vmem S128x1024 .bf16) (harg2 : arg2.IsWhole)
variable (arg3 : Memref sig .tc .vmem S128x1024 .bf16) (harg3 : arg3.IsWhole)
variable (arg4 : Memref sig .tc .vmem S128x1024 .bf16) (harg4 : arg4.IsWhole)
variable (arg5 : Memref sig .tc .vmem S128x128 .f32) (harg5 : arg5.IsWhole)
variable (arg6 : Memref sig .tc .vmem S128x1024 .bf16) (harg6 : arg6.IsWhole)
variable (arg7 : Memref sig .tc .vmem S128x1024 .bf16) (harg7 : arg7.IsWhole)
variable (arg8 : Memref sig .tc .vmem S128x1024 .bf16) (harg8 : arg8.IsWhole)
variable (arg9 : Memref sig .tc .vmem S128x128 .f32) (harg9 : arg9.IsWhole)
variable (arg10 : Memref sig .tc .vmem S128x1024 .bf16) (harg10 : arg10.IsWhole)
variable (arg11 : Memref sig .tc .vmem S128x1024 .bf16) (harg11 : arg11.IsWhole)
variable (arg12 : Memref sig .tc .vmem S128x1024 .bf16) (harg12 : arg12.IsWhole)
variable (arg13 : Memref sig .tc .vmem S128x128 .f32) (harg13 : arg13.IsWhole)
variable (arg14 : Memref sig .tc .vmem S128x1024 .bf16) (harg14 : arg14.IsWhole)
variable (arg15 : Memref sig .tc .vmem S128x1024 .bf16) (harg15 : arg15.IsWhole)
variable (arg16 : Memref sig .tc .vmem S128x1024 .bf16) (harg16 : arg16.IsWhole)
variable (arg17 : Memref sig .tc .vmem S128x128 .f32) (harg17 : arg17.IsWhole)
variable (arg18 : Memref sig .tc .vmem S1x128 .f32) (harg18 : arg18.IsWhole)
variable (arg19 : Memref sig .tc .vmem S2x128x1024 .bf16) (harg19 : arg19.IsWhole)
variable (arg20 : Memref sig .tc .vmem S2x128x1024 .bf16) (harg20 : arg20.IsWhole)
variable (arg21 : Memref sig .tc .vmem S2x2x4x256x256 .f32) (harg21 : arg21.IsWhole)
variable (arg22 : Memref sig .tc .vmem S2x2x4x1x256 .f32) (harg22 : arg22.IsWhole)
variable (arg23 : Memref sig .tc .vmem S2x2x4x1x1 .f32) (harg23 : arg23.IsWhole)
variable (x0 : Vec F S128x1024 .bf16) (x1 : Vec F S128x1024 .bf16) (x2 : Vec F S128x1024 .bf16) (x3 : Vec F S128x128 .f32) (x4 : Vec F S128x1024 .bf16) (x5 : Vec F S128x1024 .bf16) (x6 : Vec F S128x1024 .bf16) (x7 : Vec F S128x128 .f32) (x8 : Vec F S128x1024 .bf16) (x9 : Vec F S128x1024 .bf16) (x10 : Vec F S128x1024 .bf16) (x11 : Vec F S128x128 .f32) (x12 : Vec F S128x1024 .bf16) (x13 : Vec F S128x1024 .bf16) (x14 : Vec F S128x1024 .bf16) (x15 : Vec F S128x128 .f32) (x16 : Vec F S1x128 .f32)
variable (xs0 : Vec F S2x2x4x256x256 .f32) (xs1 : Vec F S2x2x4x1x256 .f32) (xs2 : Vec F S2x2x4x1x1 .f32)

theorem out0_B_17_eq (c : Dev nD) (i : grid0.Coords) (hc0 : ¬cond0_0 i) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2 = (Loads.of (blkOf x0 x1 x2 x3 x4 x5 x6 x7 x8 x9 x10 x11 x12 x13 x14 x15 x16) xs0 xs1 xs2).hArr 0 := by
  unfold out0_B_17
  rw [View.read_writes_junk_eq_canon, pieces_17_B, loadsB_eq]
  exact Loads.canon_h _ _

theorem out0_B_18_eq (c : Dev nD) (i : grid0.Coords) (hc0 : ¬cond0_0 i) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2 = (Loads.of (blkOf x0 x1 x2 x3 x4 x5 x6 x7 x8 x9 x10 x11 x12 x13 x14 x15 x16) xs0 xs1 xs2).hArr 1 := by
  unfold out0_B_18
  rw [View.read_writes_junk_eq_canon, pieces_18_B, loadsB_eq]
  exact Loads.canon_h _ _

theorem sout0_B_0_eq (c : Dev nD) (i : grid0.Coords) (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2 = (Loads.of (blkOf x0 x1 x2 x3 x4 x5 x6 x7 x8 x9 x10 x11 x12 x13 x14 x15 x16) xs0 xs1 xs2).cArr := by
  unfold sout0_B_0
  rw [View.read_writes_junk_eq_canon, pieces_C_B, loadsB_eq]
  conv_lhs => rw [← List.append_nil (Loads.each _)]
  exact Loads.canon_c _ _

theorem sout0_B_1_eq (c : Dev nD) (i : grid0.Coords) (hc0 : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2 = (Loads.of (blkOf x0 x1 x2 x3 x4 x5 x6 x7 x8 x9 x10 x11 x12 x13 x14 x15 x16) xs0 xs1 xs2).nArr := by
  unfold sout0_B_1
  rw [View.read_writes_junk_eq_canon, pieces_n_B, loadsB_eq]
  conv_lhs => rw [← List.append_nil (Loads.each _)]
  exact Loads.canon_n _ _

theorem sout0_B_2_eq (c : Dev nD) (i : grid0.Coords) (hc0 : ¬cond0_0 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 xs0 xs1 xs2 = (Loads.of (blkOf x0 x1 x2 x3 x4 x5 x6 x7 x8 x9 x10 x11 x12 x13 x14 x15 x16) xs0 xs1 xs2).mArr := by
  unfold sout0_B_2
  rw [View.read_writes_junk_eq_canon, pieces_m_B, loadsB_eq]
  conv_lhs => rw [← List.append_nil (Loads.each _)]
  exact Loads.canon_m _ _

theorem out0_A_17_eq (c : Dev nD) (i : grid0.Coords) (hc0 : cond0_0 i) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 = (Loads.of (blkOf x0 x1 x2 x3 x4 x5 x6 x7 x8 x9 x10 x11 x12 x13 x14 x15 x16) k0_pay2 k0_pay3 k0_pay4).hArr 0 := by
  unfold out0_A_17
  rw [View.read_writes_junk_eq_canon, pieces_17_A, loadsA_eq]
  exact Loads.canon_h _ _

theorem out0_A_18_eq (c : Dev nD) (i : grid0.Coords) (hc0 : cond0_0 i) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 = (Loads.of (blkOf x0 x1 x2 x3 x4 x5 x6 x7 x8 x9 x10 x11 x12 x13 x14 x15 x16) k0_pay2 k0_pay3 k0_pay4).hArr 1 := by
  unfold out0_A_18
  rw [View.read_writes_junk_eq_canon, pieces_18_A, loadsA_eq]
  exact Loads.canon_h _ _

theorem sout0_A_0_eq (c : Dev nD) (i : grid0.Coords) (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 = (Loads.of (blkOf x0 x1 x2 x3 x4 x5 x6 x7 x8 x9 x10 x11 x12 x13 x14 x15 x16) k0_pay2 k0_pay3 k0_pay4).cArr := by
  unfold sout0_A_0
  rw [View.read_writes_junk_eq_canon, pieces_C_A, loadsA_eq]
  exact Loads.canon_c _ _

theorem sout0_A_1_eq (c : Dev nD) (i : grid0.Coords) (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 = (Loads.of (blkOf x0 x1 x2 x3 x4 x5 x6 x7 x8 x9 x10 x11 x12 x13 x14 x15 x16) k0_pay2 k0_pay3 k0_pay4).nArr := by
  unfold sout0_A_1
  rw [View.read_writes_junk_eq_canon, pieces_n_A, loadsA_eq]
  exact Loads.canon_n _ _

theorem sout0_A_2_eq (c : Dev nD) (i : grid0.Coords) (hc0 : cond0_0 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 = (Loads.of (blkOf x0 x1 x2 x3 x4 x5 x6 x7 x8 x9 x10 x11 x12 x13 x14 x15 x16) k0_pay2 k0_pay3 k0_pay4).mArr := by
  unfold sout0_A_2
  rw [View.read_writes_junk_eq_canon, pieces_m_A, loadsA_eq]
  exact Loads.canon_m _ _

end

section

variable (m : (ℓ : Loc nD τ sig) → Buf (Elt F) ℓ)

/-- The blocks that point `t` loads from. -/
def blkAt (c : Dev nD) (t : Fin cfg0.N) : Blk F :=
  blkOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- A run's first point starts from zero. -/
theorem outsAt_A (c : Dev nD) (t : Fin cfg0.N) (h0 : t.val % 66 = 0) :
    outsAt0 m c t.val t.isLt = (Loads.of (blkAt m c t) k0_pay2 k0_pay3 k0_pay4).all := by
  rw [outsAt0_A m c t h0]
  simp only [out0_A_17_eq, out0_A_18_eq, sout0_A_0_eq, sout0_A_1_eq, sout0_A_2_eq]
  rfl

/-- Every other point goes on from what the one before it left. -/
theorem outsAt_B (c : Dev nD) (t : Fin cfg0.N) (h0 : ¬t.val % 66 = 0) :
    outsAt0 m c t.val t.isLt = (Loads.of (blkAt m c t) (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2).all := by
  rw [outsAt0_B m c t h0]
  simp only [out0_B_17_eq, out0_B_18_eq, sout0_B_0_eq, sout0_B_1_eq, sout0_B_2_eq]
  rfl

end

end Cert.KernelIdeal.Body

end
-- ==== Proof.Holds.lean ====
/-
  The vectors of a grid point, over the extended reals, hold a chunk and a state where its blocks and scratch arrays do.
-/
module

public import proofs.«01_k».proof.Proof.ChainValue
public import proofs.«01_k».proof.Proof.Point
public import proofs.«01_k».proof.Proof.Data

@[expose] public section

noncomputable section

namespace Cert.KernelIdeal.Body

open Idealize.ShloMosaic Idealize.ShloMosaic.TcCoe Idealize.SL.Sem Cert.KernelIdeal Cert.KernelIdeal.Gen Cert.KernelIdeal.Chain Cert.Mlstm

/-- The order of a block's rows: the second direction runs from the last row to the first. -/
def ord (d : Fin 2) : Equiv.Perm (Fin 128) := ![Equiv.refl _, Fin.revPerm] d

theorem ord_zero (t : Fin 128) : ord 0 t = t := rfl
theorem ord_one (t : Fin 128) : ord 1 t = t.rev := rfl

theorem befM_apply (d : Fin 2) (s t : Fin 128) : befM d (ix2 (ord d s) (ord d t)) = if s ≤ t then 1#1 else 0#1 := by
  fin_cases d
  · exact bef0_apply s t
  · refine (bef1_apply s.rev t.rev).trans (if_congr Fin.rev_le_rev rfl rfl)

theorem sumM_apply (d : Fin 2) (t s : Fin 128) : sumM d (ix2 (ord d t) (ord d s)) = if s ≤ t then 1#1 else 0#1 := by
  fin_cases d
  · exact sum0_apply t s
  · refine (sum1_apply t.rev s.rev).trans (if_congr Fin.rev_le_rev rfl rfl)

theorem lastR_eq (d : Fin 2) : lastR d = (ord d 127).val := by fin_cases d <;> rfl

/-- Stored parts as matrices. -/
theorem cast_C (w : Vec Ideal S1x1x1x256x256 .f32) (e e' : Fin 256) :
    shapeCast S256x256 w shapeCasts_S1x1x1x256x256_S256x256 (ix2 e e') = w (ix5 0 0 0 e e') := by
  pointwise []
theorem cast_n (w : Vec Ideal S1x1x1x1x256 .f32) (e : Fin 256) :
    shapeCast S1x256 w shapeCasts_S1x1x1x1x256_S1x256 (ix2 0 e) = w (ix5 0 0 0 0 e) := by
  pointwise []

variable (B : Blk Ideal) (C : Vec Ideal S2x2x4x256x256 .f32) (n : Vec Ideal S2x2x4x1x256 .f32) (m : Vec Ideal S2x2x4x1x1 .f32)
variable (g d : Fin 2) (hd : Fin 4) (D : Dat) (S : Sta)

/-- The blocks and scratch arrays hold, of one sample of the pair, direction and head, a chunk and a state. -/
structure Given : Prop where
  q : ∀ t e, B.q g d (ix2 (ord d t) (headCol hd e)) = D.q t e
  k : ∀ t e, B.k g d (ix2 (ord d t) (headCol hd e)) = D.k t e
  v : ∀ t e, B.v g d (ix2 (ord d t) (headCol hd e)) = D.v t e
  li : ∀ t, (B.x g d (ix2 (ord d t) ⟨lane d hd, by have := lane_lt d hd; omega⟩) : EReal)
    + B.bias (ix2 0 ⟨lane d hd, by have := lane_lt d hd; omega⟩) = D.li t
  lf : ∀ t, lsig ((B.x g d (ix2 (ord d t) ⟨8 + lane d hd, by have := lane_lt d hd; omega⟩) : EReal)
    + B.bias (ix2 0 ⟨8 + lane d hd, by have := lane_lt d hd; omega⟩)) = D.lf t
  C : ∀ e e', C (ix5 g d hd e e') = S.C e e'
  n : ∀ e, n (ix5 g d hd 0 e) = S.n e
  m : m (ix5 g d hd 0 0) = S.m

variable {B C n m g d hd D S}

theorem Given.gl_forget (h : Given B C n m g d hd D S) (t : Fin 128) :
    (Loads.of B C n m).gl g d (ix2 (ord d t) ⟨8 + lane d hd, by have := lane_lt d hd; omega⟩) = D.lf t := by
  have hl := lane_lt d hd
  exact (glV_forget _ _ _ _ ⟨by show 8 ≤ 8 + lane d hd; omega, by show 8 + lane d hd < 16; omega⟩).trans (h.lf t)

theorem Given.gl_input (h : Given B C n m g d hd D S) (t : Fin 128) :
    (Loads.of B C n m).gl g d (ix2 (ord d t) ⟨lane d hd, by have := lane_lt d hd; omega⟩) = D.li t := by
  have hl := lane_lt d hd
  exact (glV_input _ _ _ _ hl).trans (h.li t)

theorem Given.bc (h : Given B C n m g d hd D S) (hD : D.Fine) (t : Fin 128) :
    (Loads.of B C n m).bc g d (ix2 (ord d t) ⟨8 + lane d hd, by have := lane_lt d hd; omega⟩) = D.b t := by
  refine (bcV_apply _ _ (fun s => ?_) (fun t s => sumM_apply d t s) t).trans ?_
  · rw [← (ord d).apply_symm_apply s, h.gl_forget]
    exact ne_top_of_le_ne_top EReal.zero_ne_top (hD.lf_le _)
  · unfold Dat.b
    simp only [h.gl_forget]

theorem Given.holds (h : Given B C n m g d hd D S) (hD : D.Fine) :
    let L := Loads.of B C n m
    Holds (ord d) D S (befM d) (L.bRow g d hd) (L.liRow g d hd) (L.src g d hd) (L.bLast g d hd) (L.qM g d hd) (L.kM g d hd)
      (L.vM g d hd) (L.CM g d hd) (L.nM g d hd) (L.mM g d hd) := by
  have hl := lane_lt d hd
  intro L
  have hcol : ∀ t, L.bCol g d hd (ix2 t 0) = L.bc g d (ix2 t ⟨8 + lane d hd, by omega⟩) := fun t => by
    show extractStridedSlice S128x1 _ (L.bc g d) _ _ = _
    generalize L.bc g d = w
    pointwise []
  constructor
  · exact befM_apply d
  · intro t
    rw [← h.bc hD t]
    show extractStridedSlice S1x128 _ (transpose S128x128 [1, 0] (L.bc g d) _) _ _ = L.bc g d _
    generalize L.bc g d = w
    pointwise []
  · intro t
    rw [← h.gl_input t]
    show extractStridedSlice S1x128 _ (transpose S128x128 [1, 0] (L.gl g d) _) _ _ = L.gl g d _
    generalize L.gl g d = w
    pointwise []
  · intro t
    rw [← h.bc hD t, ← h.gl_input t, ← hcol]
    show subf (extractStridedSlice S128x1 _ (L.gl g d) _) (L.bCol g d hd) _ = L.gl g d _ - _
    generalize L.gl g d = w
    generalize L.bCol g d hd = w'
    pointwise []
  · rw [← h.bc hD 127, ← hcol]
    show extractStridedSlice S1x1 _ (L.bCol g d hd) _ _ = L.bCol g d hd _
    generalize L.bCol g d hd = w
    pointwise []
    simp only [lastR_eq]
  · intro t e
    rw [← h.q t e]
    show shapeCast S128x256 (View.ld (B.q g d) (rowsR hd)) _ _ = _
    generalize B.q g d = w
    pointwise []
  · intro t e
    rw [← h.k t e]
    show shapeCast S128x256 (View.ld (B.k g d) (rowsR hd)) _ _ = _
    generalize B.k g d = w
    pointwise []
  · intro t e
    rw [← h.v t e]
    show shapeCast S128x256 (View.ld (B.v g d) (rowsR hd)) _ _ = _
    generalize B.v g d = w
    pointwise []
  · intro e e'
    rw [← h.C e e']
    refine (cast_C _ e e').trans ?_
    exact congrArg C (Loads.CR_emb g d hd _)
  · intro e
    rw [← h.n e]
    refine (cast_n _ e).trans ?_
    exact congrArg n (Loads.nR_emb g d hd _)
  · rw [← h.m]
    show shapeCast S1x1 (View.ld m (mR g d hd)) _ _ = _
    generalize hw : View.ld m (mR g d hd) = w
    pointwise []
    rw [← hw]
    exact congrArg m (Loads.mR_emb g d hd _)

/-- Such a point leaves the chunk's outputs and the next state. -/
theorem Given.hArr (h : Given B C n m g d hd D S) (hD : D.Fine) (hS : S.m ≠ ⊤) (t : Fin 128) (e : Fin 256) :
    (Loads.of B C n m).hArr d (ix3 g (ord d t) (headCol hd e)) = D.h S t e := by
  rw [← hV_apply (h.holds hD) hD hS t e]
  have e1 : (⟨(hd.val * 256 + e.val) / 256, by omega⟩ : Fin 4) = hd := Fin.ext (by show (hd.val * 256 + e.val) / 256 = hd.val; omega)
  have e2 : (⟨(hd.val * 256 + e.val) % 256, by omega⟩ : Fin 256) = e := Fin.ext (by show (hd.val * 256 + e.val) % 256 = e.val; omega)
  show (Loads.of B C n m).hOut g d ⟨(hd.val * 256 + e.val) / 256, _⟩ (ix2 (ord d t) ⟨(hd.val * 256 + e.val) % 256, _⟩) = _
  rw [e1, e2]
  rfl

theorem Given.cArr (h : Given B C n m g d hd D S) (hD : D.Fine) (e e' : Fin 256) :
    (Loads.of B C n m).cArr (ix5 g d hd e e') = (D.next S).C e e' :=
  cnewV_apply (h.holds hD) e e'

theorem Given.nArr (h : Given B C n m g d hd D S) (hD : D.Fine) (e : Fin 256) :
    (Loads.of B C n m).nArr (ix5 g d hd 0 e) = (D.next S).n e :=
  nnewV_apply (h.holds hD) e

theorem Given.mArr (h : Given B C n m g d hd D S) (hD : D.Fine) :
    (Loads.of B C n m).mArr (ix5 g d hd 0 0) = (D.next S).m :=
  mnewV_apply (h.holds hD)

end Cert.KernelIdeal.Body

end
-- ==== Proof.Inputs.lean ====
/-
  What a grid point's windows read, and what the points leave: each point takes a chunk of two samples in both
  directions, so after it the scratch arrays hold the chains' states after that chunk, and its output blocks the chunk's
  outputs.
-/
module

public import proofs.«01_k».proof.Proof.HostArr
public import proofs.«01_k».proof.Proof.Holds

@[expose] public section

noncomputable section

namespace Cert.KernelIdeal.Body

open Idealize.ShloMosaic Idealize.ShloMosaic.TcCoe Idealize.SL.Sem Cert.KernelIdeal Cert.KernelIdeal.Gen Cert.KernelIdeal.Chain Cert.Mlstm

theorem lt_points (t : Fin cfg0.N) : t.val < 132 := t.isLt

/-- The sample that a member of a point's pair is, and the point's chunk. -/
def bat (g : Fin 2) (t : Fin cfg0.N) : Fin 4 := ⟨2 * g.val + t.val / 66, by have := lt_points t; omega⟩
def chk (t : Fin cfg0.N) : Fin 66 := ⟨t.val % 66, Nat.mod_lt _ (by decide)⟩

/-- The number of the block of rows that a point reads. -/
def rowBlk (g d : Fin 2) (t : ℕ) : ℕ :=
  if t % 66 < 2 then 256 + (2 * g.val + t / 66) * 2 + (if d = 0 then t % 66 else 1 - t % 66)
  else (2 * g.val + t / 66) * 64 + (if d = 0 then t % 66 - 2 else 65 - t % 66)

theorem rowBlk_row (g d : Fin 2) (t : Fin cfg0.N) (j : Fin 128) :
    rowBlk g d t.val * 128 + (ord d j).val = (rowOf (bat g t) d (chk t) j).val := by
  have ht := lt_points t
  have hm : t.val % 66 < 66 := Nat.mod_lt _ (by decide)
  unfold rowBlk rowOf
  by_cases h : t.val % 66 < 2
  · rw [if_pos h, dif_pos (show (chk t).val < 2 from h)]
    simp only [place, chk, bat, h, if_true]
    match d with
    | 0 =>
      rw [ord_zero, if_pos rfl, if_pos rfl]
      omega
    | 1 =>
      rw [ord_one, if_neg (by decide), if_neg (by decide), Fin.val_rev]
      omega
  · rw [if_neg h, dif_neg (show ¬(chk t).val < 2 from h)]
    simp only [place, chk, bat, h, if_false]
    match d with
    | 0 =>
      rw [ord_zero, if_pos rfl, if_pos rfl]
      omega
    | 1 =>
      rw [ord_one, if_neg (by decide), if_neg (by decide), Fin.val_rev]
      omega

/-- The blocks' numbers: for queries, keys, values and gates. -/
abbrev blockIdx (k : Fin 4) (g d : Fin 2) (t : Fin grid0.N) : Fin 2 → ℕ :=
  ![![![win0_0.index t, win0_4.index t], ![win0_8.index t, win0_12.index t]],
    ![![win0_1.index t, win0_5.index t], ![win0_9.index t, win0_13.index t]],
    ![![win0_2.index t, win0_6.index t], ![win0_10.index t, win0_14.index t]],
    ![![win0_3.index t, win0_7.index t], ![win0_11.index t, win0_15.index t]]] k g d

theorem blockIdx_eq : ∀ (k : Fin 4) (g d : Fin 2) (t : Fin grid0.N), blockIdx k g d t 0 = rowBlk g d t.val ∧ blockIdx k g d t 1 = 0 := by
  decide +kernel

/-- A block of whole rows, read at a row of a chunk, holds the array's row of that token. -/
theorem read_rows {w : ℕ} {α : Type} (g d : Fin 2) (t : Fin cfg0.N) (blk : (⟨2, ![128, w]⟩ : Shape).Idx → α) (arr : (⟨2, ![33792, w]⟩ : Shape).Idx → α)
    (f : (⟨2, ![128, w]⟩ : Shape).Idx → (⟨2, ![33792, w]⟩ : Shape).Idx) (hb : ∀ i, blk i = arr (f i)) (idx : Fin 2 → ℕ)
    (hf0 : ∀ i, (f i 0).val = idx 0 * 128 + 1 * (i 0).val) (hf1 : ∀ i, (f i 1).val = idx 1 * w + 1 * (i 1).val)
    (h : idx 0 = rowBlk g d t.val ∧ idx 1 = 0) (j : Fin 128) (e : Fin w) :
    blk (ix2 (ord d j) e) = arr (ix2 (rowOf (bat g t) d (chk t) j) e) := by
  rw [hb]
  refine congrArg arr (funext fun a => Fin.ext ?_)
  match a with
  | ⟨0, _⟩ =>
    refine (hf0 _).trans ?_
    rw [h.1, Nat.one_mul]
    exact rowBlk_row g d t j
  | ⟨1, _⟩ =>
    refine (hf1 _).trans ?_
    rw [h.2, Nat.zero_mul, Nat.one_mul, Nat.zero_add]
    rfl

variable (m : (ℓ : Loc nD τ sig) → Buf (Elt Ideal) ℓ) (c : Dev nD) (t : Fin cfg0.N)

theorem blk_q (g d : Fin 2) (j : Fin 128) (e : Fin 1024) :
    (blkAt m c t).q g d (ix2 (ord d j) e) = tok (inOf m c).ql (inOf m c).qc d (bat g t) (chk t) j e := by
  rw [← V_q_row]
  match g, d with
  | 0, 0 =>
    exact read_rows 0 0 t (iblk m c 0 t) (V m c main_v3) (fun i => ((cfg0.win 0).blk t).view.emb i) (fun _ => rfl) _
      (fun _ => rfl) (fun _ => rfl) (blockIdx_eq 0 0 0 t) j e
  | 0, 1 =>
    exact read_rows 0 1 t (iblk m c 4 t) (V m c main_v3) (fun i => ((cfg0.win 4).blk t).view.emb i) (fun _ => rfl) _
      (fun _ => rfl) (fun _ => rfl) (blockIdx_eq 0 0 1 t) j e
  | 1, 0 =>
    exact read_rows 1 0 t (iblk m c 8 t) (V m c main_v3) (fun i => ((cfg0.win 8).blk t).view.emb i) (fun _ => rfl) _
      (fun _ => rfl) (fun _ => rfl) (blockIdx_eq 0 1 0 t) j e
  | 1, 1 =>
    exact read_rows 1 1 t (iblk m c 12 t) (V m c main_v3) (fun i => ((cfg0.win 12).blk t).view.emb i) (fun _ => rfl) _
      (fun _ => rfl) (fun _ => rfl) (blockIdx_eq 0 1 1 t) j e

set_option maxHeartbeats 1600000 in
theorem blk_k (g d : Fin 2) (j : Fin 128) (e : Fin 1024) :
    (blkAt m c t).k g d (ix2 (ord d j) e) = tok (inOf m c).kl (inOf m c).kc d (bat g t) (chk t) j e := by
  rw [← V_k_row]
  match g, d with
  | 0, 0 =>
    exact read_rows 0 0 t (iblk m c 1 t) (V m c main_v7) (fun i => ((cfg0.win 1).blk t).view.emb i) (fun _ => rfl) _
      (fun _ => rfl) (fun _ => rfl) (blockIdx_eq 1 0 0 t) j e
  | 0, 1 =>
    exact read_rows 0 1 t (iblk m c 5 t) (V m c main_v7) (fun i => ((cfg0.win 5).blk t).view.emb i) (fun _ => rfl) _
      (fun _ => rfl) (fun _ => rfl) (blockIdx_eq 1 0 1 t) j e
  | 1, 0 =>
    exact read_rows 1 0 t (iblk m c 9 t) (V m c main_v7) (fun i => ((cfg0.win 9).blk t).view.emb i) (fun _ => rfl) _
      (fun _ => rfl) (fun _ => rfl) (blockIdx_eq 1 1 0 t) j e
  | 1, 1 =>
    exact read_rows 1 1 t (iblk m c 13 t) (V m c main_v7) (fun i => ((cfg0.win 13).blk t).view.emb i) (fun _ => rfl) _
      (fun _ => rfl) (fun _ => rfl) (blockIdx_eq 1 1 1 t) j e

set_option maxHeartbeats 1600000 in
theorem blk_v (g d : Fin 2) (j : Fin 128) (e : Fin 1024) :
    (blkAt m c t).v g d (ix2 (ord d j) e) = tok (inOf m c).vl (inOf m c).vc d (bat g t) (chk t) j e := by
  rw [← V_v_row]
  match g, d with
  | 0, 0 =>
    exact read_rows 0 0 t (iblk m c 2 t) (V m c main_v11) (fun i => ((cfg0.win 2).blk t).view.emb i) (fun _ => rfl) _
      (fun _ => rfl) (fun _ => rfl) (blockIdx_eq 2 0 0 t) j e
  | 0, 1 =>
    exact read_rows 0 1 t (iblk m c 6 t) (V m c main_v11) (fun i => ((cfg0.win 6).blk t).view.emb i) (fun _ => rfl) _
      (fun _ => rfl) (fun _ => rfl) (blockIdx_eq 2 0 1 t) j e
  | 1, 0 =>
    exact read_rows 1 0 t (iblk m c 10 t) (V m c main_v11) (fun i => ((cfg0.win 10).blk t).view.emb i) (fun _ => rfl) _
      (fun _ => rfl) (fun _ => rfl) (blockIdx_eq 2 1 0 t) j e
  | 1, 1 =>
    exact read_rows 1 1 t (iblk m c 14 t) (V m c main_v11) (fun i => ((cfg0.win 14).blk t).view.emb i) (fun _ => rfl) _
      (fun _ => rfl) (fun _ => rfl) (blockIdx_eq 2 1 1 t) j e

set_option maxHeartbeats 1600000 in
theorem blk_g (g d : Fin 2) (j : Fin 128) (l : Fin 16) :
    (blkAt m c t).x g d (ix2 (ord d j) ⟨l.val, by omega⟩) = tok (inOf m c).gl (inOf m c).gc d (bat g t) (chk t) j l := by
  rw [← V_g_row]
  match g, d with
  | 0, 0 =>
    exact read_rows 0 0 t (iblk m c 3 t) (V m c main_v16) (fun i => ((cfg0.win 3).blk t).view.emb i) (fun _ => rfl) _
      (fun _ => rfl) (fun _ => rfl) (blockIdx_eq 3 0 0 t) j _
  | 0, 1 =>
    exact read_rows 0 1 t (iblk m c 7 t) (V m c main_v16) (fun i => ((cfg0.win 7).blk t).view.emb i) (fun _ => rfl) _
      (fun _ => rfl) (fun _ => rfl) (blockIdx_eq 3 0 1 t) j _
  | 1, 0 =>
    exact read_rows 1 0 t (iblk m c 11 t) (V m c main_v16) (fun i => ((cfg0.win 11).blk t).view.emb i) (fun _ => rfl) _
      (fun _ => rfl) (fun _ => rfl) (blockIdx_eq 3 1 0 t) j _
  | 1, 1 =>
    exact read_rows 1 1 t (iblk m c 15 t) (V m c main_v16) (fun i => ((cfg0.win 15).blk t).view.emb i) (fun _ => rfl) _
      (fun _ => rfl) (fun _ => rfl) (blockIdx_eq 3 1 1 t) j _

/-- The biases' block is the whole array. -/
theorem blk_bias (l : Fin 128) : (blkAt m c t).bias (ix2 0 l) = (V m c main_v21 : Vec Ideal S1x128 .f32) (ix2 0 l) := by
  have h : win0_16.index t 0 = 0 ∧ win0_16.index t 1 = 0 := (by decide +kernel : ∀ t : Fin grid0.N, win0_16.index t 0 = 0 ∧ win0_16.index t 1 = 0) t
  show (V m c main_v21 : Vec Ideal S1x128 .f32) (((cfg0.win 16).blk t).view.emb (ix2 0 l)) = _
  refine congrArg (V m c main_v21 : Vec Ideal S1x128 .f32) (funext fun a => Fin.ext ?_)
  match a with
  | ⟨0, _⟩ => show win0_16.index t 0 * 1 + 1 * 0 = 0; rw [h.1]
  | ⟨1, _⟩ => show win0_16.index t 1 * 128 + 1 * l.val = l.val; rw [h.2]; omega

set_option maxHeartbeats 1600000 in
/-- A point's blocks hold its chunks, where the scratch arrays hold the chains' states. -/
theorem given (g d : Fin 2) (hd : Fin 4) {C : Vec Ideal S2x2x4x256x256 .f32} {n : Vec Ideal S2x2x4x1x256 .f32} {mm : Vec Ideal S2x2x4x1x1 .f32} {S : Sta}
    (hC : ∀ e e', C (ix5 g d hd e e') = S.C e e') (hn : ∀ e, n (ix5 g d hd 0 e) = S.n e) (hm : mm (ix5 g d hd 0 0) = S.m) :
    Given (blkAt m c t) C n mm g d hd ((inOf m c).dat d (bat g t) hd (chk t)) S where
  q j e := blk_q m c t g d j (headCol hd e)
  k j e := blk_k m c t g d j (headCol hd e)
  v j e := blk_v m c t g d j (headCol hd e)
  li j := congrArg₂ (fun x y : EReal => x + y) (blk_g m c t g d j (inLane d hd)) ((blk_bias m c t _).trans (V_bias_in m c d hd _))
  lf j := congrArg lsig (congrArg₂ (fun x y : EReal => x + y) (blk_g m c t g d j (forgetLane d hd)) ((blk_bias m c t _).trans (V_bias_forget m c d hd _)))
  C := hC
  n := hn
  m := hm

/-- The scratch arrays hold every chain's state, of the pair of samples of point `t`, after `k` chunks. -/
structure Held (C : Vec Ideal S2x2x4x256x256 .f32) (n : Vec Ideal S2x2x4x1x256 .f32) (mm : Vec Ideal S2x2x4x1x1 .f32) (k : ℕ) : Prop where
  C : ∀ g d hd e e', C (ix5 g d hd e e') = ((inOf m c).sta d (bat g t) hd k).C e e'
  n : ∀ g d hd e, n (ix5 g d hd 0 e) = ((inOf m c).sta d (bat g t) hd k).n e
  m : ∀ g d hd, mm (ix5 g d hd 0 0) = ((inOf m c).sta d (bat g t) hd k).m

/-- What a point leaves: its output blocks hold its chunks' outputs, its scratch arrays the states after them. -/
structure Left (o : Vec Ideal S2x128x1024 .bf16 × Vec Ideal S2x128x1024 .bf16 × Vec Ideal S2x2x4x256x256 .f32 × Vec Ideal S2x2x4x1x256 .f32 × Vec Ideal S2x2x4x1x1 .f32) : Prop where
  h0 : ∀ g hd j e, o.1 (ix3 g (ord 0 j) (headCol hd e)) = (inOf m c).out 0 (bat g t) hd (chk t) j e
  h1 : ∀ g hd j e, o.2.1 (ix3 g (ord 1 j) (headCol hd e)) = (inOf m c).out 1 (bat g t) hd (chk t) j e
  held : Held m c t o.2.2.1 o.2.2.2.1 o.2.2.2.2 ((chk t).val + 1)

variable {m c t}

theorem Held.left (hI : (inOf m c).Fine) {C : Vec Ideal S2x2x4x256x256 .f32} {n : Vec Ideal S2x2x4x1x256 .f32} {mm : Vec Ideal S2x2x4x1x1 .f32}
    (h : Held m c t C n mm (chk t).val) : Left m c t (Loads.of (blkAt m c t) C n mm).all := by
  have hg := fun g d hd => given m c t g d hd (h.C g d hd) (h.n g d hd) (h.m g d hd)
  have hf := fun g d hd => hI.dat d (bat g t) hd (chk t)
  have hs := fun g d hd => hI.sta d (bat g t) hd (chk t).val
  refine ⟨fun g hd j e => (hg g 0 hd).hArr (hf g 0 hd) (hs g 0 hd) j e, fun g hd j e => (hg g 1 hd).hArr (hf g 1 hd) (hs g 1 hd) j e, ?_, ?_, ?_⟩
  · intro g d hd e e'
    rw [In.sta_succ]
    exact (hg g d hd).cArr (hf g d hd) e e'
  · intro g d hd e
    rw [In.sta_succ]
    exact (hg g d hd).nArr (hf g d hd) e
  · intro g d hd
    rw [In.sta_succ]
    exact (hg g d hd).mArr (hf g d hd)

theorem zero_C (i : S2x2x4x256x256.Idx) : k0_pay2 (F := Ideal) i = (0 : EReal) := Ideal.ofBits_zero_f32
theorem zero_n (i : S2x2x4x1x256.Idx) : k0_pay3 (F := Ideal) i = (0 : EReal) := Ideal.ofBits_zero_f32
theorem zero_m (i : S2x2x4x1x1.Idx) : k0_pay4 (F := Ideal) i = (0 : EReal) := Ideal.ofBits_zero_f32

/-- Every point leaves its chunks' outputs and states. -/
theorem left (hI : (inOf m c).Fine) : ∀ t : Fin cfg0.N, Left m c t (outsAt0 m c t.val t.isLt) := by
  rintro ⟨t, ht⟩
  induction t with
  | zero =>
    rw [outsAt_A m c ⟨0, ht⟩ rfl]
    exact Held.left hI ⟨fun _ _ _ _ _ => zero_C _, fun _ _ _ _ => zero_n _, fun _ _ _ => zero_m _⟩
  | succ t ih =>
    have ht' : t < cfg0.N := Nat.lt_of_succ_lt ht
    by_cases h0 : (t + 1) % 66 = 0
    · have hc : (chk ⟨t + 1, ht⟩).val = 0 := h0
      rw [outsAt_A m c ⟨t + 1, ht⟩ h0]
      refine Held.left hI ?_
      rw [hc]
      exact ⟨fun _ _ _ _ _ => zero_C _, fun _ _ _ _ => zero_n _, fun _ _ _ => zero_m _⟩
    · rw [outsAt_B m c ⟨t + 1, ht⟩ h0]
      have hp := (ih ht').held
      have hb : ∀ g, bat g ⟨t + 1, ht⟩ = bat g ⟨t, ht'⟩ := fun g => Fin.ext (by
        show 2 * g.val + (t + 1) / 66 = 2 * g.val + t / 66
        omega)
      have hc : (chk ⟨t + 1, ht⟩).val = (chk ⟨t, ht'⟩).val + 1 := by
        show (t + 1) % 66 = t % 66 + 1
        omega
      refine Held.left hI ?_
      rw [hc]
      exact ⟨fun g d hd e e' => by rw [hb]; exact hp.C g d hd e e', fun g d hd e => by rw [hb]; exact hp.n g d hd e,
        fun g d hd => by rw [hb]; exact hp.m g d hd⟩

end Cert.KernelIdeal.Body

end
-- ==== Proof.Places.lean ====
/-
  Where the layer's results hold a position's output: at the position's token, latents of a pair's samples first and then
  their contexts, so two arrays of results are equal if they agree at every position of a direction.
-/
module

public import proofs.«01_k».proof.Proof.Data
public import Idealize.ShloMosaic.Lib.Pointwise

@[expose] public section

noncomputable section

namespace Cert.Mlstm

open Idealize.ShloMosaic

/-- The row of a pair's array that holds a position of the pair's sample `b`. -/
def dst (b : Fin 2) (d : Fin 2) (n : Fin 66) (j : Fin 128) : Fin 16896 :=
  if h : n.val < 2 then ⟨16384 + (b.val * 256 + place d n.val j), by have := place_lt_c d n.val j h; omega⟩
  else ⟨b.val * 8192 + place d n.val j, by have := place_lt_l d n.val j h n.isLt; omega⟩

/-- The sample of a pair. -/
abbrev smp (g b : Fin 2) : Fin 4 := ⟨2 * g.val + b.val, by omega⟩

/-- The position that comes `p`-th among `256` or `8192` places is at one of the chunks' positions. -/
theorem dst_surj (d : Fin 2) (r : Fin 16896) : ∃ b n j, r = dst b d n j := by
  have hd : d = 0 ∨ d = 1 := by omega
  by_cases hr : r.val < 16384
  · obtain ⟨q, hq, hp⟩ : ∃ q < 8192, (if d = 0 then q else 8191 - q) = r.val % 8192 := by
      rcases hd with rfl | rfl
      · exact ⟨r.val % 8192, by omega, if_pos rfl⟩
      · exact ⟨8191 - r.val % 8192, by omega, (if_neg (by decide)).trans (by omega)⟩
    refine ⟨⟨r.val / 8192, by omega⟩, ⟨2 + q / 128, by omega⟩, ⟨q % 128, by omega⟩, Fin.ext ?_⟩
    rw [dst, dif_neg (by simp only []; omega)]
    simp only [place, if_neg (show ¬2 + q / 128 < 2 by omega)]
    rw [show (2 + q / 128 - 2) * 128 + q % 128 = q by omega, hp]
    omega
  · obtain ⟨q, hq, hp⟩ : ∃ q < 256, (if d = 0 then q else 255 - q) = (r.val - 16384) % 256 := by
      rcases hd with rfl | rfl
      · exact ⟨(r.val - 16384) % 256, by omega, if_pos rfl⟩
      · exact ⟨255 - (r.val - 16384) % 256, by omega, (if_neg (by decide)).trans (by omega)⟩
    refine ⟨⟨(r.val - 16384) / 256, by omega⟩, ⟨q / 128, by omega⟩, ⟨q % 128, by omega⟩, Fin.ext ?_⟩
    rw [dst, dif_pos (by simp only []; omega)]
    simp only [place, if_pos (show q / 128 < 2 by omega)]
    rw [show q / 128 * 128 + q % 128 = q by omega, hp]
    omega

/-- Two arrays of results that agree at every position of a direction are equal. -/
theorem results_ext (d : Fin 2) {x y : (⟨3, ![2, 16896, 1024]⟩ : Shape).Idx → EReal}
    (h : ∀ g b n j hd e, x (ix3 g (dst b d n j) (headCol hd e)) = y (ix3 g (dst b d n j) (headCol hd e))) : x = y := by
  funext i
  obtain ⟨b, n, j, hr⟩ := dst_surj d (i 1)
  have hc : (i 2).val < 1024 := (i 2).isLt
  have hi : i = ix3 (i 0) (dst b d n j) (headCol ⟨(i 2).val / 256, by omega⟩ ⟨(i 2).val % 256, by omega⟩) := by
    funext a
    match a with
    | ⟨0, _⟩ => rfl
    | ⟨1, _⟩ => exact hr
    | ⟨2, _⟩ => exact Fin.ext (show (i 2).val = (i 2).val / 256 * 256 + (i 2).val % 256 by omega)
  rw [hi]
  exact h _ b n j _ _

end Cert.Mlstm

end
-- ==== Proof.Results.lean ====
/-
  The kernel's results at a position: every position is in the block of one grid point, which left that position's output.
-/
module

public import proofs.«01_k».proof.Proof.Inputs
public import proofs.«01_k».proof.Proof.Places
public import proofs.«01_k».proof.Proof.Gen.KernelIdeal.Value

@[expose] public section

noncomputable section

namespace Cert.KernelIdeal.Body

open Idealize.ShloMosaic Idealize.ShloMosaic.TcCoe Idealize.SL.Sem Cert.KernelIdeal Cert.KernelIdeal.Gen Cert.KernelIdeal.Chain Cert.Mlstm

/-- The point that takes chunk `n` of the pairs' sample `b`. -/
def pt (b : Fin 2) (n : Fin 66) : Fin cfg0.N := ⟨66 * b.val + n.val, (by omega : 66 * b.val + n.val < 132)⟩

theorem bat_pt (g b : Fin 2) (n : Fin 66) : bat g (pt b n) = smp g b :=
  Fin.ext (show 2 * g.val + (66 * b.val + n.val) / 66 = 2 * g.val + b.val by omega)

theorem chk_pt (b : Fin 2) (n : Fin 66) : chk (pt b n) = n :=
  Fin.ext (show (66 * b.val + n.val) % 66 = n.val by omega)

/-- The number of the block of rows that a point writes. -/
def outBlk (d : Fin 2) (t : ℕ) : ℕ :=
  if t % 66 < 2 then 128 + t / 66 * 2 + (if d = 0 then t % 66 else 1 - t % 66)
  else t / 66 * 64 + (if d = 0 then t % 66 - 2 else 65 - t % 66)

theorem outBlk_row (b d : Fin 2) (n : Fin 66) (j : Fin 128) :
    outBlk d (pt b n).val * 128 + (ord d j).val = (dst b d n j).val := by
  have hq : (66 * b.val + n.val) / 66 = b.val := by omega
  have hm : (66 * b.val + n.val) % 66 = n.val := by omega
  unfold outBlk dst pt
  simp only [hq, hm]
  by_cases h : n.val < 2
  · rw [if_pos h, dif_pos h]
    simp only [place, h, if_true]
    match d with
    | 0 =>
      rw [ord_zero, if_pos rfl, if_pos rfl]
      omega
    | 1 =>
      rw [ord_one, if_neg (by decide), if_neg (by decide), Fin.val_rev]
      omega
  · rw [if_neg h, dif_neg h]
    simp only [place, h, if_false]
    match d with
    | 0 =>
      rw [ord_zero, if_pos rfl, if_pos rfl]
      omega
    | 1 =>
      rw [ord_one, if_neg (by decide), if_neg (by decide), Fin.val_rev]
      omega

theorem index17 : ∀ t : Fin grid0.N, win0_17.index t 0 = 0 ∧ win0_17.index t 1 = outBlk 0 t.val ∧ win0_17.index t 2 = 0 := by
  decide +kernel

theorem index18 : ∀ t : Fin grid0.N, win0_18.index t 0 = 0 ∧ win0_18.index t 1 = outBlk 1 t.val ∧ win0_18.index t 2 = 0 := by
  decide +kernel

/-- An array whose block at a point is given holds, at a position of the point's chunk, what the block holds. -/
theorem read_block (b d : Fin 2) (n : Fin 66) (blk : S2x128x1024.Idx → EReal) (arr : S2x16896x1024.Idx → EReal)
    (f : S2x128x1024.Idx → S2x16896x1024.Idx) (hb : ∀ i, arr (f i) = blk i) (idx : Fin 3 → ℕ)
    (hf0 : ∀ i, (f i 0).val = idx 0 * 2 + 1 * (i 0).val) (hf1 : ∀ i, (f i 1).val = idx 1 * 128 + 1 * (i 1).val)
    (hf2 : ∀ i, (f i 2).val = idx 2 * 1024 + 1 * (i 2).val)
    (h : idx 0 = 0 ∧ idx 1 = outBlk d (pt b n).val ∧ idx 2 = 0) (g : Fin 2) (j : Fin 128) (e : Fin 1024) :
    arr (ix3 g (dst b d n j) e) = blk (ix3 g (ord d j) e) := by
  rw [← hb]
  refine congrArg arr (funext fun a => Fin.ext ?_)
  match a with
  | ⟨0, _⟩ =>
    refine Eq.trans ?_ (hf0 _).symm
    rw [h.1, Nat.zero_mul, Nat.one_mul, Nat.zero_add]
    rfl
  | ⟨1, _⟩ =>
    refine Eq.trans ?_ (hf1 _).symm
    rw [h.2.1, Nat.one_mul]
    exact (outBlk_row b d n j).symm
  | ⟨2, _⟩ =>
    refine Eq.trans ?_ (hf2 _).symm
    rw [h.2.2, Nat.zero_mul, Nat.one_mul, Nat.zero_add]
    rfl

variable {m : (ℓ : Loc nD τ sig) → Buf (Elt Ideal) ℓ} {c : Dev nD}

theorem flush17 : ∀ t : Fin cfg0.N, (cfg0.win 17).flush t = true := (by decide +kernel : ∀ t : Fin grid0.N, win0_17.flush t = true)
theorem flush18 : ∀ t : Fin cfg0.N, (cfg0.win 18).flush t = true := (by decide +kernel : ∀ t : Fin grid0.N, win0_18.flush t = true)

/-- The first result. -/
theorem first_apply (hI : (inOf m c).Fine) (g b : Fin 2) (n : Fin 66) (j : Fin 128) (hd : Fin 4) (e : Fin 256) :
    ((dats m 0 c).arrAt 17 cfg0.N : Vec Ideal S2x16896x1024 .bf16) (ix3 g (dst b 0 n j) (headCol hd e))
      = (inOf m c).out 0 (smp g b) hd n j e := by
  have hr := (Value.blocks17 m c (pt b n) (flush17 _)).trans (Value.flushed17 m c (pt b n))
  refine (read_block b 0 n (outsAt0 m c (pt b n).val (pt b n).isLt).1 _ (fun i => ((cfg0.win 17).blk (pt b n)).view.emb i)
    (fun i => congrFun hr i) _ (fun _ => rfl) (fun _ => rfl) (fun _ => rfl) (index17 (pt b n)) g j (headCol hd e)).trans ?_
  rw [(left hI (pt b n)).h0, bat_pt, chk_pt]

/-- The second result. -/
theorem second_apply (hI : (inOf m c).Fine) (g b : Fin 2) (n : Fin 66) (j : Fin 128) (hd : Fin 4) (e : Fin 256) :
    ((dats m 0 c).arrAt 18 cfg0.N : Vec Ideal S2x16896x1024 .bf16) (ix3 g (dst b 1 n j) (headCol hd e))
      = (inOf m c).out 1 (smp g b) hd n j e := by
  have hr := (Value.blocks18 m c (pt b n) (flush18 _)).trans (Value.flushed18 m c (pt b n))
  refine (read_block b 1 n (outsAt0 m c (pt b n).val (pt b n).isLt).2.1 _ (fun i => ((cfg0.win 18).blk (pt b n)).view.emb i)
    (fun i => congrFun hr i) _ (fun _ => rfl) (fun _ => rfl) (fun _ => rfl) (index18 (pt b n)) g j (headCol hd e)).trans ?_
  rw [(left hI (pt b n)).h1, bat_pt, chk_pt]

end Cert.KernelIdeal.Body

end
-- ==== Proof.RefStep.lean ====
/-
  One trip of the reference, over the extended reals, at a direction, sample and head: `Spec`'s outputs of the chunk
  and next state.
-/
module

public import proofs.«01_k».proof.Proof.Gen.ReferenceIdeal.Step
public import proofs.«01_k».proof.Proof.Spec
public import Idealize.ShloMosaic.Lib.Pointwise

@[expose] public section

noncomputable section

namespace Cert.ReferenceIdeal.Trip

open Idealize.ShloMosaic Cert.ReferenceIdeal Cert.ReferenceIdeal.Gen Cert.ReferenceIdeal.Step Cert.Mlstm

/-! ### The running sum -/

theorem foldl_add {n : ℕ} (g : Fin n → EReal) (z : EReal) :
    (List.finRange n).foldl (fun r k => r + g k) z = z + ∑ k, g k := by
  rw [Fin.sum_univ_def]
  generalize List.finRange n = l
  induction l generalizing z with
  | nil => simp
  | cons a l ih => rw [List.foldl_cons, ih, List.map_cons, List.sum_cons, add_assoc]

theorem sum_window (f : Fin 128 → EReal) (t : Fin 128) :
    (∑ k : Fin 128, if h : 127 ≤ t.val + k.val then f ⟨t.val + k.val - 127, by omega⟩ else 0) = ∑ s, if s ≤ t then f s else 0 := by
  rw [← Finset.sum_filter, ← Finset.sum_filter_add_sum_filter_not Finset.univ (fun k : Fin 128 => 127 ≤ t.val + k.val)]
  refine (congrArg₂ (· + ·) rfl (Finset.sum_eq_zero fun k hk => dif_neg (Finset.mem_filter.mp hk).2)).trans ((add_zero _).trans ?_)
  refine Finset.sum_bij' (fun k hk => ⟨t.val + k.val - 127, by omega⟩) (fun s hs => ⟨s.val + 127 - t.val, ?_⟩) ?_ ?_ ?_ ?_ ?_
  · have := (Finset.mem_filter.mp hs).2
    rw [Fin.le_def] at this
    omega
  · intro k hk
    refine Finset.mem_filter.mpr ⟨Finset.mem_univ _, ?_⟩
    rw [Fin.le_def]
    show t.val + k.val - 127 ≤ t.val
    omega
  · intro s hs
    refine Finset.mem_filter.mpr ⟨Finset.mem_univ _, ?_⟩
    show 127 ≤ t.val + (s.val + 127 - t.val)
    omega
  · intro k hk
    have := (Finset.mem_filter.mp hk).2
    apply Fin.ext
    show t.val + k.val - 127 + 127 - t.val = k.val
    omega
  · intro s hs
    have := (Finset.mem_filter.mp hs).2
    rw [Fin.le_def] at this
    apply Fin.ext
    show t.val + (s.val + 127 - t.val) - 127 = s.val
    omega
  · intro k hk
    exact dif_pos (Finset.mem_filter.mp hk).2

/-- The windows' positions are the last axis's. -/
def lastIdx : (⟨4, ![1, 1, 1, 128]⟩ : Shape).Idx ≃ Fin 128 where
  toFun i := i 3
  invFun k := ix4 0 0 0 k
  left_inv i := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv _ := rfl

theorem b45_apply (j : ℕ) (s : State Ideal) (X : Fin 2) (B H : Fin 4) (t : Fin 128) :
    b45 j s (ix4 X B H t) = ∑ i, if i ≤ t then b42 j s (ix4 X B H i) else 0 := by
  rw [← sum_window]
  unfold b45
  generalize b42 j s = w
  simp only [Host.reduceWindowAdd, Ideal.hostReduceWindowAdd_def, Ideal.hostReduceWindowAdd, Host.reduceWindow, foldl_add]
  rw [show b44 j s (Shape.Idx.first h_S_) = (0 : EReal) from by pointwise [b44, b43], zero_add]
  refine Fintype.sum_equiv ((Shape.rowMajor (⟨4, ![1, 1, 1, 128]⟩ : Shape)).symm.trans lastIdx) _ _ fun n => ?_
  have hb : ∀ a : Fin 3, ((Shape.rowMajor (⟨4, ![1, 1, 1, 128]⟩ : Shape)).symm n a.castSucc).val = 0 := fun a => by
    have := ((Shape.rowMajor (⟨4, ![1, 1, 1, 128]⟩ : Shape)).symm n a.castSucc).isLt
    fin_cases a <;> exact Nat.lt_one_iff.mp this
  have hk : ((Shape.rowMajor (⟨4, ![1, 1, 1, 128]⟩ : Shape)).symm n 3).val < 128 := ((Shape.rowMajor (⟨4, ![1, 1, 1, 128]⟩ : Shape)).symm n 3).isLt
  show _ = if h : 127 ≤ t.val + ((Shape.rowMajor (⟨4, ![1, 1, 1, 128]⟩ : Shape)).symm n 3).val then _ else _
  split_ifs with h h' h'
  · refine congrArg w (funext fun a => Fin.ext ?_)
    match a with
    | ⟨0, _⟩ =>
      have h0 := hb 0
      change X.val * 1 + ((Shape.rowMajor (⟨4, ![1, 1, 1, 128]⟩ : Shape)).symm n 0).val - 0 = X.val
      change ((Shape.rowMajor (⟨4, ![1, 1, 1, 128]⟩ : Shape)).symm n 0).val = 0 at h0
      omega
    | ⟨1, _⟩ =>
      have h0 := hb 1
      change B.val * 1 + ((Shape.rowMajor (⟨4, ![1, 1, 1, 128]⟩ : Shape)).symm n 1).val - 0 = B.val
      change ((Shape.rowMajor (⟨4, ![1, 1, 1, 128]⟩ : Shape)).symm n 1).val = 0 at h0
      omega
    | ⟨2, _⟩ =>
      have h0 := hb 2
      change H.val * 1 + ((Shape.rowMajor (⟨4, ![1, 1, 1, 128]⟩ : Shape)).symm n 2).val - 0 = H.val
      change ((Shape.rowMajor (⟨4, ![1, 1, 1, 128]⟩ : Shape)).symm n 2).val = 0 at h0
      omega
    | ⟨3, _⟩ =>
      change t.val * 1 + ((Shape.rowMajor (⟨4, ![1, 1, 1, 128]⟩ : Shape)).symm n 3).val - 127 = t.val + ((Shape.rowMajor (⟨4, ![1, 1, 1, 128]⟩ : Shape)).symm n 3).val - 127
      omega
  · refine absurd ?_ h'
    have := (h 3).1
    change 127 ≤ t.val * 1 + _ at this
    omega
  · refine absurd (fun a => ?_) h
    match a with
    | ⟨0, _⟩ =>
      have h0 := hb 0
      change 0 ≤ X.val * 1 + ((Shape.rowMajor (⟨4, ![1, 1, 1, 128]⟩ : Shape)).symm n 0).val ∧ X.val * 1 + ((Shape.rowMajor (⟨4, ![1, 1, 1, 128]⟩ : Shape)).symm n 0).val - 0 < 2
      change ((Shape.rowMajor (⟨4, ![1, 1, 1, 128]⟩ : Shape)).symm n 0).val = 0 at h0
      omega
    | ⟨1, _⟩ =>
      have h0 := hb 1
      change 0 ≤ B.val * 1 + ((Shape.rowMajor (⟨4, ![1, 1, 1, 128]⟩ : Shape)).symm n 1).val ∧ B.val * 1 + ((Shape.rowMajor (⟨4, ![1, 1, 1, 128]⟩ : Shape)).symm n 1).val - 0 < 4
      change ((Shape.rowMajor (⟨4, ![1, 1, 1, 128]⟩ : Shape)).symm n 1).val = 0 at h0
      omega
    | ⟨2, _⟩ =>
      have h0 := hb 2
      change 0 ≤ H.val * 1 + ((Shape.rowMajor (⟨4, ![1, 1, 1, 128]⟩ : Shape)).symm n 2).val ∧ H.val * 1 + ((Shape.rowMajor (⟨4, ![1, 1, 1, 128]⟩ : Shape)).symm n 2).val - 0 < 4
      change ((Shape.rowMajor (⟨4, ![1, 1, 1, 128]⟩ : Shape)).symm n 2).val = 0 at h0
      omega
    | ⟨3, _⟩ =>
      change 127 ≤ t.val * 1 + ((Shape.rowMajor (⟨4, ![1, 1, 1, 128]⟩ : Shape)).symm n 3).val ∧ t.val * 1 + ((Shape.rowMajor (⟨4, ![1, 1, 1, 128]⟩ : Shape)).symm n 3).val - 127 < 128
      have hk' : ((Shape.rowMajor (⟨4, ![1, 1, 1, 128]⟩ : Shape)).symm n 3).val < 128 := hk
      have h3 : 127 ≤ t.val + ((Shape.rowMajor (⟨4, ![1, 1, 1, 128]⟩ : Shape)).symm n 3).val := h'
      omega
  · rfl

theorem starts (j : Fin 66) : (min (max (BitVec.ofNat 32 j.val).toInt 0) ((66 - 1 : ℕ) : ℤ)).toNat = j.val := by
  revert j
  decide

theorem starts6 {ht : S1x2x4x4x128x256.rank = S66x2x4x4x128x256.rank} (j : Fin 66) (a : Fin 6) :
    Host.clampedStart S66x2x4x4x128x256 S1x2x4x4x128x256 ht (fun k => BitVec.toInt (![constantI S_ 32 (BitVec.ofNat 32 j.val),
      constantI S_ 32 0#32, constantI S_ 32 0#32, constantI S_ 32 0#32, constantI S_ 32 0#32, constantI S_ 32 0#32] k (Shape.Idx.first h_S_))) a
      = (![j.val, 0, 0, 0, 0, 0] : Fin 6 → ℕ) a := by
  match a with
  | 0 => exact starts j
  | 1 => rfl
  | 2 => rfl
  | 3 => rfl
  | 4 => rfl
  | 5 => rfl

theorem starts5 {ht : S1x2x4x4x128.rank = S66x2x4x4x128.rank} (j : Fin 66) (a : Fin 5) :
    Host.clampedStart S66x2x4x4x128 S1x2x4x4x128 ht (fun k => BitVec.toInt (![constantI S_ 32 (BitVec.ofNat 32 j.val),
      constantI S_ 32 0#32, constantI S_ 32 0#32, constantI S_ 32 0#32, constantI S_ 32 0#32] k (Shape.Idx.first h_S_))) a
      = (![j.val, 0, 0, 0, 0] : Fin 5 → ℕ) a := by
  match a with
  | 0 => exact starts j
  | 1 => rfl
  | 2 => rfl
  | 3 => rfl
  | 4 => rfl

theorem b6_apply (j : Fin 66) (s : State Ideal) (X : Fin 2) (B H : Fin 4) (t : Fin 128) (e : Fin 256) :
    b6 j.val s (ix5 X B H t e) = s.main_v87_0 (ix6 j X B H t e) := by
  pointwise [b6, b5, b0, b1, b2, b3, b4]
  simp only [starts6, Matrix.cons_val, zero_add]

theorem b13_apply (j : Fin 66) (s : State Ideal) (X : Fin 2) (B H : Fin 4) (t : Fin 128) (e : Fin 256) :
    b13 j.val s (ix5 X B H t e) = s.main_v87_1 (ix6 j X B H t e) := by
  pointwise [b13, b12, b7, b8, b9, b10, b11]
  simp only [starts6, Matrix.cons_val, zero_add]

theorem b20_apply (j : Fin 66) (s : State Ideal) (X : Fin 2) (B H : Fin 4) (t : Fin 128) (e : Fin 256) :
    b20 j.val s (ix5 X B H t e) = s.main_v87_2 (ix6 j X B H t e) := by
  pointwise [b20, b19, b14, b15, b16, b17, b18]
  simp only [starts6, Matrix.cons_val, zero_add]

theorem b26_apply (j : Fin 66) (s : State Ideal) (X : Fin 2) (B H : Fin 4) (t : Fin 128) :
    b26 j.val s (ix4 X B H t) = s.main_v87_3 (ix5 j X B H t) := by
  pointwise [b26, b25, b21, b22, b23, b24]
  simp only [starts5, Matrix.cons_val, zero_add]

theorem b32_apply (j : Fin 66) (s : State Ideal) (X : Fin 2) (B H : Fin 4) (t : Fin 128) :
    b32 j.val s (ix4 X B H t) = s.main_v87_4 (ix5 j X B H t) := by
  pointwise [b32, b31, b27, b28, b29, b30]
  simp only [starts5, Matrix.cons_val, zero_add]

theorem b128_apply (j : Fin 66) (s : State Ideal) (i : Fin 66) (X : Fin 2) (B H : Fin 4) (t : Fin 128) (e : Fin 256) :
    b128 j.val s (ix6 i X B H t e) = if i = j then b90 j.val s (ix5 X B H t e) else s.main_v87_10 (ix6 i X B H t e) := by
  pointwise [b128, b122, b123, b124, b125, b126, b127]
  simp only [starts6, Matrix.cons_val, zero_add]
  by_cases h : i = j
  · subst h
    rw [dif_pos (by omega), if_pos rfl]
    rfl
  · rw [dif_neg (by have := Fin.val_ne_of_ne h; omega), if_neg h]

/-! ### The trip -/

/-- The state that a trip starts from holds, of a direction, sample and head, the trip's chunk and the chain's state. -/
structure Given (j : Fin 66) (s : State Ideal) (X : Fin 2) (B H : Fin 4) (D : Dat) (S : Sta) : Prop where
  q : ∀ t e, s.main_v87_0 (ix6 j X B H t e) = D.q t e
  k : ∀ t e, s.main_v87_1 (ix6 j X B H t e) = D.k t e
  v : ∀ t e, s.main_v87_2 (ix6 j X B H t e) = D.v t e
  li : ∀ t, s.main_v87_3 (ix5 j X B H t) = D.li t
  lf : ∀ t, lsig (s.main_v87_4 (ix5 j X B H t)) = D.lf t
  C : ∀ e e', s.main_v87_7 (ix5 X B H e e') = S.C e e'
  n : ∀ e, s.main_v87_8 (ix4 X B H e) = S.n e
  m : s.main_v87_9 (ix3 X B H) = S.m

variable {j : Fin 66} {s : State Ideal} {X : Fin 2} {B H : Fin 4} {D : Dat} {S : Sta}

theorem ofBits_neg_inf : Ideal.ofBits .f32 0xFF800000#32 = (⊥ : EReal) := by simp [Ideal.ofBits, Ideal.ieee]

theorem fold_max_eq (f : Fin 128 → EReal) :
    Finset.univ.fold max (Ideal.ofBits .f32 0xFF800000#32) f = Finset.univ.sup f := by
  rw [ofBits_neg_inf]
  rfl

theorem mask_apply (t i : Fin 128) : K_main_v82 (F := Ideal) (ix2 t i) = if i ≤ t then 1#1 else 0#1 := by
  pointwise [K_main_v82, K_main_v81, K_main_c, K_main_call0_v0, K_main_call0_v1, K_main_call0_v2, K_main_call0_v3, K_main_call0_v4,
    K_main_call0_v5, K_main_call0_c, K_main_call0_c_0]
  revert t i
  decide +kernel

theorem b42_apply (h : Given j s X B H D S) (t : Fin 128) : b42 j.val s (ix4 X B H t) = D.lf t := by
  pointwise [b42, b41, b40, b39, b38, b37, b36, b35, b34, b33]
  rw [b32_apply, ← h.lf]
  rfl

theorem b_apply (h : Given j s X B H D S) (t : Fin 128) : b45 j.val s (ix4 X B H t) = D.b t := by
  rw [b45_apply, Dat.b]
  simp only [b42_apply h]

theorem logd_apply (h : Given j s X B H D S) (t i : Fin 128) : b58 j.val s (ix5 X B H t i) = D.logd t i := by
  pointwise [b58, b57, b56, b55, b54, b53, b52, b51, b50, b49, b48, b47, b46]
  rw [mask_apply, b_apply h, b_apply h, b26_apply, h.li, Dat.logd, ofBits_neg_inf]
  split_ifs <;> rfl

theorem inter_apply (h : Given j s X B H D S) (t : Fin 128) : b61 j.val s (ix4 X B H t) = D.inter S t := by
  pointwise [b61, b60, b59]
  rw [b_apply h, h.m, Dat.inter]

theorem mrow_apply (h : Given j s X B H D S) (t : Fin 128) : b64 j.val s (ix4 X B H t) = D.mrow S t := by
  pointwise [b64, b63, b62]
  rw [inter_apply h, fold_max_eq, Dat.mrow]
  simp only [logd_apply h]

theorem w_apply (h : Given j s X B H D S) (t i : Fin 128) : b70 j.val s (ix5 X B H t i) = D.w S t i := by
  pointwise [b70, b69, b68, b67, b66, b65]
  simp only [b6_apply, b13_apply, h.q, h.k]
  rw [logd_apply h, mrow_apply h, Dat.w]

theorem wi_apply (h : Given j s X B H D S) (t : Fin 128) : b72 j.val s (ix4 X B H t) = D.wi S t := by
  pointwise [b72, b71]
  rw [inter_apply h, mrow_apply h, Dat.wi]

theorem den_apply (h : Given j s X B H D S) (t : Fin 128) : b83 j.val s (ix4 X B H t) = D.den S t := by
  pointwise [b83, b82, b81, b80, b79]
  simp only [b6_apply, h.q, h.n, w_apply h, wi_apply h]
  rfl

theorem bound_apply (h : Given j s X B H D S) (t : Fin 128) : b87 j.val s (ix4 X B H t) = D.bound S t := by
  pointwise [b87, b86, b85, b84]
  rw [den_apply h, mrow_apply h]
  rfl

theorem h_apply (h : Given j s X B H D S) (t : Fin 128) (e : Fin 256) : b90 j.val s (ix5 X B H t e) = D.h S t e := by
  pointwise [b90, b89, b88, b78, b77, b76, b75, b74, b73]
  simp only [b6_apply, b20_apply, h.q, h.v, h.C, w_apply h, wi_apply h, bound_apply h]
  unfold Dat.h Dat.fs
  simp only [mul_comm (D.q t _)]

theorem bLast_apply (h : Given j s X B H D S) : b92 j.val s (ix3 X B H) = D.b 127 := by
  pointwise [b92, b91]
  exact b_apply h 127

theorem logIn_apply (h : Given j s X B H D S) (t : Fin 128) : b96 j.val s (ix4 X B H t) = D.logIn t := by
  pointwise [b96, b95, b94, b93]
  rw [bLast_apply h, b_apply h, b26_apply, h.li, Dat.logIn]

theorem m_apply (h : Given j s X B H D S) : b100 j.val s (ix3 X B H) = (D.next S).m := by
  pointwise [b100, b99, b98, b97]
  rw [bLast_apply h, h.m, fold_max_eq]
  simp only [logIn_apply h]
  rfl

theorem carry_apply (h : Given j s X B H D S) : b103 j.val s (ix3 X B H) = D.carry S := by
  pointwise [b103, b102, b101]
  rw [bLast_apply h, h.m, m_apply h]
  rfl

theorem kw_apply (h : Given j s X B H D S) (t : Fin 128) (e : Fin 256) : b110 j.val s (ix5 X B H t e) = D.k t e * D.win S t := by
  pointwise [b110, b109, b108, b107, b106, b105, b104]
  rw [b13_apply, h.k, logIn_apply h, m_apply h]
  rfl

theorem C_apply (h : Given j s X B H D S) (e e' : Fin 256) : b115 j.val s (ix5 X B H e e') = (D.next S).C e e' := by
  pointwise [b115, b114, b113, b112, b111]
  simp only [b20_apply, h.v, h.C, kw_apply h, carry_apply h]
  rfl

theorem n_apply (h : Given j s X B H D S) (e : Fin 256) : b121 j.val s (ix4 X B H e) = (D.next S).n e := by
  pointwise [b121, b120, b119, b118, b117, b116]
  simp only [h.n, kw_apply h, carry_apply h]
  rfl

end Cert.ReferenceIdeal.Trip

end
-- ==== Proof.RefInputs.lean ====
/-
  The arrays that the reference's loop reads, at an index: a token's row, or its gate, at its place in a direction's order.
-/
module

public import proofs.«01_k».proof.Proof.Gen.ReferenceIdeal.Step
public import proofs.«01_k».proof.Proof.Data
public import Idealize.ShloMosaic.Lib.Pointwise

@[expose] public section

noncomputable section

namespace Cert.ReferenceIdeal.Trip

open Idealize.ShloMosaic Idealize.ShloMosaic.StableHlo
open Cert.ReferenceIdeal Cert.ReferenceIdeal.Step Cert.Mlstm

/-- The arguments as functions of sample, token and column. -/
def inOf (a0 : (⟨S4x8192x1024, .f32⟩ : BufTy).Contents (Elt Ideal)) (a1 : (⟨S4x256x1024, .f32⟩ : BufTy).Contents (Elt Ideal))
    (a2 : (⟨S4x8192x1024, .f32⟩ : BufTy).Contents (Elt Ideal)) (a3 : (⟨S4x256x1024, .f32⟩ : BufTy).Contents (Elt Ideal))
    (a4 : (⟨S4x8192x1024, .f32⟩ : BufTy).Contents (Elt Ideal)) (a5 : (⟨S4x256x1024, .f32⟩ : BufTy).Contents (Elt Ideal))
    (a6 : (⟨S4x8192x16, .f32⟩ : BufTy).Contents (Elt Ideal)) (a7 : (⟨S4x256x16, .f32⟩ : BufTy).Contents (Elt Ideal))
    (a8 : (⟨S2x4, .f32⟩ : BufTy).Contents (Elt Ideal)) (a9 : (⟨S2x4, .f32⟩ : BufTy).Contents (Elt Ideal)) : In where
  ql b t e := a0 (ix3 b t e)
  qc b t e := a1 (ix3 b t e)
  kl b t e := a2 (ix3 b t e)
  kc b t e := a3 (ix3 b t e)
  vl b t e := a4 (ix3 b t e)
  vc b t e := a5 (ix3 b t e)
  gl b t e := a6 (ix3 b t e)
  gc b t e := a7 (ix3 b t e)
  bi d h := a8 (ix2 d h)
  bf d h := a9 (ix2 d h)

variable (a0 : (⟨S4x8192x1024, .f32⟩ : BufTy).Contents (Elt Ideal)) (a1 : (⟨S4x256x1024, .f32⟩ : BufTy).Contents (Elt Ideal))
    (a2 : (⟨S4x8192x1024, .f32⟩ : BufTy).Contents (Elt Ideal)) (a3 : (⟨S4x256x1024, .f32⟩ : BufTy).Contents (Elt Ideal))
    (a4 : (⟨S4x8192x1024, .f32⟩ : BufTy).Contents (Elt Ideal)) (a5 : (⟨S4x256x1024, .f32⟩ : BufTy).Contents (Elt Ideal))
    (a6 : (⟨S4x8192x16, .f32⟩ : BufTy).Contents (Elt Ideal)) (a7 : (⟨S4x256x16, .f32⟩ : BufTy).Contents (Elt Ideal))
    (a8 : (⟨S2x4, .f32⟩ : BufTy).Contents (Elt Ideal)) (a9 : (⟨S2x4, .f32⟩ : BufTy).Contents (Elt Ideal))

/-- A row by its place among the context's tokens and then the latent's, both backwards in the second direction. -/
theorem tok_eq {w : ℕ} (xl : Fin 4 → Fin 8192 → Fin w → EReal) (xc : Fin 4 → Fin 256 → Fin w → EReal) (X : Fin 2) (B : Fin 4)
    (j : Fin 66) (t : Fin 128) (e : Fin w) :
    tok xl xc X B j t e
      = if X.val < 1 then
          if h : j.val * 128 + t.val < 256 then xc B ⟨j.val * 128 + t.val, h⟩ e
          else xl B ⟨j.val * 128 + t.val - 256, by omega⟩ e
        else if h : j.val * 128 + t.val < 256 then xc B (Fin.rev ⟨j.val * 128 + t.val, h⟩) e
          else xl B (Fin.rev ⟨j.val * 128 + t.val - 256, by omega⟩) e := by
  unfold tok
  have hX : X.val < 1 ↔ X = 0 := by omega
  by_cases h2 : j.val < 2
  · rw [dif_pos h2, dif_pos (by omega), dif_pos (by omega)]
    simp only [place, if_pos h2, hX]
    split_ifs with hx
    · rfl
    · exact congrArg (fun p => xc B p e) (Fin.ext (by simp only [Fin.val_rev]; omega))
  · rw [dif_neg h2, dif_neg (by omega), dif_neg (by omega)]
    simp only [place, if_neg h2, hX]
    split_ifs with hx
    · exact congrArg (fun p => xl B p e) (Fin.ext (by simp only []; omega))
    · exact congrArg (fun p => xl B p e) (Fin.ext (by simp only [Fin.val_rev]; omega))

theorem v0_apply (B : Fin 4) (p : Fin 8448) (e : Fin 1024) : A_main_v0 a0 a1 a2 a3 a4 a5 a6 a7 a8 a9 (ix3 B p e)
      = if h : p.val < 256 then a1 (ix3 B ⟨p.val, h⟩ e) else a0 (ix3 B ⟨p.val - 256, by omega⟩ e) := by
  pointwise [A_main_v0]

theorem v3_apply (B : Fin 4) (p : Fin 8448) (e : Fin 1024) : A_main_v3 a0 a1 a2 a3 a4 a5 a6 a7 a8 a9 (ix3 B p e)
      = if h : p.val < 256 then a1 (ix3 B (Fin.rev ⟨p.val, h⟩) e) else a0 (ix3 B (Fin.rev ⟨p.val - 256, by omega⟩) e) := by
  pointwise [A_main_v3, A_main_v2, A_main_v1]
  rfl

/-- Two directions' arrays, one above the other, at a direction. -/
theorem two_apply (w0 w1 : S4x8448x1024.Idx → EReal) (h1 h2 h3) (X : Fin 2) (B : Fin 4) (p : Fin 8448) (e : Fin 1024) :
    concatenate S2x4x8448x1024 0 [⟨S1x4x8448x1024, broadcastInDim S1x4x8448x1024 ![1, 2, 3] h1 w0⟩,
       ⟨S1x4x8448x1024, broadcastInDim S1x4x8448x1024 ![1, 2, 3] h2 w1⟩] h3 (ix4 X B p e)
      = if X.val < 1 then w0 (ix3 B p e) else w1 (ix3 B p e) := by
  pointwise []
  rfl

/-- A direction's rows cut into chunks and heads, with the chunks in front. -/
theorem chunks_apply (w : S2x4x8448x1024.Idx → EReal) (h4 : S2x4x8448x1024.ShapeCasts S2x4x66x128x4x256) (h5)
    (j : Fin 66) (X : Fin 2) (B H : Fin 4) (t : Fin 128) (e : Fin 256) :
    transpose S66x2x4x4x128x256 [2, 0, 1, 4, 3, 5] (shapeCast S2x4x66x128x4x256 w h4) h5 (ix6 j X B H t e)
      = w (ix4 X B ⟨j.val * 128 + t.val, by omega⟩ (headCol H e)) := by
  refine (transpose_apply _ _ _ _ (ix6 X B j t H e) (fun b => match b with
    | ⟨0, _⟩ => rfl | ⟨1, _⟩ => rfl | ⟨2, _⟩ => rfl | ⟨3, _⟩ => rfl | ⟨4, _⟩ => rfl | ⟨5, _⟩ => rfl)).trans ?_
  refine shapeCast_apply _ _ _ _ ?_
  rw [Shape.rowMajor_val_four, Shape.rowMajor_val_succ, Shape.rowMajor_val_five]
  show ((X.val * 4 + B.val) * 8448 + (j.val * 128 + t.val)) * 1024 + (H.val * 256 + e.val)
    = X.val * (4 * 66 * 128 * 4 * 256) + ((((B.val * 66 + j.val) * 128 + t.val) * 4 + H.val) * 256 + e.val)
  omega

theorem rows_apply (j : Fin 66) (X : Fin 2) (B H : Fin 4) (t : Fin 128) (e : Fin 256) :
    A_main_v8 a0 a1 a2 a3 a4 a5 a6 a7 a8 a9 (ix6 j X B H t e)
      = tok (fun b t e => a0 (ix3 b t e)) (fun b t e => a1 (ix3 b t e)) X B j t (headCol H e) := by
  unfold A_main_v8 A_main_v7 A_main_v6 A_main_v5 A_main_v4
  rw [chunks_apply, tok_eq]
  refine (two_apply _ _ _ _ _ X B _ _).trans ?_
  rw [v0_apply, v3_apply]

/-- Keys and values are arranged as queries are. -/
theorem keys_apply (j : Fin 66) (X : Fin 2) (B H : Fin 4) (t : Fin 128) (e : Fin 256) :
    A_main_v17 a0 a1 a2 a3 a4 a5 a6 a7 a8 a9 (ix6 j X B H t e)
      = tok (fun b t e => a2 (ix3 b t e)) (fun b t e => a3 (ix3 b t e)) X B j t (headCol H e) :=
  rows_apply a2 a3 a2 a3 a4 a5 a6 a7 a8 a9 j X B H t e

theorem values_apply (j : Fin 66) (X : Fin 2) (B H : Fin 4) (t : Fin 128) (e : Fin 256) :
    A_main_v26 a0 a1 a2 a3 a4 a5 a6 a7 a8 a9 (ix6 j X B H t e)
      = tok (fun b t e => a4 (ix3 b t e)) (fun b t e => a5 (ix3 b t e)) X B j t (headCol H e) :=
  rows_apply a4 a5 a2 a3 a4 a5 a6 a7 a8 a9 j X B H t e

end Cert.ReferenceIdeal.Trip

end
-- ==== Proof.RefGates.lean ====
/-
  The gates that the reference's loop reads, at an index: a token's, at its place in a direction's order, and the bias.
-/
module

public import proofs.«01_k».proof.Proof.RefInputs
public import Idealize.ShloMosaic.Lib.Pointwise

@[expose] public section

noncomputable section

namespace Cert.ReferenceIdeal.Trip

open Idealize.ShloMosaic Idealize.ShloMosaic.StableHlo
open Cert.ReferenceIdeal Cert.ReferenceIdeal.Step Cert.Mlstm

variable (a0 : (⟨S4x8192x1024, .f32⟩ : BufTy).Contents (Elt Ideal)) (a1 : (⟨S4x256x1024, .f32⟩ : BufTy).Contents (Elt Ideal))
    (a2 : (⟨S4x8192x1024, .f32⟩ : BufTy).Contents (Elt Ideal)) (a3 : (⟨S4x256x1024, .f32⟩ : BufTy).Contents (Elt Ideal))
    (a4 : (⟨S4x8192x1024, .f32⟩ : BufTy).Contents (Elt Ideal)) (a5 : (⟨S4x256x1024, .f32⟩ : BufTy).Contents (Elt Ideal))
    (a6 : (⟨S4x8192x16, .f32⟩ : BufTy).Contents (Elt Ideal)) (a7 : (⟨S4x256x16, .f32⟩ : BufTy).Contents (Elt Ideal))
    (a8 : (⟨S2x4, .f32⟩ : BufTy).Contents (Elt Ideal)) (a9 : (⟨S2x4, .f32⟩ : BufTy).Contents (Elt Ideal))

theorem v29_apply (B : Fin 4) (p : Fin 256) (X : Fin 2) (H : Fin 4) : A_main_v29 a0 a1 a2 a3 a4 a5 a6 a7 a8 a9 (ix4 B p X H)
      = a7 (ix3 B p (inLane X H)) := by
  pointwise [A_main_v29, A_main_v28, A_main_v27]

theorem v32_apply (B : Fin 4) (p : Fin 8192) (X : Fin 2) (H : Fin 4) : A_main_v32 a0 a1 a2 a3 a4 a5 a6 a7 a8 a9 (ix4 B p X H)
      = a6 (ix3 B p (inLane X H)) := by
  pointwise [A_main_v32, A_main_v31, A_main_v30]

theorem v56_apply (B : Fin 4) (p : Fin 256) (X : Fin 2) (H : Fin 4) : A_main_v56 a0 a1 a2 a3 a4 a5 a6 a7 a8 a9 (ix4 B p X H)
      = a7 (ix3 B p (forgetLane X H)) := by
  pointwise [A_main_v56, A_main_v55, A_main_v54]
  exact congrArg (fun l => a7 (ix3 B p l)) (Fin.ext (Nat.add_assoc 8 _ _))

theorem v59_apply (B : Fin 4) (p : Fin 8192) (X : Fin 2) (H : Fin 4) : A_main_v59 a0 a1 a2 a3 a4 a5 a6 a7 a8 a9 (ix4 B p X H)
      = a6 (ix3 B p (forgetLane X H)) := by
  pointwise [A_main_v59, A_main_v58, A_main_v57]
  exact congrArg (fun l => a6 (ix3 B p l)) (Fin.ext (Nat.add_assoc 8 _ _))

/-- Two directions' gates, one above the other, at a direction. -/
theorem twoGates_apply (w0 w1 : S4x8448x4.Idx → EReal) (h1 h2 h3) (X : Fin 2) (B : Fin 4) (p : Fin 8448) (e : Fin 4) :
    concatenate S2x4x8448x4 0 [⟨S1x4x8448x4, broadcastInDim S1x4x8448x4 ![1, 2, 3] h1 w0⟩,
       ⟨S1x4x8448x4, broadcastInDim S1x4x8448x4 ![1, 2, 3] h2 w1⟩] h3 (ix4 X B p e)
      = if X.val < 1 then w0 (ix3 B p e) else w1 (ix3 B p e) := by
  pointwise []
  rfl

/-- A direction's gates cut into chunks, with the chunks in front. -/
theorem gateChunks_apply (w : S2x4x8448x4.Idx → EReal) (h4 : S2x4x8448x4.ShapeCasts S2x4x66x128x4) (h5)
    (j : Fin 66) (X : Fin 2) (B H : Fin 4) (t : Fin 128) :
    transpose S66x2x4x4x128 [2, 0, 1, 4, 3] (shapeCast S2x4x66x128x4 w h4) h5 (ix5 j X B H t)
      = w (ix4 X B ⟨j.val * 128 + t.val, by omega⟩ H) := by
  refine (transpose_apply _ _ _ _ (ix5 X B j t H) (fun b => match b with
    | ⟨0, _⟩ => rfl | ⟨1, _⟩ => rfl | ⟨2, _⟩ => rfl | ⟨3, _⟩ => rfl | ⟨4, _⟩ => rfl)).trans ?_
  refine shapeCast_apply _ _ _ _ ?_
  rw [Shape.rowMajor_val_four, Shape.rowMajor_val_five]
  show ((X.val * 4 + B.val) * 8448 + (j.val * 128 + t.val)) * 4 + H.val
    = (((X.val * 4 + B.val) * 66 + j.val) * 128 + t.val) * 4 + H.val
  omega

theorem gateCat_apply (x : (⟨S4x256x2x4, .f32⟩ : BufTy).Contents (Elt Ideal)) (y : (⟨S4x8192x2x4, .f32⟩ : BufTy).Contents (Elt Ideal))
    (h1 h2 h3 h4 h5) (B : Fin 4) (p : Fin 8448) (H : Fin 4) :
    (concatenate S4x8448x4 1 [⟨S4x256x4, shapeCast S4x256x4 (extractStridedSlice S4x256x1x4 ![0, 0, 0, 0] x h1) h2⟩,
      ⟨S4x8192x4, shapeCast S4x8192x4 (extractStridedSlice S4x8192x1x4 ![0, 0, 0, 0] y h3) h4⟩] h5 : (⟨S4x8448x4, .f32⟩ : BufTy).Contents (Elt Ideal)) (ix3 B p H)
      = if h : p.val < 256 then x (ix4 B ⟨p.val, h⟩ 0 H) else y (ix4 B ⟨p.val - 256, by omega⟩ 0 H) := by
  pointwise []

theorem gateRev_apply (x : (⟨S4x256x2x4, .f32⟩ : BufTy).Contents (Elt Ideal)) (y : (⟨S4x8192x2x4, .f32⟩ : BufTy).Contents (Elt Ideal))
    (h1 h2 h3 h4 h5) (B : Fin 4) (p : Fin 8448) (H : Fin 4) :
    (concatenate S4x8448x4 1 [⟨S4x256x4, Host.reverse [1] (shapeCast S4x256x4 (extractStridedSlice S4x256x1x4 ![0, 0, 1, 0] x h1) h2)⟩,
      ⟨S4x8192x4, Host.reverse [1] (shapeCast S4x8192x4 (extractStridedSlice S4x8192x1x4 ![0, 0, 1, 0] y h3) h4)⟩] h5 : (⟨S4x8448x4, .f32⟩ : BufTy).Contents (Elt Ideal)) (ix3 B p H)
      = if h : p.val < 256 then x (ix4 B (Fin.rev ⟨p.val, h⟩) 1 H) else y (ix4 B (Fin.rev ⟨p.val - 256, by omega⟩) 1 H) := by
  pointwise []
  rfl

/-- The input gates, before their bias. -/
theorem inputChunks_apply (j : Fin 66) (X : Fin 2) (B H : Fin 4) (t : Fin 128) :
    A_main_v49 a0 a1 a2 a3 a4 a5 a6 a7 a8 a9 (ix5 j X B H t)
      = tok (fun b t e => a6 (ix3 b t e)) (fun b t e => a7 (ix3 b t e)) X B j t (inLane X H) := by
  refine ((gateChunks_apply _ _ _ j X B H t).trans (twoGates_apply _ _ _ _ _ X B _ H)).trans ?_
  rw [tok_eq]
  match X with
  | 0 =>
    refine (if_pos (by decide)).trans (((gateCat_apply _ _ _ _ _ _ _ B _ H).trans ?_).trans (if_pos (by decide)).symm)
    simp only [v29_apply, v32_apply]
  | 1 =>
    refine (if_neg (by decide)).trans (((gateRev_apply _ _ _ _ _ _ _ B _ H).trans ?_).trans (if_neg (by decide)).symm)
    simp only [v29_apply, v32_apply]

theorem input_apply (j : Fin 66) (X : Fin 2) (B H : Fin 4) (t : Fin 128) :
    A_main_v53 a0 a1 a2 a3 a4 a5 a6 a7 a8 a9 (ix5 j X B H t)
      = (tok (fun b t e => a6 (ix3 b t e)) (fun b t e => a7 (ix3 b t e)) X B j t (inLane X H) : EReal) + a8 (ix2 X H) := by
  have hb : A_main_v52 a0 a1 a2 a3 a4 a5 a6 a7 a8 a9 (ix5 j X B H t) = a8 (ix2 X H) := by
    pointwise [A_main_v52, A_main_v51, A_main_v50]
  exact congrArg₂ (fun x y : EReal => x + y) (inputChunks_apply a0 a1 a2 a3 a4 a5 a6 a7 a8 a9 j X B H t) hb

/-- The forget gates, before their bias. -/
theorem forgetChunks_apply (j : Fin 66) (X : Fin 2) (B H : Fin 4) (t : Fin 128) :
    A_main_v76 a0 a1 a2 a3 a4 a5 a6 a7 a8 a9 (ix5 j X B H t)
      = tok (fun b t e => a6 (ix3 b t e)) (fun b t e => a7 (ix3 b t e)) X B j t (forgetLane X H) := by
  refine ((gateChunks_apply _ _ _ j X B H t).trans (twoGates_apply _ _ _ _ _ X B _ H)).trans ?_
  rw [tok_eq]
  match X with
  | 0 =>
    refine (if_pos (by decide)).trans (((gateCat_apply _ _ _ _ _ _ _ B _ H).trans ?_).trans (if_pos (by decide)).symm)
    simp only [v56_apply, v59_apply]
  | 1 =>
    refine (if_neg (by decide)).trans (((gateRev_apply _ _ _ _ _ _ _ B _ H).trans ?_).trans (if_neg (by decide)).symm)
    simp only [v56_apply, v59_apply]

theorem forget_apply (j : Fin 66) (X : Fin 2) (B H : Fin 4) (t : Fin 128) :
    A_main_v80 a0 a1 a2 a3 a4 a5 a6 a7 a8 a9 (ix5 j X B H t)
      = (tok (fun b t e => a6 (ix3 b t e)) (fun b t e => a7 (ix3 b t e)) X B j t (forgetLane X H) : EReal) + a9 (ix2 X H) := by
  have hb : A_main_v79 a0 a1 a2 a3 a4 a5 a6 a7 a8 a9 (ix5 j X B H t) = a9 (ix2 X H) := by
    pointwise [A_main_v79, A_main_v78, A_main_v77]
  exact congrArg₂ (fun x y : EReal => x + y) (forgetChunks_apply a0 a1 a2 a3 a4 a5 a6 a7 a8 a9 j X B H t) hb

end Cert.ReferenceIdeal.Trip

end
-- ==== Proof.RefIter.lean ====
/-
  The states of the reference's trips: after `n` of them a direction, sample and head holds its chain's state after `n`
  chunks, and the outputs of those chunks.
-/
module

public import proofs.«01_k».proof.Proof.RefStep
public import proofs.«01_k».proof.Proof.RefGates
public import proofs.«01_k».proof.Proof.Trips

@[expose] public section

noncomputable section

namespace Cert.ReferenceIdeal.Trip

open Idealize.ShloMosaic Idealize.ShloMosaic.TcCoe Idealize.SL.Sem
open Cert.ReferenceIdeal Cert.ReferenceIdeal.Step Cert.ReferenceIdeal.Trips Cert.Mlstm

variable (m : (ℓ : Loc nD τ sig) → Buf (Elt Ideal) ℓ) (c : Dev nD)

/-- The arguments a run starts from. -/
abbrev inAt : In :=
  inOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The state after `n` trips. -/
structure After (k : ℕ) (s : State Ideal) : Prop where
  q : s.main_v87_0 = (start m c).main_v87_0
  kk : s.main_v87_1 = (start m c).main_v87_1
  v : s.main_v87_2 = (start m c).main_v87_2
  li : s.main_v87_3 = (start m c).main_v87_3
  lf : s.main_v87_4 = (start m c).main_v87_4
  C : ∀ X B H e e', s.main_v87_7 (ix5 X B H e e') = ((inAt m c).sta X B H k).C e e'
  nn : ∀ X B H e, s.main_v87_8 (ix4 X B H e) = ((inAt m c).sta X B H k).n e
  mm : ∀ X B H, s.main_v87_9 (ix3 X B H) = ((inAt m c).sta X B H k).m
  out : ∀ (i : Fin 66) X B H t e, i.val < k → s.main_v87_10 (ix6 i X B H t e) = (inAt m c).out X B H i t e

variable {m c}

theorem After.given {j : Fin 66} {s : State Ideal} (h : After m c j.val s) (X : Fin 2) (B H : Fin 4) :
    Given j s X B H ((inAt m c).dat X B H j) ((inAt m c).sta X B H j.val) where
  q t e := (congrFun h.q _).trans (rows_apply _ _ _ _ _ _ _ _ _ _ j X B H t e)
  k t e := (congrFun h.kk _).trans (keys_apply _ _ _ _ _ _ _ _ _ _ j X B H t e)
  v t e := (congrFun h.v _).trans (values_apply _ _ _ _ _ _ _ _ _ _ j X B H t e)
  li t := (congrFun h.li _).trans (input_apply _ _ _ _ _ _ _ _ _ _ j X B H t)
  lf t := congrArg lsig ((congrFun h.lf _).trans (forget_apply _ _ _ _ _ _ _ _ _ _ j X B H t))
  C := h.C X B H
  n := h.nn X B H
  m := h.mm X B H

theorem After.step {j : Fin 66} {s : State Ideal} (h : After m c j.val s) : After m c (j.val + 1) (step j.val s) where
  q := h.q
  kk := h.kk
  v := h.v
  li := h.li
  lf := h.lf
  C X B H e e' := by rw [step_main_v87_7, C_apply (h.given X B H), In.sta_succ]
  nn X B H e := by rw [step_main_v87_8, n_apply (h.given X B H), In.sta_succ]
  mm X B H := by rw [step_main_v87_9, m_apply (h.given X B H), In.sta_succ]
  out i X B H t e hi := by
    rw [step_main_v87_10, b128_apply]
    split_ifs with hij
    · rw [h_apply (h.given X B H), hij, In.out]
    · exact h.out i X B H t e (by have := Fin.val_ne_of_ne hij; omega)

theorem after_start : After m c 0 (start m c) where
  q := rfl
  kk := rfl
  v := rfl
  li := rfl
  lf := rfl
  C _ _ _ _ _ := Ideal.ofBits_zero_f32
  nn _ _ _ _ := Ideal.ofBits_zero_f32
  mm _ _ _ := Ideal.ofBits_zero_f32
  out _ _ _ _ _ _ h := absurd h (Nat.not_lt_zero _)

theorem after_iter : ∀ n, n ≤ 66 → After m c n (iter m c n)
  | 0, _ => after_start
  | n + 1, h => (after_iter n (Nat.le_of_succ_le h)).step (j := ⟨n, h⟩)

end Cert.ReferenceIdeal.Trip

end
-- ==== Proof.RefOut.lean ====
/-
  The reference's results at a position: what the loop's last state holds of it.
-/
module

public import proofs.«01_k».proof.Proof.Gen.ReferenceIdeal.Step
public import proofs.«01_k».proof.Proof.Places
public import Idealize.ShloMosaic.Lib.Pointwise

@[expose] public section

noncomputable section

namespace Cert.ReferenceIdeal.Trip

open Idealize.ShloMosaic Idealize.ShloMosaic.StableHlo
open Cert.ReferenceIdeal Cert.ReferenceIdeal.Step Cert.Mlstm

/-- The chunks of a direction, sample and head, put after each other. -/
theorem gather_apply (w : S66x2x4x4x128x256.Idx → EReal) (h1 h2) (n : Fin 66) (X : Fin 2) (B H : Fin 4) (j : Fin 128) (e : Fin 256)
    (p : Fin 8448) (hp : p.val = n.val * 128 + j.val) :
    shapeCast S2x4x4x8448x256 (transpose S2x4x4x66x128x256 [1, 2, 3, 0, 4, 5] w h1) h2 (ix5 X B H p e) = w (ix6 n X B H j e) := by
  refine (shapeCast_apply _ _ _ (ix6 X B H n j e) ?_).trans (transpose_apply _ _ _ _ _ (fun b => match b with
    | ⟨0, _⟩ => rfl | ⟨1, _⟩ => rfl | ⟨2, _⟩ => rfl | ⟨3, _⟩ => rfl | ⟨4, _⟩ => rfl | ⟨5, _⟩ => rfl))
  rw [Shape.rowMajor_val_succ, Shape.rowMajor_val_five, Shape.rowMajor_val_five]
  show X.val * (4 * 4 * 66 * 128 * 256) + ((((B.val * 4 + H.val) * 66 + n.val) * 128 + j.val) * 256 + e.val)
    = (((X.val * 4 + B.val) * 4 + H.val) * 8448 + p.val) * 256 + e.val
  omega

/-- A direction's `L` rows from row `o` on. -/
theorem part_apply {L : ℕ} (o : ℕ) (z : S2x4x4x8448x256.Idx → EReal) (X : Fin 2) (h1 h2) (B H : Fin 4) (p : Fin L) (e : Fin 256)
    (q : Fin 8448) (hq : q.val = o + p.val) :
    shapeCast ⟨4, ![4, 4, L, 256]⟩ (extractStridedSlice ⟨5, ![1, 4, 4, L, 256]⟩ ![X.val, 0, 0, o, 0] z h1) h2 (ix4 B H p e)
      = z (ix5 X B H q e) := by
  refine (shapeCast_apply _ _ _ (ix5 0 B H p e) ?_).trans (extractStridedSlice_apply _ _ _ _ _ (fun a => match a with
    | ⟨0, _⟩ => rfl | ⟨1, _⟩ => (Nat.zero_add _).symm | ⟨2, _⟩ => (Nat.zero_add _).symm | ⟨3, _⟩ => hq | ⟨4, _⟩ => (Nat.zero_add _).symm))
  rw [Shape.rowMajor_val_four, Shape.rowMajor_val_five]
  show (((0 * 4 + B.val) * 4 + H.val) * L + p.val) * 256 + e.val = ((B.val * 4 + H.val) * L + p.val) * 256 + e.val
  rw [Nat.zero_mul, Nat.zero_add]

/-- The samples' heads beside each other, and a pair's samples after each other. -/
theorem pair_apply {L M : ℕ} (hM : M = 2 * L) (y : (⟨4, ![4, 4, L, 256]⟩ : Shape).Idx → EReal) (h1 h2) (g b : Fin 2) (H : Fin 4)
    (p : Fin L) (e : Fin 256) (r : Fin M) (hr : r.val = b.val * L + p.val) :
    shapeCast ⟨3, ![2, M, 1024]⟩ (transpose ⟨4, ![4, L, 4, 256]⟩ [0, 2, 1, 3] y h1) h2 (ix3 g r (headCol H e))
      = y (ix4 (smp g b) H p e) := by
  refine (shapeCast_apply _ _ _ (ix4 (smp g b) p H e) ?_).trans (transpose_apply _ _ _ _ _ (fun b => match b with
    | ⟨0, _⟩ => rfl | ⟨1, _⟩ => rfl | ⟨2, _⟩ => rfl | ⟨3, _⟩ => rfl))
  rw [Shape.rowMajor_val_three, Shape.rowMajor_val_four]
  show (((2 * g.val + b.val) * L + p.val) * 4 + H.val) * 256 + e.val = (g.val * M + r.val) * 1024 + (H.val * 256 + e.val)
  subst hM
  rw [hr]
  ring

theorem both_apply (x : S2x16384x1024.Idx → EReal) (y : S2x512x1024.Idx → EReal) (h) (g : Fin 2) (r : Fin 16896) (e : Fin 1024) :
    concatenate S2x16896x1024 1 [⟨S2x16384x1024, x⟩, ⟨S2x512x1024, y⟩] h (ix3 g r e)
      = if h : r.val < 16384 then x (ix3 g ⟨r.val, h⟩ e) else y (ix3 g ⟨r.val - 16384, by omega⟩ e) := by
  pointwise []

/-- The rows backwards. -/
theorem rev_apply {L : ℕ} (y : (⟨4, ![4, 4, L, 256]⟩ : Shape).Idx → EReal) (B H : Fin 4) (p : Fin L) (e : Fin 256) :
    Host.reverse [2] y (ix4 B H p e) = y (ix4 B H p.rev e) :=
  congrArg y (funext fun a => match a with
    | ⟨0, _⟩ => rfl | ⟨1, _⟩ => rfl | ⟨2, _⟩ => rfl | ⟨3, _⟩ => rfl)

variable (s : State Ideal) (g b : Fin 2) (n : Fin 66) (j : Fin 128) (H : Fin 4) (e : Fin 256)

/-- The first result holds, at a position of the first direction, that position's output. -/
theorem first_apply : R_main_v99 s (ix3 g (dst b 0 n j) (headCol H e)) = s.main_v87_10 (ix6 n 0 (smp g b) H j e) := by
  refine (both_apply _ _ Gen.concatenates_S2x16384x1024_S2x512x1024_S2x16896x1024_d1 g _ _).trans ?_
  by_cases h : n.val < 2
  · have hd : (dst b 0 n j).val = 16384 + (b.val * 256 + (n.val * 128 + j.val)) := by
      rw [dst, dif_pos h]
      simp only [place, if_pos h, if_true]
    rw [dif_neg (by omega)]
    exact (pair_apply (L := 256) (M := 512) rfl _ _ _ g b H ⟨n.val * 128 + j.val, by omega⟩ e _ (by simp only [hd]; omega)).trans
      ((part_apply (L := 256) 0 _ 0 _ _ _ H _ e ⟨n.val * 128 + j.val, by omega⟩ (by simp only [Nat.zero_add])).trans
        (gather_apply _ _ _ n 0 _ H j e _ rfl))
  · have hd : (dst b 0 n j).val = b.val * 8192 + ((n.val - 2) * 128 + j.val) := by
      rw [dst, dif_neg h]
      simp only [place, if_neg h, if_true]
    rw [dif_pos (by omega)]
    exact (pair_apply (L := 8192) (M := 16384) rfl _ _ _ g b H ⟨(n.val - 2) * 128 + j.val, by omega⟩ e _ (by exact hd)).trans
      ((part_apply (L := 8192) 256 _ 0 _ _ _ H _ e ⟨n.val * 128 + j.val, by omega⟩ (by simp only []; omega)).trans
        (gather_apply _ _ _ n 0 _ H j e _ rfl))

/-- The second result holds, at a position of the second direction, that position's output. -/
theorem second_apply : R_main_v111 s (ix3 g (dst b 1 n j) (headCol H e)) = s.main_v87_10 (ix6 n 1 (smp g b) H j e) := by
  have h10 : ¬(1 : Fin 2) = 0 := by decide
  refine (both_apply _ _ Gen.concatenates_S2x16384x1024_S2x512x1024_S2x16896x1024_d1 g _ _).trans ?_
  by_cases h : n.val < 2
  · have hd : (dst b 1 n j).val = 16384 + (b.val * 256 + (255 - (n.val * 128 + j.val))) := by
      rw [dst, dif_pos h]
      simp only [place, if_pos h, if_neg h10]
    rw [dif_neg (by omega)]
    exact (pair_apply (L := 256) (M := 512) rfl _ _ _ g b H ⟨255 - (n.val * 128 + j.val), by omega⟩ e _ (by simp only [hd]; omega)).trans
      ((rev_apply _ _ H _ e).trans ((part_apply (L := 256) 0 _ 1 _ _ _ H _ e ⟨n.val * 128 + j.val, by omega⟩
        (by simp only [Fin.val_rev]; omega)).trans (gather_apply _ _ _ n 1 _ H j e _ rfl)))
  · have hd : (dst b 1 n j).val = b.val * 8192 + (8191 - ((n.val - 2) * 128 + j.val)) := by
      rw [dst, dif_neg h]
      simp only [place, if_neg h, if_neg h10]
    rw [dif_pos (by omega)]
    exact (pair_apply (L := 8192) (M := 16384) rfl _ _ _ g b H ⟨8191 - ((n.val - 2) * 128 + j.val), by omega⟩ e _ (by exact hd)).trans
      ((rev_apply _ _ H _ e).trans ((part_apply (L := 8192) 256 _ 1 _ _ _ H _ e ⟨n.val * 128 + j.val, by omega⟩
        (by simp only [Fin.val_rev]; omega)).trans (gather_apply _ _ _ n 1 _ H j e _ rfl)))

end Cert.ReferenceIdeal.Trip

end
-- ==== Proof.Agree.lean ====
/-
  The kernel's and the reference's results are the same arrays, where no input gate is plus infinity and both start from
  the same arguments.
-/
module

public import proofs.«01_k».proof.Defs
public import proofs.«01_k».proof.Proof.Results
public import proofs.«01_k».proof.Proof.RefIter
public import proofs.«01_k».proof.Proof.RefOut

@[expose] public section

noncomputable section

namespace Cert.Mlstm

open Idealize.ShloMosaic Idealize.ShloMosaic.TcCoe Idealize.SL.Sem

/-- The shapes of the precondition's operations fit. -/
instance preFacts : Cert.Pre_input_gates_below_inf.Facts := by
  constructor <;> decide

/-- A comparison that gives one holds. -/
theorem of_bit {p : Prop} [Decidable p] (h : BitVec.ofBool (decide p) = 1#1) : p := by
  by_contra hp
  rw [decide_eq_false hp] at h
  exact absurd h (by decide)

/-- The precondition at a token, direction and head. -/
theorem gate_ne_top (a0 a1 a2 a3 a4 a5) (a6 : FVec Ideal Cert.Pre_input_gates_below_inf.S4x8192x16 .f32)
    (a7 : FVec Ideal Cert.Pre_input_gates_below_inf.S4x256x16 .f32) (a8 : FVec Ideal Cert.Pre_input_gates_below_inf.S2x4 .f32) (a9)
    (h : Cert.Pre_input_gates_below_inf.fn (F := Ideal) a0 a1 a2 a3 a4 a5 a6 a7 a8 a9 = fun _ => 1#1)
    (b : Fin 4) (p : Fin 8448) (d : Fin 2) (hd : Fin 4) :
    (if h : p.val < 256 then a7 (ix3 b ⟨p.val, h⟩ (inLane d hd)) else a6 (ix3 b ⟨p.val - 256, by omega⟩ (inLane d hd)) : EReal)
      + a8 (ix2 d hd) ≠ ⊤ := by
  have hp := congrFun h (ix4 b p d hd)
  revert hp
  pointwise [Cert.Pre_input_gates_below_inf.fn]
  intro hlt
  exact ne_top_of_lt (of_bit hlt)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

theorem fine (h : Cert.Pre_KernelIdeal_input_gates_below_inf m) (c : Dev Cert.KernelIdeal.nD) : (Cert.KernelIdeal.Body.inOf m c).Fine where
  l b t d hd := by
    have := gate_ne_top _ _ _ _ _ _ _ _ _ _ (h c) b ⟨256 + t.val, by omega⟩ d hd
    rw [dif_neg (by simp only []; omega)] at this
    simp only [Nat.add_sub_cancel_left] at this
    exact this
  c b t d hd := by
    have := gate_ne_top _ _ _ _ _ _ _ _ _ _ (h c) b ⟨t.val, by omega⟩ d hd
    rw [dif_pos t.isLt] at this
    exact this

/-- The arguments that both start from. -/
theorem in_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Trip.inAt m' c = Cert.KernelIdeal.Body.inOf m c := by
  unfold Cert.ReferenceIdeal.Trip.inAt
  rw [h0, h1, h2, h3, h4, h5, h6, h7, h8, h9]
  rfl

variable {c : Dev Cert.KernelIdeal.nD}

/-- The first results. -/
theorem first_eq (hI : (Cert.KernelIdeal.Body.inOf m c).Fine) (hm : Cert.ReferenceIdeal.Trip.inAt m' c = Cert.KernelIdeal.Body.inOf m c) :
    Cert.ReferenceIdeal.Step.R_main_v99 (Cert.ReferenceIdeal.Trips.iter m' c 66) = (Cert.KernelIdeal.Gen.dats m 0 c).arrAt 17 Cert.KernelIdeal.cfg0.N :=
  results_ext 0 fun g b n j hd e =>
    ((Cert.ReferenceIdeal.Trip.first_apply _ g b n j hd e).trans
      ((Cert.ReferenceIdeal.Trip.after_iter 66 le_rfl).out n 0 (smp g b) hd j e n.isLt)).trans
      ((congrArg (fun I : In => I.out 0 (smp g b) hd n j e) hm).trans (Cert.KernelIdeal.Body.first_apply hI g b n j hd e).symm)

/-- The second results. -/
theorem second_eq (hI : (Cert.KernelIdeal.Body.inOf m c).Fine) (hm : Cert.ReferenceIdeal.Trip.inAt m' c = Cert.KernelIdeal.Body.inOf m c) :
    Cert.ReferenceIdeal.Step.R_main_v111 (Cert.ReferenceIdeal.Trips.iter m' c 66) = (Cert.KernelIdeal.Gen.dats m 0 c).arrAt 18 Cert.KernelIdeal.cfg0.N :=
  results_ext 1 fun g b n j hd e =>
    ((Cert.ReferenceIdeal.Trip.second_apply _ g b n j hd e).trans
      ((Cert.ReferenceIdeal.Trip.after_iter 66 le_rfl).out n 1 (smp g b) hd j e n.isLt)).trans
      ((congrArg (fun I : In => I.out 1 (smp g b) hd n j e) hm).trans (Cert.KernelIdeal.Body.second_apply hI g b n j hd e).symm)

end Cert.Mlstm

end
-- ==== Proof.FfnBody.lean ====
/-
  What one grid point of the feed-forward kernel stores: its normalised rows, the eleven chunks of 256 columns that
  its convolution takes one after the other, and the output block, as functions of the blocks that it loads.
-/
module

public import proofs.«01_k».proof.Proof.Gen.Kernel2Ideal.Frame
public import Idealize.ShloMosaic.Lib.Pipeline.ReadBack
public import Idealize.ShloMosaic.Lib.Pipeline.CanonAppend
public import Idealize.ShloMosaic.Lib.Pipeline.ValueKit.Basic

@[expose] public section

noncomputable section

namespace Cert.Kernel2Ideal.Ffn

open Idealize.ShloMosaic Idealize.ShloMosaic.TcCoe Idealize.SL.Sem Cert.Kernel2Ideal Cert.Kernel2Ideal.Gen

variable {F : FTy → Type} [FloatOps F] [Named F]

/-! ### The point's place -/

/-- Whether a point's tile is one of the context, and a point's tile within its sample. -/
def isCtx (i : grid0.Coords) : BitVec 1 := Scalar.cmpi .sge (BitVec.ofNat 32 (i 0).val) 32#32
def ofSample (i : grid0.Coords) : BitVec 32 :=
  let d : BitVec 32 := Scalar.select (Scalar.cmpi .eq 8#32 0#32) 1#32 8#32
  let r : BitVec 32 := Scalar.remsi (BitVec.ofNat 32 (i 0).val) d
  Scalar.select (Scalar.andi (Scalar.xori (Scalar.cmpi .slt r 0#32) (Scalar.cmpi .slt d 0#32)) (Scalar.cmpi .ne r 0#32))
    (Scalar.addi r d) r

/-- Whether a point's tile is its sample's first, and its last. -/
def top (i : grid0.Coords) : BitVec 1 := Scalar.ori (isCtx i) (Scalar.cmpi .eq (ofSample i) 0#32)
def bottom (i : grid0.Coords) : BitVec 1 := Scalar.ori (isCtx i) (Scalar.cmpi .eq (ofSample i) 7#32)

/-! ### The arrays' parts -/

abbrev upR (o : ℕ) (ho : o + 256 ≤ 5632) : Rect S1024x5632 :=
  Rect.unit (s := S1024x5632) ![0, o] S1024x256.size fun a => match a with
    | ⟨0, _⟩ => by show 0 + 1024 ≤ 1024; omega
    | ⟨1, _⟩ => ho
abbrev cwR (c : ℕ) (hc : c < 11) : Rect S9x2816 :=
  Rect.unit (s := S9x2816) ![0, c * 256] S9x256.size fun a => match a with
    | ⟨0, _⟩ => by show 0 + 9 ≤ 9; omega
    | ⟨1, _⟩ => by show c * 256 + 256 ≤ 2816; omega
abbrev cbR (c : ℕ) (hc : c < 11) : Rect S1x2816 :=
  Rect.unit (s := S1x2816) ![0, c * 256] S1x256.size fun a => match a with
    | ⟨0, _⟩ => by show 0 + 1 ≤ 1; omega
    | ⟨1, _⟩ => by show c * 256 + 256 ≤ 2816; omega
abbrev actR (c : ℕ) (hc : c < 11) : Rect S1024x2816 :=
  Rect.unit (s := S1024x2816) ![0, c * 256] S1024x256.size fun a => match a with
    | ⟨0, _⟩ => by show 0 + 1024 ≤ 1024; omega
    | ⟨1, _⟩ => by show c * 256 + 256 ≤ 2816; omega
abbrev slabR (c : ℕ) : Rect S2x1152x256 :=
  Rect.unit (s := S2x1152x256) ![c % 2, 0, 0] S1x1152x256.size fun a => match a with
    | ⟨0, _⟩ => by show c % 2 + 1 ≤ 2; omega
    | ⟨1, _⟩ => by show 0 + 1152 ≤ 1152; omega
    | ⟨2, _⟩ => by show 0 + 256 ≤ 256; omega
abbrev modR (k : ℕ) (hk : k < 6) : Rect S1x6x1024 :=
  Rect.unit (s := S1x6x1024) ![0, k, 0] S1x1x1024.size fun a => match a with
    | ⟨0, _⟩ => by show 0 + 1 ≤ 1; omega
    | ⟨1, _⟩ => by show k + 1 ≤ 6; omega
    | ⟨2, _⟩ => by show 0 + 1024 ≤ 1024; omega
abbrev midR : Rect S1152x1024 :=
  Rect.unit (s := S1152x1024) ![64, 0] S1024x1024.size inb_S1152x1024_S1024x1024_64_0

/-! ### One chunk -/

theorem slices_tap (t : ℕ) (ht : t < 9) : S9x256.Slices ![t, 0] S1x256 :=
  ⟨rfl, fun a => match a with
    | ⟨0, _⟩ => by show t + 1 ≤ 9; omega
    | ⟨1, _⟩ => by show 0 + 256 ≤ 256; omega⟩

theorem slices_row (lo : ℕ) (hlo : lo ≤ 128) : S1152x256.Slices ![lo, 0] S1024x256 :=
  ⟨rfl, fun a => match a with
    | ⟨0, _⟩ => by show lo + 1024 ≤ 1152; omega
    | ⟨1, _⟩ => by show 0 + 256 ≤ 256; omega⟩

/-- One tap of the convolution: the rows from `lo` on, times a weight that `on` can switch off. -/
def tapV (w : FVec F S9x256 .f32) (on : F .f32) (v : FVec F S1152x256 .f32) (t : ℕ) (ht : t < 9) (lo : ℕ) (hlo : lo ≤ 128) :
    FVec F S1024x256 .f32 :=
  mulf (extractStridedSlice S1024x256 ![lo, 0] v (slices_row lo hlo))
    (broadcastTo S1024x256 (mulf (extractStridedSlice S1x256 ![t, 0] w (slices_tap t ht)) (broadcast S1x256 on))
      broadcasts_S1x256_S1024x256)

/-- The number one. -/
def oneF : F .f32 := Scalar.ofBits .f32 0x3F800000#32

/-- The convolution: the bias, then the taps of the row above, of the row itself and of the row below. -/
def convV (on : F .f32) (w : FVec F S9x256 .f32) (b : FVec F S1x256 .f32) (a al ar : FVec F S1152x256 .f32) : FVec F S1024x256 .f32 :=
  addf (addf (addf (addf (addf (addf (addf (addf (addf (broadcastTo S1024x256 b broadcasts_S1x256_S1024x256)
    (tapV w on al 0 (by omega) 0 (by omega))) (tapV w on a 1 (by omega) 0 (by omega))) (tapV w on ar 2 (by omega) 0 (by omega)))
    (tapV w oneF al 3 (by omega) 64 (by omega))) (tapV w oneF a 4 (by omega) 64 (by omega))) (tapV w oneF ar 5 (by omega) 64 (by omega)))
    (tapV w on al 6 (by omega) 128 (by omega))) (tapV w on a 7 (by omega) 128 (by omega))) (tapV w on ar 8 (by omega) 128 (by omega))

/-- The gated activation of a convolution's result. -/
def gateV (b conv : FVec F S1024x256 .f32) : FVec F S1024x256 .f32 :=
  let hb := mulf (broadcast S1024x256 (Scalar.ofBits .f32 0x3F000000#32)) b
  let inner := mulf conv (addf (broadcast S1024x256 (Scalar.ofBits .f32 0x3F4C422A#32))
    (mulf (broadcast S1024x256 (Named.named κ "gelu_c_cube" 0x3D122279#32)) (mulf conv conv)))
  mulf (addf hb (mulf hb (tanh inner))) conv

/-- A row of 1152 moved by one place each way, its first and its last column of every 64 switched off by a mask. -/
def leftV (a mask : FVec F S1152x256 .f32) : FVec F S1152x256 .f32 := mulf (dynamicRotate 0 1#32 none a rotates_S1152x256_d0) mask
def rightV (a mask : FVec F S1152x256 .f32) : FVec F S1152x256 .f32 := mulf (dynamicRotate 0 1151#32 none a rotates_S1152x256_d0) mask

/-- The up-projections of all the rows and of the tile's own. -/
def upV (h : Vec F S1152x1024 .bf16) (w : Vec F S1024x256 .bf16) : FVec F S1152x256 .f32 :=
  matmul dot_S1152x1024_S1024x256_S1152x256_1_0_0_1_n_n none h (shapeCast S1024x256 w shapeCasts_S1024x256_S1024x256 : FVec F S1024x256 .bf16)
    (constant S1152x256 .f32 0x00000000#32)
def upMidV (h : Vec F S1024x1024 .bf16) (w : Vec F S1024x256 .bf16) : FVec F S1024x256 .f32 :=
  matmul dot_S1024x1024_S1024x256_S1024x256_1_0_0_1_n_n none h (shapeCast S1024x256 w shapeCasts_S1024x256_S1024x256 : FVec F S1024x256 .bf16)
    (constant S1024x256 .f32 0x00000000#32)

/-- What a chunk stores, of the loads: the tile's rows, the gating weights, the up-projected rows, the two masks, the
    taps and the bias. -/
def chunkV (on : F .f32) (hMid : Vec F S1024x1024 .bf16) (wB : Vec F S1024x256 .bf16) (slab : Vec F S1x1152x256 .f32)
    (ml mr : Vec F S1152x256 .f32) (w : Vec F S9x256 .f32) (b : Vec F S1x256 .f32) : FVec F S1024x256 .bf16 :=
  let a : FVec F S1152x256 .f32 := shapeCast S1152x256 slab shapeCasts_S1x1152x256_S1152x256
  shapeCast S1024x256 (truncf .bf16 (gateV (upMidV hMid wB) (convV on (shapeCast S9x256 w shapeCasts_S9x256_S9x256)
    (shapeCast S1x256 b shapeCasts_S1x256_S1x256) a (leftV a ml) (rightV a mr))) bitsLt_bf16_f32) shapeCasts_S1024x256_S1024x256

/-! ### The point's stores -/

/-- What a point loads of its input blocks. -/
structure Loads (F : FTy → Type) where
  x : Vec F S1024x1024 .f32
  xp : Vec F S64x1024 .f32
  xn : Vec F S64x1024 .f32
  g : Vec F S1x1024 .f32
  md : (k : ℕ) → k < 6 → Vec F S1x1x1024 .f32
  wu : (o : ℕ) → o + 256 ≤ 5632 → Vec F S1024x256 .bf16
  cw : (c : ℕ) → c < 11 → Vec F S9x256 .f32
  cb : (c : ℕ) → c < 11 → Vec F S1x256 .f32
  wd : Vec F S2816x1024 .bf16
  gp : Vec F S1x1024 .f32

/-- The loads from the blocks. -/
def Loads.of (x0 : Vec F S1024x1024 .f32) (x1 : Vec F S64x1024 .f32) (x2 : Vec F S64x1024 .f32) (x3 : Vec F S1x1024 .f32) (x4 : Vec F S1x6x1024 .f32) (x5 : Vec F S1024x5632 .bf16) (x6 : Vec F S9x2816 .f32) (x7 : Vec F S1x2816 .f32) (x8 : Vec F S2816x1024 .bf16) (x9 : Vec F S1x1024 .f32) : Loads F where
  x := x0
  xp := x1
  xn := x2
  g := x3
  md k hk := View.ld x4 (modR k hk)
  wu o ho := View.ld x5 (upR o ho)
  cw c hc := View.ld x6 (cwR c hc)
  cb c hc := View.ld x7 (cbR c hc)
  wd := x8
  gp := x9

namespace Loads

variable (L : Loads F) (i : grid0.Coords)

/-- The rows' pieces: the tile's own, the row above and the row below, the last stored first. -/
def hPieces : List (View.Piece (Elt F) S1152x1024 .bf16) :=
  [⟨Rect.unit (s := S1152x1024) ![1088, 0] S64x1024.size inb_S1152x1024_S64x1024_1088_0,
      k0_pay6 (bottom i) (k0_pay1 (L.md 3 (by omega))) (k0_pay2 (L.md 4 (by omega))) (k0_pay3 L.g) L.xn⟩,
   ⟨Rect.unit (s := S1152x1024) ![0, 0] S64x1024.size inb_S1152x1024_S64x1024_0_0,
      k0_pay5 (top i) (k0_pay1 (L.md 3 (by omega))) (k0_pay2 (L.md 4 (by omega))) (k0_pay3 L.g) L.xp⟩,
   ⟨midR, k0_pay4 (k0_pay1 (L.md 3 (by omega))) (k0_pay2 (L.md 4 (by omega))) (k0_pay3 L.g) L.x⟩]

/-- The two masks. -/
def maskL : FVec F S1152x256 .f32 :=
  k0_pay9 (isCtx i) (iota .tc S1152x256 32 [0] iota_S1152x256_d0_w32) k0_pay7 64#32 (Scalar.cmpi .eq 64#32 0#32)
def maskR : FVec F S1152x256 .f32 :=
  k0_pay10 (isCtx i) (iota .tc S1152x256 32 [0] iota_S1152x256_d0_w32) k0_pay7 64#32 (Scalar.cmpi .eq 64#32 0#32)

end Loads

section

variable (arg1 : Memref sig .tc .vmem S1024x1024 .f32) (harg1 : arg1.IsWhole)
variable (arg2 : Memref sig .tc .vmem S64x1024 .f32) (harg2 : arg2.IsWhole)
variable (arg3 : Memref sig .tc .vmem S64x1024 .f32) (harg3 : arg3.IsWhole)
variable (arg4 : Memref sig .tc .vmem S1x1024 .f32) (harg4 : arg4.IsWhole)
variable (arg5 : Memref sig .tc .vmem S1x6x1024 .f32) (harg5 : arg5.IsWhole)
variable (arg6 : Memref sig .tc .vmem S1024x5632 .bf16) (harg6 : arg6.IsWhole)
variable (arg7 : Memref sig .tc .vmem S9x2816 .f32) (harg7 : arg7.IsWhole)
variable (arg8 : Memref sig .tc .vmem S1x2816 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1024x1024 .f32) (harg11 : arg11.IsWhole)
variable (arg12 : Memref sig .tc .vmem S1152x1024 .bf16) (harg12 : arg12.IsWhole)
variable (arg13 : Memref sig .tc .vmem S2x1152x256 .f32) (harg13 : arg13.IsWhole)
variable (arg14 : Memref sig .tc .vmem S1024x2816 .bf16) (harg14 : arg14.IsWhole)
variable (arg15 : Memref sig .tc .vmem S1152x256 .f32) (harg15 : arg15.IsWhole)
variable (arg16 : Memref sig .tc .vmem S1152x256 .f32) (harg16 : arg16.IsWhole)
variable (x0 : Vec F S1024x1024 .f32) (x1 : Vec F S64x1024 .f32) (x2 : Vec F S64x1024 .f32) (x3 : Vec F S1x1024 .f32) (x4 : Vec F S1x6x1024 .f32) (x5 : Vec F S1024x5632 .bf16) (x6 : Vec F S9x2816 .f32) (x7 : Vec F S1x2816 .f32) (x8 : Vec F S2816x1024 .bf16) (x9 : Vec F S1x1024 .f32)

/-- What a point loads, out of its buffers. -/
def loads (c : Dev nD) : Loads F where
  x := View.readAt (Elt F) arg1.view (Rect.unit (s := S1024x1024) ![0, 0] S1024x1024.size inb_S1024x1024_S1024x1024_0_0).toLoadRect (harg1.unread x0)
  xp := View.readAt (Elt F) arg2.view (Rect.unit (s := S64x1024) ![0, 0] S64x1024.size inb_S64x1024_S64x1024_0_0).toLoadRect (harg2.unread x1)
  xn := View.readAt (Elt F) arg3.view (Rect.unit (s := S64x1024) ![0, 0] S64x1024.size inb_S64x1024_S64x1024_0_0).toLoadRect (harg3.unread x2)
  g := View.readAt (Elt F) arg4.view (Rect.unit (s := S1x1024) ![0, 0] S1x1024.size inb_S1x1024_S1x1024_0_0).toLoadRect (harg4.unread x3)
  md k hk := View.readAt (Elt F) arg5.view (modR k hk).toLoadRect (harg5.unread x4)
  wu o ho := View.readAt (Elt F) arg6.view (upR o ho).toLoadRect (harg6.unread x5)
  cw k hk := View.readAt (Elt F) arg7.view (cwR k hk).toLoadRect (harg7.unread x6)
  cb k hk := View.readAt (Elt F) arg8.view (cbR k hk).toLoadRect (harg8.unread x7)
  wd := View.readAt (Elt F) arg9.view (Rect.unit (s := S2816x1024) ![0, 0] S2816x1024.size inb_S2816x1024_S2816x1024_0_0).toLoadRect (harg9.unread x8)
  gp := View.readAt (Elt F) arg10.view (Rect.unit (s := S1x1024) ![0, 0] S1x1024.size inb_S1x1024_S1x1024_0_0).toLoadRect (harg10.unread x9)

variable (L : Loads F) (i : grid0.Coords)

/-- The rows read back, all and the tile's own; the masks read back. -/
def hAll : Vec F S1152x1024 .bf16 :=
  arg12.view.readCov (L.hPieces i) (Rect.unit (s := S1152x1024) ![0, 0] S1152x1024.size inb_S1152x1024_S1152x1024_0_0).toLoadRect
def hMid : Vec F S1024x1024 .bf16 := arg12.view.readCov (L.hPieces i) midR.toLoadRect
def mlBack : Vec F S1152x256 .f32 :=
  arg15.view.readCov [⟨Rect.unit (s := S1152x256) ![0, 0] S1152x256.size inb_S1152x256_S1152x256_0_0, Loads.maskL i⟩]
    (Rect.unit (s := S1152x256) ![0, 0] S1152x256.size inb_S1152x256_S1152x256_0_0).toLoadRect
def mrBack : Vec F S1152x256 .f32 :=
  arg16.view.readCov [⟨Rect.unit (s := S1152x256) ![0, 0] S1152x256.size inb_S1152x256_S1152x256_0_0, Loads.maskR i⟩]
    (Rect.unit (s := S1152x256) ![0, 0] S1152x256.size inb_S1152x256_S1152x256_0_0).toLoadRect

/-- A chunk's up-projected rows, stored in one of two places by turns, and the stores of the first chunks. -/
def slab (c : ℕ) (hc : c < 11) : View.Piece (Elt F) S2x1152x256 .f32 :=
  ⟨slabR c, shapeCast S1x1152x256 (upV (hAll arg12 L i) (L.wu (c * 256) (by omega))) shapeCasts_S1152x256_S1x1152x256⟩
def slabs : (c : ℕ) → c < 11 → List (View.Piece (Elt F) S2x1152x256 .f32)
  | 0, hc => [slab arg12 L i 0 hc]
  | c + 1, hc => slab arg12 L i (c + 1) hc :: slabs c (by omega)

/-- A chunk's activations, from the rows as they stand when the next chunk's are stored, and the first chunks'. -/
def slabBack (c : ℕ) (hc : c < 11) : Vec F S1x1152x256 .f32 :=
  arg13.view.readCov (slabs arg12 L i (min (c + 1) 10) (by omega)) (slabR c).toLoadRect
def act (c : ℕ) (hc : c < 11) : View.Piece (Elt F) S1024x2816 .bf16 :=
  ⟨actR c hc, chunkV (k0_pay11 (isCtx i)) (hMid arg12 L i) (L.wu (2816 + c * 256) (by omega)) (slabBack arg12 arg13 L i c hc)
    (mlBack arg15 i) (mrBack arg16 i) (L.cw c hc) (L.cb c hc)⟩
def acts : (c : ℕ) → c < 11 → List (View.Piece (Elt F) S1024x2816 .bf16)
  | 0, hc => [act arg12 arg13 arg15 arg16 L i 0 hc]
  | c + 1, hc => act arg12 arg13 arg15 arg16 L i (c + 1) hc :: acts c (by omega)

/-- The output block. -/
def outBlock : FVec F S1024x1024 .f32 :=
  k0_pay143 (arg14.view.readCov (acts arg12 arg13 arg15 arg16 L i 10 (by omega))
      (Rect.unit (s := S1024x2816) ![0, 0] S1024x2816.size inb_S1024x2816_S1024x2816_0_0).toLoadRect)
    L.wd L.x (L.md 5 (by omega)) L.gp

theorem pieces_out (c : Dev nD) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1
      = [⟨Rect.unit (s := S1024x1024) ![0, 0] S1024x1024.size inb_S1024x1024_S1024x1024_0_0,
          outBlock arg12 arg13 arg14 arg15 arg16 (loads arg1 harg1 arg2 harg2 arg3 harg3 arg4 harg4 arg5 harg5 arg6 harg6 arg7 harg7 arg8 harg8 arg9 harg9 arg10 harg10 x0 x1 x2 x3 x4 x5 x6 x7 x8 x9 c) i⟩] := by
  sl_kernel_rfl

end

end Cert.Kernel2Ideal.Ffn

end
-- ==== Proof.FfnOut.lean ====
/-
  What one grid point of the feed-forward kernel stores, its buffers read back: the rows, the chunks and the output block
  as functions of the input blocks alone.
-/
module

public import proofs.«01_k».proof.Proof.FfnBody
public import Idealize.ShloMosaic.Lib.Pipeline.Value
public import Idealize.ShloMosaic.Lib.Pointwise

@[expose] public section

noncomputable section

namespace Cert.Kernel2Ideal.Ffn

open Idealize.ShloMosaic Idealize.ShloMosaic.TcCoe Idealize.SL.Sem Cert.Kernel2Ideal Cert.Kernel2Ideal.Gen

variable {F : FTy → Type} [FloatOps F] [Named F]

namespace Loads

variable (L : Loads F) (i : grid0.Coords)

/-- All the rows, and a chunk's up-projected rows. -/
def hV : Vec F S1152x1024 .bf16 := View.canon (L.hPieces i)
def slabV (c : ℕ) (hc : c < 11) : Vec F S1x1152x256 .f32 :=
  shapeCast S1x1152x256 (upV (L.hV i) (L.wu (c * 256) (by omega))) shapeCasts_S1152x256_S1x1152x256

/-- A chunk's activations, and all of them side by side. -/
def actV (c : ℕ) (hc : c < 11) : FVec F S1024x256 .bf16 :=
  chunkV (k0_pay11 (isCtx i)) (View.ld (L.hV i) midR) (L.wu (2816 + c * 256) (by omega)) (L.slabV i c hc) (maskL i) (maskR i) (L.cw c hc) (L.cb c hc)
def actArr : Vec F S1024x2816 .bf16 := fun y =>
  L.actV i ((y 1).val / 256) (by have : (y 1).val < 2816 := (y 1).isLt; omega)
    (ix2 ⟨(y 0).val, (y 0).isLt⟩ ⟨(y 1).val % 256, by omega⟩)

/-- The output block. -/
def outV : FVec F S1024x1024 .f32 := k0_pay143 (L.actArr i) L.wd L.x (L.md 5 (by omega)) L.gp

end Loads

section

variable (arg1 : Memref sig .tc .vmem S1024x1024 .f32) (harg1 : arg1.IsWhole)
variable (arg2 : Memref sig .tc .vmem S64x1024 .f32) (harg2 : arg2.IsWhole)
variable (arg3 : Memref sig .tc .vmem S64x1024 .f32) (harg3 : arg3.IsWhole)
variable (arg4 : Memref sig .tc .vmem S1x1024 .f32) (harg4 : arg4.IsWhole)
variable (arg5 : Memref sig .tc .vmem S1x6x1024 .f32) (harg5 : arg5.IsWhole)
variable (arg6 : Memref sig .tc .vmem S1024x5632 .bf16) (harg6 : arg6.IsWhole)
variable (arg7 : Memref sig .tc .vmem S9x2816 .f32) (harg7 : arg7.IsWhole)
variable (arg8 : Memref sig .tc .vmem S1x2816 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1024x1024 .f32) (harg11 : arg11.IsWhole)
variable (arg12 : Memref sig .tc .vmem S1152x1024 .bf16) (harg12 : arg12.IsWhole)
variable (arg13 : Memref sig .tc .vmem S2x1152x256 .f32) (harg13 : arg13.IsWhole)
variable (arg14 : Memref sig .tc .vmem S1024x2816 .bf16) (harg14 : arg14.IsWhole)
variable (arg15 : Memref sig .tc .vmem S1152x256 .f32) (harg15 : arg15.IsWhole)
variable (arg16 : Memref sig .tc .vmem S1152x256 .f32) (harg16 : arg16.IsWhole)
variable (x0 : Vec F S1024x1024 .f32) (x1 : Vec F S64x1024 .f32) (x2 : Vec F S64x1024 .f32) (x3 : Vec F S1x1024 .f32) (x4 : Vec F S1x6x1024 .f32) (x5 : Vec F S1024x5632 .bf16) (x6 : Vec F S9x2816 .f32) (x7 : Vec F S1x2816 .f32) (x8 : Vec F S2816x1024 .bf16) (x9 : Vec F S1x1024 .f32)

theorem loads_eq (c : Dev nD) :
    loads arg1 harg1 arg2 harg2 arg3 harg3 arg4 harg4 arg5 harg5 arg6 harg6 arg7 harg7 arg8 harg8 arg9 harg9 arg10 harg10 x0 x1 x2 x3 x4 x5 x6 x7 x8 x9 c = Loads.of x0 x1 x2 x3 x4 x5 x6 x7 x8 x9 := by
  unfold loads Loads.of
  simp only [View.readAt_eq_ld, harg1.read_unread, harg2.read_unread, harg3.read_unread, harg4.read_unread, harg5.read_unread, harg6.read_unread, harg7.read_unread, harg8.read_unread, harg9.read_unread, harg10.read_unread]
  congr 1 <;> exact View.ld_unit_lit _ _ (by decide)

variable (L : Loads F) (i : grid0.Coords)

theorem hAll_eq : hAll arg12 L i = L.hV i := by
  unfold hAll
  rw [View.readCov_eq_canon']
  exact View.ld_unit_lit _ (L.hV i) (by decide)

theorem hMid_eq : hMid arg12 L i = View.ld (L.hV i) midR := by
  unfold hMid
  rw [View.readCov_eq_canon']
  rfl

theorem mlBack_eq : mlBack (F := F) arg15 i = Loads.maskL i := View.readCov_cons_toLoadRect _ _ _ _
theorem mrBack_eq : mrBack (F := F) arg16 i = Loads.maskR i := View.readCov_cons_toLoadRect _ _ _ _

theorem slabs_head : ∀ (c : ℕ) (hc : c < 11), ∃ R, slabs arg12 L i c hc = slab arg12 L i c hc :: R
  | 0, _ => ⟨[], rfl⟩
  | _ + 1, _ => ⟨_, rfl⟩

theorem slab_read (c : ℕ) (hc : c < 11) : arg13.view.readCov (slabs arg12 L i c hc) (slabR c).toLoadRect = L.slabV i c hc := by
  obtain ⟨R, hR⟩ := slabs_head arg12 L i c hc
  rw [hR]
  refine (View.readCov_cons_toLoadRect arg13.view (slabR c) _ R).trans ?_
  rw [hAll_eq]
  rfl

theorem slab_disj (c : ℕ) : LoadRect.disj (slabR (c + 1)) (slabR c).toLoadRect = true := by
  unfold slabR
  rcases Nat.mod_two_eq_zero_or_one c with h | h
  · have h' : (c + 1) % 2 = 1 := by omega
    simp only [h, h']
    rfl
  · have h' : (c + 1) % 2 = 0 := by omega
    simp only [h, h']
    rfl

theorem slabBack_eq (c : ℕ) (hc : c < 11) : slabBack arg12 arg13 L i c hc = L.slabV i c hc := by
  unfold slabBack
  rcases Nat.lt_or_ge c 10 with h | h
  · have e : min (c + 1) 10 = c + 1 := by omega
    simp only [e]
    refine (View.readCov_skip arg13.view (slabR (c + 1)) _ (slabs arg12 L i c hc) (slabR c).toLoadRect (slab_disj c)).trans ?_
    exact slab_read arg12 arg13 L i c hc
  · obtain rfl : c = 10 := by omega
    exact slab_read arg12 arg13 L i 10 hc

theorem act_eq (c : ℕ) (hc : c < 11) : act arg12 arg13 arg15 arg16 L i c hc = ⟨actR c hc, L.actV i c hc⟩ := by
  unfold act
  rw [hMid_eq, mlBack_eq, mrBack_eq, slabBack_eq]
  rfl

theorem mem_acts : ∀ (c : ℕ) (hc : c < 11) (d : ℕ) (hd : d ≤ c), act arg12 arg13 arg15 arg16 L i d (by omega) ∈ acts arg12 arg13 arg15 arg16 L i c hc
  | 0, _, d, hd => by obtain rfl : d = 0 := by omega
                      exact List.mem_singleton.mpr rfl
  | c + 1, hc, d, hd => by
    rcases Nat.lt_or_ge d (c + 1) with h | h
    · exact List.mem_cons_of_mem _ (mem_acts c (by omega) d (by omega))
    · obtain rfl : d = c + 1 := by omega
      exact List.mem_cons_self

theorem of_mem_acts : ∀ (c : ℕ) (hc : c < 11) (p : View.Piece (Elt F) S1024x2816 .bf16), p ∈ acts arg12 arg13 arg15 arg16 L i c hc →
    ∃ (d : ℕ) (hd : d < 11), p = act arg12 arg13 arg15 arg16 L i d hd
  | 0, hc, p, h => ⟨0, hc, List.mem_singleton.mp h⟩
  | c + 1, hc, p, h => by
    rcases List.mem_cons.mp h with h | h
    · exact ⟨c + 1, hc, h⟩
    · exact of_mem_acts c (by omega) p h

theorem actR_emb (c : ℕ) (hc : c < 11) (x : S1024x256.Idx) :
    (actR c hc).emb x = (ix2 (x 0) (⟨c * 256 + (x 1).val, by have : (x 1).val < 256 := (x 1).isLt; omega⟩ : Fin 2816) : S1024x2816.Idx) := by
  funext a
  apply Fin.ext
  match a with
  | ⟨0, _⟩ => show 0 + 1 * (x 0).val = (x 0).val; omega
  | ⟨1, _⟩ => show c * 256 + 1 * (x 1).val = c * 256 + (x 1).val; omega

theorem actArr_emb (c : ℕ) (hc : c < 11) (x : S1024x256.Idx) : L.actV i c hc x = L.actArr i ((actR c hc).emb x) := by
  rw [actR_emb]
  have h1 : (x 1).val < 256 := (x 1).isLt
  have e1 : (c * 256 + (x 1).val) / 256 = c := by omega
  have e2 : (⟨(c * 256 + (x 1).val) % 256, by omega⟩ : Fin 256) = x 1 := Fin.ext (by show (c * 256 + (x 1).val) % 256 = (x 1).val; omega)
  show L.actV i c hc x = L.actV i ((c * 256 + (x 1).val) / 256) _ (ix2 (x 0) ⟨(c * 256 + (x 1).val) % 256, _⟩)
  simp only [e1, e2]
  congr 1
  idx_vars x

theorem acts_canon : View.canon (acts arg12 arg13 arg15 arg16 L i 10 (by omega)) = L.actArr i := by
  funext y
  refine View.canon_apply_of_pieces (L.actArr i) _ (fun p hp x => ?_) y ?_
  · obtain ⟨d, hd, rfl⟩ := of_mem_acts arg12 arg13 arg15 arg16 L i 10 _ p hp
    have e := act_eq arg12 arg13 arg15 arg16 L i d hd
    revert x
    rw [e]
    exact fun x => actArr_emb L i d hd x
  · have h1 : (y 1).val < 2816 := (y 1).isLt
    refine ⟨_, mem_acts arg12 arg13 arg15 arg16 L i 10 (by omega) ((y 1).val / 256) (by omega), ?_⟩
    show y ∈ (actR ((y 1).val / 256) (by omega)).set
    rw [Rect.mem_set_unit]
    intro a
    match a with
    | ⟨0, _⟩ => show 0 ≤ (y 0).val ∧ (y 0).val < 0 + 1024; exact ⟨Nat.zero_le _, by rw [Nat.zero_add]; exact (y 0).isLt⟩
    | ⟨1, _⟩ => show (y 1).val / 256 * 256 ≤ (y 1).val ∧ (y 1).val < (y 1).val / 256 * 256 + 256; omega

theorem outBlock_eq : outBlock arg12 arg13 arg14 arg15 arg16 L i = L.outV i := by
  unfold outBlock
  rw [View.readCov_eq_canon', acts_canon]
  unfold Loads.outV
  congr 1
  exact View.ld_unit_lit _ (L.actArr i) (by decide)

/-- The point's output block, read back from its pieces. -/
theorem out_read (c : Dev nD) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = (Loads.of x0 x1 x2 x3 x4 x5 x6 x7 x8 x9).outV i := by
  unfold out0_A_10
  rw [pieces_out, loads_eq, outBlock_eq, View.read_writes_junk_eq_canon]
  exact View.canon_cons_unit_lit _ _ _ (by decide)

end

end Cert.Kernel2Ideal.Ffn

end
-- ==== Proof.FfnSpec.lean ====
/-
  The feed-forward part of a layer over the extended reals: a tile's up-projection padded by zeros, the convolution
  over the grid of 128 rows of 64 tokens, the gated activation, and the residual output.
-/
module

public import Idealize.ShloMosaic.PureOps.Ideal
public import Idealize.ShloMosaic.Lib.Pointwise

@[expose] public section

noncomputable section

namespace Cert.Ffn

open Idealize.ShloMosaic

/-- The inverse root of a row's mean square, and a row normalised, scaled and shifted. -/
def rms (f : Fin 1024 → EReal) : EReal :=
  Ideal.rsqrt (Ideal.div (∑ k, f k * f k) (Ideal.ofBits .f32 0x44800000#32) + Ideal.ofBits .f32 0x358637BD#32)
def normed (f g sc sh : Fin 1024 → EReal) (k : Fin 1024) : EReal := f k * rms f * g k * (1 + sc k) + sh k

/-- The gated activation, and the kernel's form of it. -/
def gate (u b : EReal) : EReal :=
  u * (Ideal.ofBits .f32 0x3F000000#32 * (1 + Ideal.tanh (Ideal.ofBits .f32 0x3F4C422A#32 *
    (u + Ideal.ofBits .f32 0x3D372713#32 * (u * u * u))))) * b
def gateK (u b : EReal) : EReal :=
  (Ideal.ofBits .f32 0x3F000000#32 * b + Ideal.ofBits .f32 0x3F000000#32 * b * Ideal.tanh (u * (Ideal.ofBits .f32 0x3F4C422A#32
    + ((80338380498831 / 2251799813685248 : ℝ) : EReal) * (u * u)))) * u

/-- The arguments. -/
structure In where
  x : Fin 33792 → Fin 1024 → EReal
  md : Fin 8 → Fin 6 → Fin 1024 → EReal
  g : Fin 1024 → EReal
  wu : Fin 1024 → Fin 5632 → EReal
  cw : Fin 3 → Fin 3 → Fin 2816 → EReal
  cb : Fin 2816 → EReal
  wd : Fin 2816 → Fin 1024 → EReal
  gp : Fin 1024 → EReal

namespace In

variable (I : In) (s : Fin 4)

/-- A sample's row of modulation vectors, and a latent token's row. -/
abbrev mods (k : Fin 6) (n : Fin 1024) : EReal := I.md ⟨s.val, by omega⟩ k n
abbrev tok (t : Fin 8192) (k : Fin 1024) : EReal := I.x ⟨s.val * 8192 + t.val, by omega⟩ k

/-- The up-projection of a token's normalised row, its first half and its gating half. -/
def up (t : Fin 8192) (j : Fin 5632) : EReal :=
  ∑ k, normed (I.tok s t) I.g (I.mods s 4) (I.mods s 3) k * I.wu k j
def a (t : Fin 8192) (j : Fin 2816) : EReal := I.up s t ⟨j.val, by omega⟩
def b (t : Fin 8192) (j : Fin 2816) : EReal := I.up s t ⟨2816 + j.val, by omega⟩

/-- A grid row's up-projection with one row of zeros above the grid and one below. -/
def rowPad (R : ℕ) (X : ℕ) (hX : X < 64) (j : Fin 2816) : EReal :=
  if h : 1 ≤ R ∧ R ≤ 128 then I.a s ⟨(R - 1) * 64 + X, by omega⟩ j else 0

/-- It with one column of zeros on either side. -/
def pad (R C : ℕ) (j : Fin 2816) : EReal := if h : 1 ≤ C ∧ C ≤ 64 then I.rowPad s R (C - 1) (by omega) j else 0

/-- The convolution at a grid row and column. -/
def conv (Y X : ℕ) (j : Fin 2816) : EReal := I.cb j + ∑ di : Fin 3, ∑ dj : Fin 3, I.pad s (Y + di.val) (X + dj.val) j * I.cw di dj j

/-- The down-projection of a function of the convolution and the gating half, and the residual output. -/
def down (γ : EReal → EReal → EReal) (t : Fin 8192) (n : Fin 1024) : EReal :=
  ∑ j, γ (I.conv s (t.val / 64) (t.val % 64) j) (I.b s t j) * I.wd j n
def out (γ : EReal → EReal → EReal) (t : Fin 8192) (n : Fin 1024) : EReal :=
  I.tok s t n + I.mods s 5 n * (I.down s γ t n * rms (I.down s γ t) * I.gp n)

/-- The gating half is real. -/
def Fine : Prop := ∀ (s : Fin 4) (t : Fin 8192) (j : Fin 2816), ∃ r : ℝ, I.b s t j = r

end In

/-! ### The two forms of the activation agree where the gate is real -/

theorem half_eq : Ideal.ofBits .f32 0x3F000000#32 = ((1 / 2 : ℝ) : EReal) := by
  simp [Ideal.ofBits, Ideal.ieee, -EReal.coe_mul]; norm_num

theorem gelu_eq : Ideal.ofBits .f32 0x3F4C422A#32 = ((6693141 / 8388608 : ℝ) : EReal) := by
  simp [Ideal.ofBits, Ideal.ieee, -EReal.coe_mul]; norm_num

theorem cube_eq : Ideal.ofBits .f32 0x3D372713#32 = ((12003091 / 268435456 : ℝ) : EReal) := by
  simp [Ideal.ofBits, Ideal.ieee, -EReal.coe_mul]; norm_num

/-- The argument of the hyperbolic tangent, multiplied out. -/
theorem inner_eq (C c : ℝ) (hC : 0 < C) (hc : 0 < c) (u : EReal) :
    (C : EReal) * (u + (c : EReal) * (u * u * u)) = u * ((C : EReal) + ((C * c : ℝ) : EReal) * (u * u)) := by
  induction u with
  | bot =>
    have h1 : (⊥ : EReal) * ⊥ = ⊤ := EReal.bot_mul_bot
    have h2 : (⊤ : EReal) * ⊥ = ⊥ := EReal.top_mul_bot
    rw [h1, h2, EReal.coe_mul_bot_of_pos hc, EReal.coe_mul_top_of_pos (mul_pos hC hc), EReal.coe_add_top, EReal.bot_mul_top,
      EReal.bot_add, EReal.coe_mul_bot_of_pos hC]
  | top =>
    have h1 : (⊤ : EReal) * ⊤ = ⊤ := EReal.top_mul_top
    rw [h1, h1, EReal.coe_mul_top_of_pos hc, EReal.coe_mul_top_of_pos (mul_pos hC hc), EReal.coe_add_top, h1,
      EReal.top_add_top, EReal.coe_mul_top_of_pos hC]
  | coe u =>
    norm_cast
    ring

theorem tanh_real (u : EReal) : ∃ r : ℝ, Ideal.tanh u = r := by
  induction u with
  | bot => exact ⟨-1, by rw [show Ideal.tanh ⊥ = -1 from rfl]; simp⟩
  | top => exact ⟨1, by rw [show Ideal.tanh ⊤ = 1 from rfl]; simp⟩
  | coe u => exact ⟨_, rfl⟩

theorem gateK_eq (u : EReal) (r : ℝ) : gateK u r = gate u r := by
  unfold gateK gate
  rw [gelu_eq, cube_eq, half_eq, inner_eq _ _ (by norm_num) (by norm_num),
    show (6693141 / 8388608 * (12003091 / 268435456) : ℝ) = 80338380498831 / 2251799813685248 by norm_num]
  obtain ⟨t, ht⟩ := tanh_real (u * (((6693141 / 8388608 : ℝ) : EReal) + ((80338380498831 / 2251799813685248 : ℝ) : EReal) * (u * u)))
  rw [ht, mul_comm _ u, mul_assoc u]
  congr 1
  norm_cast
  ring

theorem out_eq (I : In) (hI : I.Fine) (s : Fin 4) (t : Fin 8192) (n : Fin 1024) : I.out s gateK t n = I.out s gate t n := by
  have h : I.down s gateK t = I.down s gate t := funext fun n => Finset.sum_congr rfl fun j _ => by
    obtain ⟨r, hr⟩ := hI s t j
    rw [hr, gateK_eq]
  rw [In.out, In.out, h]

end Cert.Ffn

end
-- ==== Proof.FfnPay.lean ====
/-
  The feed-forward kernel's vector functions over the extended reals, at an index.
-/
module

public import proofs.«01_k».proof.Proof.FfnOut
public import proofs.«01_k».proof.Proof.FfnSpec
public import Idealize.ShloMosaic.Lib.Pointwise

@[expose] public section

noncomputable section

namespace Cert.Kernel2Ideal.Ffn

open Idealize.ShloMosaic Idealize.ShloMosaic.TcCoe Idealize.SL.Sem Cert.Kernel2Ideal Cert.Kernel2Ideal.Gen Cert.Ffn

/-! ### Rows normalised, scaled and shifted -/

theorem pay1_apply (v : FVec Ideal S1x1x1024 .f32) (n : Fin 1024) : k0_pay1 v (ix2 0 n) = v (ix3 0 0 n) := by
  pointwise [k0_pay1]

theorem pay2_apply (v : FVec Ideal S1x1x1024 .f32) (n : Fin 1024) : k0_pay2 v (ix2 0 n) = 1 + v (ix3 0 0 n) := by
  pointwise [k0_pay2]

theorem pay3_apply (v : FVec Ideal S1x1024 .f32) (n : Fin 1024) : k0_pay3 v (ix2 0 n) = v (ix2 0 n) := by
  pointwise [k0_pay3]

theorem pay4_apply (sh sc g : FVec Ideal S1x1024 .f32) (x : FVec Ideal S1024x1024 .f32) (r k : Fin 1024) :
    k0_pay4 sh sc g x (ix2 r k) = x (ix2 r k) * rms (fun k => x (ix2 r k)) * g (ix2 0 k) * sc (ix2 0 k) + sh (ix2 0 k) := by
  pointwise [k0_pay4]
  rfl

theorem pay5_apply (top : BitVec 1) (sh sc g : FVec Ideal S1x1024 .f32) (x : FVec Ideal S64x1024 .f32) (r : Fin 64) (k : Fin 1024) :
    k0_pay5 top sh sc g x (ix2 r k)
      = if top = 1#1 then 0 else x (ix2 r k) * rms (fun k => x (ix2 r k)) * g (ix2 0 k) * sc (ix2 0 k) + sh (ix2 0 k) := by
  rcases (by revert top; decide : top = 0#1 ∨ top = 1#1) with rfl | rfl
  · pointwise [k0_pay5]
    rfl
  · pointwise [k0_pay5]

theorem pay6_apply (top : BitVec 1) (sh sc g : FVec Ideal S1x1024 .f32) (x : FVec Ideal S64x1024 .f32) (r : Fin 64) (k : Fin 1024) :
    k0_pay6 top sh sc g x (ix2 r k)
      = if top = 1#1 then 0 else x (ix2 r k) * rms (fun k => x (ix2 r k)) * g (ix2 0 k) * sc (ix2 0 k) + sh (ix2 0 k) := by
  rcases (by revert top; decide : top = 0#1 ∨ top = 1#1) with rfl | rfl
  · pointwise [k0_pay6]
    rfl
  · pointwise [k0_pay6]

theorem pay143_apply (act : FVec Ideal S1024x2816 .bf16) (wd : FVec Ideal S2816x1024 .bf16) (x : FVec Ideal S1024x1024 .f32)
    (m5 : FVec Ideal S1x1x1024 .f32) (gp : FVec Ideal S1x1024 .f32) (y : Fin 1024 → EReal) (r : Fin 1024)
    (hy : ∀ n, ∑ j, act (ix2 r j) * wd (ix2 j n) = y n) (n : Fin 1024) :
    k0_pay143 act wd x m5 gp (ix2 r n) = x (ix2 r n) + m5 (ix3 0 0 n) * (y n * rms y * gp (ix2 0 n)) := by
  pointwise [k0_pay143]
  simp only [hy]
  rfl

/-! ### One chunk -/

theorem upV_apply (h : FVec Ideal S1152x1024 .bf16) (w : FVec Ideal S1024x256 .bf16) (p : Fin 1152) (e : Fin 256) :
    upV (F := Ideal) h w (ix2 p e) = (show EReal from ∑ k : Fin 1024, (h (ix2 p k) : EReal) * (w (ix2 k e) : EReal)) := by
  pointwise [upV]

theorem upMidV_apply (h : FVec Ideal S1024x1024 .bf16) (w : FVec Ideal S1024x256 .bf16) (r : Fin 1024) (e : Fin 256) :
    upMidV (F := Ideal) h w (ix2 r e) = (show EReal from ∑ k : Fin 1024, (h (ix2 r k) : EReal) * (w (ix2 k e) : EReal)) := by
  pointwise [upMidV]

theorem gateV_apply (b conv : FVec Ideal S1024x256 .f32) (r : Fin 1024) (e : Fin 256) :
    gateV b conv (ix2 r e) = gateK (conv (ix2 r e)) (b (ix2 r e)) := by
  pointwise [gateV]
  rw [IdealRules.named_const.ideal_named_scalar _ _ _ _ rfl]
  rfl

theorem leftV_apply (a mask : FVec Ideal S1152x256 .f32) (p : Fin 1152) (e : Fin 256) :
    leftV a mask (ix2 p e) = a (ix2 ⟨(p.val + 1151) % 1152, by omega⟩ e) * mask (ix2 p e) := by
  show dynamicRotate 0 1#32 none a rotates_S1152x256_d0 (ix2 p e) * mask (ix2 p e) = _
  refine congrArg (· * _) (congrArg a ?_)
  funext b
  apply Fin.ext
  match b with
  | ⟨0, _⟩ => show (p.val + 1152 - 1 % 1152) % 1152 = (p.val + 1151) % 1152; omega
  | ⟨1, _⟩ => rfl

theorem rightV_apply (a mask : FVec Ideal S1152x256 .f32) (p : Fin 1152) (e : Fin 256) :
    rightV a mask (ix2 p e) = a (ix2 ⟨(p.val + 1) % 1152, by omega⟩ e) * mask (ix2 p e) := by
  show dynamicRotate 0 1151#32 none a rotates_S1152x256_d0 (ix2 p e) * mask (ix2 p e) = _
  refine congrArg (· * _) (congrArg a ?_)
  funext b
  apply Fin.ext
  match b with
  | ⟨0, _⟩ => show (p.val + 1152 - 1151 % 1152) % 1152 = (p.val + 1) % 1152; omega
  | ⟨1, _⟩ => rfl

theorem tapV_apply (w : FVec Ideal S9x256 .f32) (on : EReal) (h1 : on = 1) (v : FVec Ideal S1152x256 .f32) (t : ℕ) (ht : t < 9)
    (lo : ℕ) (hlo : lo ≤ 128) (r : Fin 1024) (e : Fin 256) :
    tapV w on v t ht lo hlo (ix2 r e) = v (ix2 ⟨lo + r.val, by omega⟩ e) * w (ix2 ⟨t, ht⟩ e) := by
  subst h1
  pointwise [tapV]

theorem convV_apply (on : EReal) (h1 : on = 1) (w : FVec Ideal S9x256 .f32) (b : FVec Ideal S1x256 .f32) (a al ar : FVec Ideal S1152x256 .f32)
    (r : Fin 1024) (e : Fin 256) :
    convV on w b a al ar (ix2 r e) = b (ix2 0 e) + ∑ di : Fin 3, ∑ dj : Fin 3,
      (![al, a, ar] dj) (ix2 ⟨64 * di.val + r.val, by omega⟩ e) * w (ix2 ⟨3 * di.val + dj.val, by omega⟩ e) := by
  have h2 : oneF (F := Ideal) = (1 : EReal) := by
    show Ideal.ofBits .f32 0x3F800000#32 = 1
    simp [Ideal.ofBits, Ideal.ieee, -EReal.coe_mul]
    norm_num
  unfold convV
  simp only [addf_apply, tapV_apply w on h1, tapV_apply w (oneF (F := Ideal)) h2]
  rw [show broadcastTo S1024x256 b broadcasts_S1x256_S1024x256 (ix2 r e) = b (ix2 0 e) by pointwise []]
  simp only [Fin.sum_univ_three, ← add_assoc]
  rfl

end Cert.Kernel2Ideal.Ffn

end
-- ==== Proof.FfnPoint.lean ====
/-
  One grid point of the feed-forward kernel: where its loads hold a tile of a sample, its output block holds the
  tile's results.
-/
module

public import proofs.«01_k».proof.Proof.FfnPay

@[expose] public section

noncomputable section

namespace Cert.Kernel2Ideal.Ffn

open Idealize.ShloMosaic Idealize.ShloMosaic.TcCoe Idealize.SL.Sem Cert.Kernel2Ideal Cert.Kernel2Ideal.Gen Cert.Ffn

/-! ### The point's place -/

theorem isCtx_eq (i : grid0.Coords) : isCtx i = 0#1 :=
  (by decide +kernel : ∀ n : Fin 32, Scalar.cmpi .sge (BitVec.ofNat 32 n.val) 32#32 = 0#1) (i 0)

theorem top_eq (i : grid0.Coords) : top i = if (i 0).val % 8 = 0 then 1#1 else 0#1 := by
  unfold top ofSample isCtx
  exact (by decide +kernel : ∀ n : Fin 32, Scalar.ori (Scalar.cmpi .sge (BitVec.ofNat 32 n.val) 32#32) (Scalar.cmpi .eq
    (let d : BitVec 32 := Scalar.select (Scalar.cmpi .eq 8#32 0#32) 1#32 8#32
     let r : BitVec 32 := Scalar.remsi (BitVec.ofNat 32 n.val) d
     Scalar.select (Scalar.andi (Scalar.xori (Scalar.cmpi .slt r 0#32) (Scalar.cmpi .slt d 0#32)) (Scalar.cmpi .ne r 0#32))
      (Scalar.addi r d) r) 0#32) = if n.val % 8 = 0 then 1#1 else 0#1) (i 0)

theorem bottom_eq (i : grid0.Coords) : bottom i = if (i 0).val % 8 = 7 then 1#1 else 0#1 := by
  unfold bottom ofSample isCtx
  exact (by decide +kernel : ∀ n : Fin 32, Scalar.ori (Scalar.cmpi .sge (BitVec.ofNat 32 n.val) 32#32) (Scalar.cmpi .eq
    (let d : BitVec 32 := Scalar.select (Scalar.cmpi .eq 8#32 0#32) 1#32 8#32
     let r : BitVec 32 := Scalar.remsi (BitVec.ofNat 32 n.val) d
     Scalar.select (Scalar.andi (Scalar.xori (Scalar.cmpi .slt r 0#32) (Scalar.cmpi .slt d 0#32)) (Scalar.cmpi .ne r 0#32))
      (Scalar.addi r d) r) 7#32) = if n.val % 8 = 7 then 1#1 else 0#1) (i 0)

/-! ### The masks -/

theorem bit_value (q : Prop) [Decidable q] :
    FloatOps.sitofp (F := Ideal) .f32 (if q then 0#32 else 1#32) = if q then (0 : EReal) else 1 := by
  split_ifs
  · show (((0#32).toInt : ℝ) : EReal) = 0
    simp
  · show (((1#32).toInt : ℝ) : EReal) = 1
    simp

theorem maskL_apply (i : grid0.Coords) (p : Fin 1152) (e : Fin 256) :
    Loads.maskL (F := Ideal) i (ix2 p e) = if p.val % 64 = 0 then (0 : EReal) else 1 := by
  unfold Loads.maskL
  rw [isCtx_eq]
  pointwise [k0_pay9, k0_pay8]
  refine (congrArg (FloatOps.sitofp (F := Ideal) .f32) (?_ : _ = if p.val % 64 = 0 then 0#32 else 1#32)).trans ?_
  · revert p
    decide +kernel
  · exact bit_value _

theorem maskR_apply (i : grid0.Coords) (p : Fin 1152) (e : Fin 256) :
    Loads.maskR (F := Ideal) i (ix2 p e) = if p.val % 64 = 63 then (0 : EReal) else 1 := by
  unfold Loads.maskR
  rw [isCtx_eq]
  pointwise [k0_pay10, k0_pay8]
  refine (congrArg (FloatOps.sitofp (F := Ideal) .f32) (?_ : _ = if p.val % 64 = 63 then 0#32 else 1#32)).trans ?_
  · revert p
    decide +kernel
  · exact bit_value _

theorem onV : k0_pay11 (F := Ideal) 0#1 = (1 : EReal) := by
  show Ideal.ofBits .f32 0x3F800000#32 = 1
  simp [Ideal.ofBits, Ideal.ieee, -EReal.coe_mul]
  norm_num

/-! ### The loads -/

/-- A point's loads hold a tile of a sample with its neighbouring rows, and the weights. -/
structure LHolds (L : Loads Ideal) (n : Fin 32) (I : In) : Prop where
  x : ∀ (r k : Fin 1024), L.x (ix2 r k) = I.tok ⟨n.val / 8, by omega⟩ ⟨n.val % 8 * 1024 + r.val, by omega⟩ k
  xp : ∀ (h : n.val % 8 ≠ 0) (r : Fin 64) (k : Fin 1024),
    L.xp (ix2 r k) = I.tok ⟨n.val / 8, by omega⟩ ⟨n.val % 8 * 1024 - 64 + r.val, by omega⟩ k
  xn : ∀ (h : n.val % 8 ≠ 7) (r : Fin 64) (k : Fin 1024),
    L.xn (ix2 r k) = I.tok ⟨n.val / 8, by omega⟩ ⟨n.val % 8 * 1024 + 1024 + r.val, by omega⟩ k
  g : ∀ k, L.g (ix2 0 k) = I.g k
  md : ∀ (q : ℕ) (hq : q < 6) (k : Fin 1024), L.md q hq (ix3 0 0 k) = I.mods ⟨n.val / 8, by omega⟩ ⟨q, hq⟩ k
  wu : ∀ (o : ℕ) (ho : o + 256 ≤ 5632) (k : Fin 1024) (e : Fin 256), L.wu o ho (ix2 k e) = I.wu k ⟨o + e.val, by omega⟩
  cw : ∀ (c : ℕ) (hc : c < 11) (di dj : Fin 3) (e : Fin 256),
    L.cw c hc (ix2 ⟨3 * di.val + dj.val, by omega⟩ e) = I.cw di dj ⟨c * 256 + e.val, by omega⟩
  cb : ∀ (c : ℕ) (hc : c < 11) (e : Fin 256), L.cb c hc (ix2 0 e) = I.cb ⟨c * 256 + e.val, by omega⟩
  wd : ∀ j n, L.wd (ix2 j n) = I.wd j n
  gp : ∀ n, L.gp (ix2 0 n) = I.gp n

variable {L : Loads Ideal} {i : grid0.Coords} {I : In}

/-- The rows: those of the tile, and those above and below it or zeros. -/
theorem hV_mid (h : LHolds L (i 0) I) (r k : Fin 1024) :
    L.hV i (ix2 ⟨64 + r.val, by omega⟩ k) = normed (I.tok ⟨(i 0).val / 8, by have : (i 0).val < 32 := (i 0).isLt; omega⟩
      ⟨(i 0).val % 8 * 1024 + r.val, by omega⟩) I.g (I.mods ⟨(i 0).val / 8, by have : (i 0).val < 32 := (i 0).isLt; omega⟩ 4)
      (I.mods ⟨(i 0).val / 8, by have : (i 0).val < 32 := (i 0).isLt; omega⟩ 3) k := by
  unfold Loads.hV Loads.hPieces
  rw [View.canon_cons_of_not_mem, View.canon_cons_of_not_mem]
  · rw [show (ix2 ⟨64 + r.val, by omega⟩ k : S1152x1024.Idx) = midR.emb (ix2 r k : S1024x1024.Idx) from ?_, View.canon_cons_emb, pay4_apply,
      pay1_apply, pay2_apply, pay3_apply]
    · simp only [h.x, h.g, h.md]
      rfl
    · funext a
      apply Fin.ext
      match a with
      | ⟨0, _⟩ => show 64 + r.val = 64 + 1 * r.val; omega
      | ⟨1, _⟩ => show k.val = 0 + 1 * k.val; omega
  · rw [Rect.mem_set_unit]
    intro hm
    have h0 : 0 ≤ 64 + r.val ∧ 64 + r.val < 0 + 64 := hm 0
    omega
  · rw [Rect.mem_set_unit]
    intro hm
    have h0 : 1088 ≤ 64 + r.val ∧ 64 + r.val < 1088 + 64 := hm 0
    omega

theorem hV_above (h : LHolds L (i 0) I) (r : Fin 64) (k : Fin 1024) :
    L.hV i (ix2 ⟨r.val, by omega⟩ k) = if (i 0).val % 8 = 0 then 0 else
      normed (I.tok ⟨(i 0).val / 8, by have : (i 0).val < 32 := (i 0).isLt; omega⟩
      ⟨(i 0).val % 8 * 1024 - 64 + r.val, by omega⟩) I.g (I.mods ⟨(i 0).val / 8, by have : (i 0).val < 32 := (i 0).isLt; omega⟩ 4)
      (I.mods ⟨(i 0).val / 8, by have : (i 0).val < 32 := (i 0).isLt; omega⟩ 3) k := by
  unfold Loads.hV Loads.hPieces
  rw [View.canon_cons_of_not_mem]
  · rw [show (ix2 ⟨r.val, by omega⟩ k : S1152x1024.Idx)
      = (Rect.unit (s := S1152x1024) ![0, 0] S64x1024.size inb_S1152x1024_S64x1024_0_0).emb (ix2 r k : S64x1024.Idx) from ?_,
      View.canon_cons_emb, pay5_apply, pay1_apply, pay2_apply, pay3_apply, top_eq]
    · by_cases h0 : (i 0).val % 8 = 0
      · simp only [h0, if_true]
      · rw [if_neg h0, if_neg h0, if_neg (by decide)]
        simp only [h.xp h0, h.g, h.md]
        rfl
    · funext a
      apply Fin.ext
      match a with
      | ⟨0, _⟩ => show r.val = 0 + 1 * r.val; omega
      | ⟨1, _⟩ => show k.val = 0 + 1 * k.val; omega
  · rw [Rect.mem_set_unit]
    intro hm
    have h0 : 1088 ≤ r.val ∧ r.val < 1088 + 64 := hm 0
    omega

theorem hV_below (h : LHolds L (i 0) I) (r : Fin 64) (k : Fin 1024) :
    L.hV i (ix2 ⟨1088 + r.val, by omega⟩ k) = if h7 : (i 0).val % 8 = 7 then 0 else
      normed (I.tok ⟨(i 0).val / 8, by have : (i 0).val < 32 := (i 0).isLt; omega⟩
      ⟨(i 0).val % 8 * 1024 + 1024 + r.val, by omega⟩) I.g (I.mods ⟨(i 0).val / 8, by have : (i 0).val < 32 := (i 0).isLt; omega⟩ 4)
      (I.mods ⟨(i 0).val / 8, by have : (i 0).val < 32 := (i 0).isLt; omega⟩ 3) k := by
  unfold Loads.hV Loads.hPieces
  rw [show (ix2 ⟨1088 + r.val, by omega⟩ k : S1152x1024.Idx)
    = (Rect.unit (s := S1152x1024) ![1088, 0] S64x1024.size inb_S1152x1024_S64x1024_1088_0).emb (ix2 r k : S64x1024.Idx) from ?_,
    View.canon_cons_emb, pay6_apply, pay1_apply, pay2_apply, pay3_apply, bottom_eq]
  · by_cases h0 : (i 0).val % 8 = 7
    · rw [dif_pos h0, if_pos h0, if_pos rfl]
    · rw [dif_neg h0, if_neg h0, if_neg (by decide)]
      simp only [h.xn h0, h.g, h.md]
      rfl
  · funext a
    apply Fin.ext
    match a with
    | ⟨0, _⟩ => show 1088 + r.val = 1088 + 1 * r.val; omega
    | ⟨1, _⟩ => show k.val = 0 + 1 * k.val; omega

/-- A row's up-projection is the grid row's with zeros above and below the grid. -/
theorem row_of (I : In) (s : Fin 4) (T : ℕ) (hT : T < 8) (f : Fin 1152 → Fin 1024 → EReal)
    (mid : ∀ (r k : Fin 1024), f ⟨64 + r.val, by omega⟩ k = normed (I.tok s ⟨T * 1024 + r.val, by omega⟩) I.g (I.mods s 4) (I.mods s 3) k)
    (above : ∀ (r : Fin 64) (k : Fin 1024), f ⟨r.val, by omega⟩ k
      = if T = 0 then 0 else normed (I.tok s ⟨T * 1024 - 64 + r.val, by omega⟩) I.g (I.mods s 4) (I.mods s 3) k)
    (below : ∀ (r : Fin 64) (k : Fin 1024), f ⟨1088 + r.val, by omega⟩ k
      = if h7 : T = 7 then 0 else normed (I.tok s ⟨T * 1024 + 1024 + r.val, by omega⟩) I.g (I.mods s 4) (I.mods s 3) k)
    (p : Fin 1152) (j : Fin 2816) :
    ∑ k, f p k * I.wu k ⟨j.val, by omega⟩ = I.rowPad s (T * 16 + p.val / 64) (p.val % 64) (by omega) j := by
  have zero : (∀ k, f p k = 0) → ¬ (1 ≤ T * 16 + p.val / 64 ∧ T * 16 + p.val / 64 ≤ 128) →
      ∑ k, f p k * I.wu k ⟨j.val, by omega⟩ = I.rowPad s (T * 16 + p.val / 64) (p.val % 64) (by omega) j := fun e hn => by
    rw [In.rowPad, dif_neg hn]
    exact Finset.sum_eq_zero fun k _ => by rw [e k, zero_mul]
  have real : ∀ (t : ℕ) (ht : t < 8192), (∀ k, f p k = normed (I.tok s ⟨t, ht⟩) I.g (I.mods s 4) (I.mods s 3) k) →
      ∀ h : 1 ≤ T * 16 + p.val / 64 ∧ T * 16 + p.val / 64 ≤ 128, t = (T * 16 + p.val / 64 - 1) * 64 + p.val % 64 →
      ∑ k, f p k * I.wu k ⟨j.val, by omega⟩ = I.rowPad s (T * 16 + p.val / 64) (p.val % 64) (by omega) j := fun t ht e h et => by
    subst et
    rw [In.rowPad, dif_pos h, In.a, In.up]
    exact Finset.sum_congr rfl fun k _ => by rw [e k]
  rcases Nat.lt_or_ge p.val 64 with h1 | h1
  · have e := above ⟨p.val, h1⟩
    by_cases h0 : T = 0
    · exact zero (fun k => (e k).trans (if_pos h0)) (by omega)
    · exact real _ _ (fun k => (e k).trans (if_neg h0)) (by omega) (by simp only []; omega)
  · rcases Nat.lt_or_ge p.val 1088 with h2 | h2
    · have e := mid ⟨p.val - 64, by omega⟩
      have ep : (⟨64 + (p.val - 64), by omega⟩ : Fin 1152) = p := Fin.ext (by show 64 + (p.val - 64) = p.val; omega)
      simp only [ep] at e
      exact real _ _ e (by omega) (by omega)
    · have e := below ⟨p.val - 1088, by omega⟩
      have ep : (⟨1088 + (p.val - 1088), by omega⟩ : Fin 1152) = p := Fin.ext (by show 1088 + (p.val - 1088) = p.val; omega)
      simp only [ep] at e
      by_cases h0 : T = 7
      · exact zero (fun k => (e k).trans (dif_pos h0)) (by omega)
      · exact real _ _ (fun k => (e k).trans (dif_neg h0)) (by omega) (by omega)

theorem row_up (h : LHolds L (i 0) I) (p : Fin 1152) (j : Fin 2816) :
    ∑ k, L.hV i (ix2 p k) * I.wu k ⟨j.val, by omega⟩
      = I.rowPad ⟨(i 0).val / 8, by have : (i 0).val < 32 := (i 0).isLt; omega⟩ ((i 0).val % 8 * 16 + p.val / 64) (p.val % 64) (by omega) j :=
  row_of I _ ((i 0).val % 8) (by omega) (fun p k => L.hV i (ix2 p k)) (hV_mid h) (hV_above h) (hV_below h) p j

/-- The row itself and the row moved by one place each way, with the masks: the grid with zeros all round. -/
theorem three_of (I : In) (s : Fin 4) (T : ℕ) (j : Fin 2816) (a al ar : Fin 1152 → EReal)
    (ha : ∀ p : Fin 1152, a p = I.rowPad s (T * 16 + p.val / 64) (p.val % 64) (by omega) j)
    (hl : ∀ p : Fin 1152, al p = a ⟨(p.val + 1151) % 1152, by omega⟩ * if p.val % 64 = 0 then (0 : EReal) else 1)
    (hr : ∀ p : Fin 1152, ar p = a ⟨(p.val + 1) % 1152, by omega⟩ * if p.val % 64 = 63 then (0 : EReal) else 1)
    (di dj : Fin 3) (r : Fin 1024) :
    (![al, a, ar] dj) ⟨64 * di.val + r.val, by omega⟩ = I.pad s (T * 16 + r.val / 64 + di.val) (r.val % 64 + dj.val) j := by
  have same : ∀ (R X R' X' : ℕ) (hX : X < 64) (hX' : X' < 64), R = R' → X = X' → I.rowPad s R X hX j = I.rowPad s R' X' hX' j := by
    rintro R X _ _ hX hX' rfl rfl
    rfl
  fin_cases dj
  · show al _ = _
    rw [hl, In.pad]
    by_cases h : r.val % 64 = 0
    · rw [if_pos (by simp only []; omega), dif_neg (by simp only []; omega), mul_zero]
    · rw [if_neg (by simp only []; omega), dif_pos (by simp only []; omega), mul_one, ha]
      exact same _ _ _ _ _ _ (by simp only []; omega) (by simp only []; omega)
  · show a _ = _
    rw [ha, In.pad, dif_pos (by simp only []; omega)]
    exact same _ _ _ _ _ _ (by simp only []; omega) (by simp only []; omega)
  · show ar _ = _
    rw [hr, In.pad]
    by_cases h : r.val % 64 = 63
    · rw [if_pos (by simp only []; omega), dif_neg (by simp only []; omega), mul_zero]
    · rw [if_neg (by simp only []; omega), dif_pos (by simp only []; omega), mul_one, ha]
      exact same _ _ _ _ _ _ (by simp only []; omega) (by simp only []; omega)

/-! ### A chunk -/

section

variable (c : ℕ) (hc : c < 11) (e : Fin 256)

theorem slab_apply (h : LHolds L (i 0) I) (p : Fin 1152) :
    shapeCast S1152x256 (L.slabV i c hc) shapeCasts_S1x1152x256_S1152x256 (ix2 p e)
      = I.rowPad ⟨(i 0).val / 8, by have : (i 0).val < 32 := (i 0).isLt; omega⟩ ((i 0).val % 8 * 16 + p.val / 64) (p.val % 64) (by omega)
        ⟨c * 256 + e.val, by omega⟩ := by
  rw [← row_up h]
  unfold Loads.slabV
  rw [show shapeCast S1152x256 (shapeCast S1x1152x256 (upV (L.hV i) (L.wu (c * 256) (by omega))) shapeCasts_S1152x256_S1x1152x256)
    shapeCasts_S1x1152x256_S1152x256 (ix2 p e) = upV (L.hV i) (L.wu (c * 256) (by omega)) (ix2 p e) from ?_, upV_apply]
  · exact Finset.sum_congr rfl fun k _ => by rw [h.wu]
  · generalize upV (L.hV i) (L.wu (c * 256) (by omega)) = w
    pointwise []

/-- A chunk's convolution. -/
theorem chunk_conv (h : LHolds L (i 0) I) (r : Fin 1024) :
    let a : FVec Ideal S1152x256 .f32 := shapeCast S1152x256 (L.slabV i c hc) shapeCasts_S1x1152x256_S1152x256
    convV (k0_pay11 (isCtx i)) (L.cw c hc) (L.cb c hc) a (leftV a (Loads.maskL i)) (rightV a (Loads.maskR i)) (ix2 r e)
      = I.conv ⟨(i 0).val / 8, by have : (i 0).val < 32 := (i 0).isLt; omega⟩ (((i 0).val % 8 * 1024 + r.val) / 64) (((i 0).val % 8 * 1024 + r.val) % 64)
        ⟨c * 256 + e.val, by omega⟩ := by
  intro a
  rw [convV_apply _ (by rw [isCtx_eq]; exact onV), In.conv, h.cb]
  refine congrArg _ (Finset.sum_congr rfl fun di _ => Finset.sum_congr rfl fun dj _ => ?_)
  rw [h.cw]
  refine congrArg (· * _) ?_
  have e1 : ((i 0).val % 8 * 1024 + r.val) / 64 = (i 0).val % 8 * 16 + r.val / 64 := by omega
  have e2 : ((i 0).val % 8 * 1024 + r.val) % 64 = r.val % 64 := by omega
  rw [e1, e2, ← three_of I _ ((i 0).val % 8) ⟨c * 256 + e.val, by omega⟩ (fun p => a (ix2 p e)) (fun p => leftV a (Loads.maskL i) (ix2 p e))
    (fun p => rightV a (Loads.maskR i) (ix2 p e)) (slab_apply c hc e h)
    (fun p => by rw [leftV_apply, maskL_apply]) (fun p => by rw [rightV_apply, maskR_apply]) di dj r]
  fin_cases dj <;> rfl

/-- A chunk's gating half. -/
theorem chunk_gate (h : LHolds L (i 0) I) (r : Fin 1024) :
    upMidV (View.ld (L.hV i) midR) (L.wu (2816 + c * 256) (by omega)) (ix2 r e)
      = I.b ⟨(i 0).val / 8, by have : (i 0).val < 32 := (i 0).isLt; omega⟩ ⟨(i 0).val % 8 * 1024 + r.val, by omega⟩ ⟨c * 256 + e.val, by omega⟩ := by
  rw [upMidV_apply, In.b, In.up]
  refine Finset.sum_congr rfl fun k _ => ?_
  rw [h.wu, ← hV_mid h]
  have e1 : 2816 + c * 256 + e.val = 2816 + (c * 256 + e.val) := by omega
  have e2 : (View.ld (L.hV i) midR (ix2 r k) : EReal) = L.hV i (ix2 ⟨64 + r.val, by omega⟩ k) := by
    refine congrArg (L.hV i) ?_
    funext a
    apply Fin.ext
    match a with
    | ⟨0, _⟩ => show 64 + 1 * r.val = 64 + r.val; omega
    | ⟨1, _⟩ => show 0 + 1 * k.val = k.val; omega
  simp only [e1, e2]

/-- A chunk's activations. -/
theorem actV_apply (h : LHolds L (i 0) I) (r : Fin 1024) :
    L.actV i c hc (ix2 r e)
      = gateK (I.conv ⟨(i 0).val / 8, by have : (i 0).val < 32 := (i 0).isLt; omega⟩ (((i 0).val % 8 * 1024 + r.val) / 64) (((i 0).val % 8 * 1024 + r.val) % 64)
        ⟨c * 256 + e.val, by omega⟩)
        (I.b ⟨(i 0).val / 8, by have : (i 0).val < 32 := (i 0).isLt; omega⟩ ⟨(i 0).val % 8 * 1024 + r.val, by omega⟩ ⟨c * 256 + e.val, by omega⟩) := by
  rw [← chunk_conv c hc e h, ← chunk_gate c hc e h, ← gateV_apply]
  unfold Loads.actV chunkV
  rw [shapeCast_self, shapeCast_self, shapeCast_self]
  rfl

end

/-- The point's output block. -/
theorem outV_apply (h : LHolds L (i 0) I) (r n : Fin 1024) :
    L.outV i (ix2 r n)
      = I.out ⟨(i 0).val / 8, by have : (i 0).val < 32 := (i 0).isLt; omega⟩ gateK ⟨(i 0).val % 8 * 1024 + r.val, by omega⟩ n := by
  unfold Loads.outV
  rw [pay143_apply (y := I.down ⟨(i 0).val / 8, by have : (i 0).val < 32 := (i 0).isLt; omega⟩ gateK ⟨(i 0).val % 8 * 1024 + r.val, by omega⟩),
    h.x, h.md, h.gp]
  · rfl
  · intro n
    refine Finset.sum_congr rfl fun j _ => ?_
    rw [h.wd]
    refine congrArg (· * _) ?_
    have hj : j.val / 256 < 11 := by omega
    refine (actV_apply (j.val / 256) hj ⟨j.val % 256, by omega⟩ h r).trans ?_
    have ej : (⟨j.val / 256 * 256 + j.val % 256, by omega⟩ : Fin 2816) = j := Fin.ext (by show j.val / 256 * 256 + j.val % 256 = j.val; omega)
    simp only [ej]

end Cert.Kernel2Ideal.Ffn

end
-- ==== Proof.FfnInputs.lean ====
/-
  What the feed-forward kernel's windows read at a grid point, and the array that the points' blocks make up.
-/
module

public import proofs.«01_k».proof.Proof.FfnPoint
public import proofs.«01_k».proof.Proof.Gen.Kernel2Ideal.Value

@[expose] public section

noncomputable section

namespace Cert.Kernel2Ideal.Ffn

open Idealize.ShloMosaic Idealize.ShloMosaic.TcCoe Idealize.SL.Sem Cert.Kernel2Ideal Cert.Kernel2Ideal.Gen Cert.Ffn

variable (m : (ℓ : Loc nD τ sig) → Buf (Elt Ideal) ℓ) (c : Dev nD)

/-- An argument's contents. -/
abbrev arg (r : Ref sig .tc) := m ((c : Thread nD τ).loc r)

/-- The arguments as functions of rows and columns. -/
def inOf : In where
  x r k := (arg m c main_arg0 : Vec Ideal S33792x1024 .f32) (ix2 r k)
  md s q k := (arg m c main_arg1 : Vec Ideal S8x6x1024 .f32) (ix3 s q k)
  g k := (arg m c main_arg2 : Vec Ideal S1024 .f32) (ix1 k)
  wu k j := (arg m c main_arg3 : Vec Ideal S1024x5632 .f32) (ix2 k j)
  cw di dj j := (arg m c main_arg4 : Vec Ideal S3x3x2816 .f32) (ix3 di dj j)
  cb j := (arg m c main_arg5 : Vec Ideal S2816 .f32) (ix1 j)
  wd j n := (arg m c main_arg6 : Vec Ideal S2816x1024 .f32) (ix2 j n)
  gp n := (arg m c main_arg7 : Vec Ideal S1024 .f32) (ix1 n)

/-! ### The arrays that the windows read -/

theorem row_cast {w : ℕ} (x : (⟨1, ![w]⟩ : Shape).Idx → EReal) (h : (⟨1, ![w]⟩ : Shape).ShapeCasts ⟨2, ![1, w]⟩) (k : Fin w) :
    shapeCast ⟨2, ![1, w]⟩ x h (ix2 0 k) = x (ix1 k) := by
  refine shapeCast_apply _ _ _ _ ?_
  rw [Shape.rowMajor_val_one, Shape.rowMajor_val_two]
  show k.val = 0 * w + k.val
  omega

theorem V_wu (k : Fin 1024) (j : Fin 5632) : (V m c main_v0 : Vec Ideal S1024x5632 .bf16) (ix2 k j) = (inOf m c).wu k j := by
  entry_read
  rfl

theorem V_cw (di dj : Fin 3) (j : Fin 2816) :
    (V m c main_v1 : Vec Ideal S9x2816 .f32) (ix2 ⟨3 * di.val + dj.val, by omega⟩ j) = (inOf m c).cw di dj j := by
  have h : (V m c main_v1 : Vec Ideal S9x2816 .f32) = shapeCast S9x2816 (arg m c main_arg4 : Vec Ideal S3x3x2816 .f32) shapeCasts_S3x3x2816_S9x2816 := by
    entry_read
    rfl
  rw [h]
  refine shapeCast_apply _ _ _ (ix3 di dj j) ?_
  rw [Shape.rowMajor_val_two, Shape.rowMajor_val_three]
  show (di.val * 3 + dj.val) * 2816 + j.val = (3 * di.val + dj.val) * 2816 + j.val
  omega

theorem V_cb (j : Fin 2816) : (V m c main_v2 : Vec Ideal S1x2816 .f32) (ix2 0 j) = (inOf m c).cb j := by
  have h : (V m c main_v2 : Vec Ideal S1x2816 .f32) = shapeCast S1x2816 (arg m c main_arg5 : Vec Ideal S2816 .f32) shapeCasts_S2816_S1x2816 := by
    entry_read
    rfl
  rw [h]
  exact row_cast _ _ j

theorem V_wd (j : Fin 2816) (n : Fin 1024) : (V m c main_v3 : Vec Ideal S2816x1024 .bf16) (ix2 j n) = (inOf m c).wd j n := by
  entry_read
  rfl

theorem V_g (k : Fin 1024) : (V m c main_v4 : Vec Ideal S1x1024 .f32) (ix2 0 k) = (inOf m c).g k := by
  have h : (V m c main_v4 : Vec Ideal S1x1024 .f32) = shapeCast S1x1024 (arg m c main_arg2 : Vec Ideal S1024 .f32) shapeCasts_S1024_S1x1024 := by
    entry_read
    rfl
  rw [h]
  exact row_cast _ _ k

theorem V_gp (k : Fin 1024) : (V m c main_v5 : Vec Ideal S1x1024 .f32) (ix2 0 k) = (inOf m c).gp k := by
  have h : (V m c main_v5 : Vec Ideal S1x1024 .f32) = shapeCast S1x1024 (arg m c main_arg7 : Vec Ideal S1024 .f32) shapeCasts_S1024_S1x1024 := by
    entry_read
    rfl
  rw [h]
  exact row_cast _ _ k

/-! ### The blocks -/

theorem read2 {a b A B : ℕ} {α : Type} (blk : (⟨2, ![a, b]⟩ : Shape).Idx → α) (arr : (⟨2, ![A, B]⟩ : Shape).Idx → α)
    (f : (⟨2, ![a, b]⟩ : Shape).Idx → (⟨2, ![A, B]⟩ : Shape).Idx) (hb : ∀ i, blk i = arr (f i)) (idx : Fin 2 → ℕ)
    (hf0 : ∀ i, (f i 0).val = idx 0 * a + 1 * (i 0).val) (hf1 : ∀ i, (f i 1).val = idx 1 * b + 1 * (i 1).val)
    (r : Fin a) (k : Fin b) (R : Fin A) (K : Fin B) (hR : idx 0 * a + r.val = R.val) (hK : idx 1 * b + k.val = K.val) :
    blk (ix2 r k) = arr (ix2 R K) := by
  rw [hb]
  refine congrArg arr (funext fun x => Fin.ext ?_)
  match x with
  | ⟨0, _⟩ => exact (hf0 _).trans (by rw [Nat.one_mul]; exact hR)
  | ⟨1, _⟩ => exact (hf1 _).trans (by rw [Nat.one_mul]; exact hK)

theorem coords_eq : ∀ t : Fin grid0.N, (grid0.coords t 0).val = t.val := by decide +kernel
theorem index_tile : ∀ t : Fin grid0.N, win0_0.index t 0 = t.val ∧ win0_0.index t 1 = 0 := by decide +kernel
theorem index_above : ∀ t : Fin grid0.N, win0_1.index t 0 = t.val * 16 - 1 ∧ win0_1.index t 1 = 0 := by decide +kernel
theorem index_below : ∀ t : Fin grid0.N, win0_2.index t 0 = t.val * 16 + 16 ∧ win0_2.index t 1 = 0 := by decide +kernel
theorem index_mods : ∀ t : Fin grid0.N, win0_4.index t 0 = t.val / 8 ∧ win0_4.index t 1 = 0 ∧ win0_4.index t 2 = 0 := by decide +kernel
theorem index_whole : ∀ t : Fin grid0.N, (win0_3.index t 0 = 0 ∧ win0_3.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) := by decide +kernel
theorem index_out : ∀ t : Fin grid0.N, win0_10.index t 0 = t.val ∧ win0_10.index t 1 = 0 := by decide +kernel

variable (t : Fin cfg0.N)

theorem lt_points (t : Fin cfg0.N) : t.val < 32 := t.isLt

/-- A block that is a whole array of two dimensions. -/
theorem read_whole {a b : ℕ} {α : Type} (blk arr : (⟨2, ![a, b]⟩ : Shape).Idx → α)
    (f : (⟨2, ![a, b]⟩ : Shape).Idx → (⟨2, ![a, b]⟩ : Shape).Idx) (hb : ∀ i, blk i = arr (f i)) (idx : Fin 2 → ℕ)
    (hf0 : ∀ i, (f i 0).val = idx 0 * a + 1 * (i 0).val) (hf1 : ∀ i, (f i 1).val = idx 1 * b + 1 * (i 1).val)
    (h : idx 0 = 0 ∧ idx 1 = 0) (r : Fin a) (k : Fin b) : blk (ix2 r k) = arr (ix2 r k) :=
  read2 blk arr f hb idx hf0 hf1 r k r k (by rw [h.1]; omega) (by rw [h.2]; omega)

theorem blk_x (r k : Fin 1024) : (iblk m c 0 t : Vec Ideal S1024x1024 .f32) (ix2 r k)
    = (inOf m c).x ⟨t.val * 1024 + r.val, by have := lt_points t; omega⟩ k :=
  (read2 (iblk m c 0 t) (V m c main_arg0) (fun i => ((cfg0.win 0).blk t).view.emb i) (fun _ => rfl) _ (fun _ => rfl) (fun _ => rfl) r k
    ⟨t.val * 1024 + r.val, by have := lt_points t; omega⟩ k (by rw [(index_tile t).1]) (by rw [(index_tile t).2]; omega)).trans
    (congrFun (V_main_arg0 m c) _)

theorem blk_xp (h : t.val % 8 ≠ 0) (r : Fin 64) (k : Fin 1024) : (iblk m c 1 t : Vec Ideal S64x1024 .f32) (ix2 r k)
    = (inOf m c).x ⟨t.val * 1024 - 64 + r.val, by have := lt_points t; omega⟩ k :=
  (read2 (iblk m c 1 t) (V m c main_arg0) (fun i => ((cfg0.win 1).blk t).view.emb i) (fun _ => rfl) _ (fun _ => rfl) (fun _ => rfl) r k
    ⟨t.val * 1024 - 64 + r.val, by have := lt_points t; omega⟩ k (by rw [(index_above t).1]; simp only []; omega)
    (by rw [(index_above t).2]; omega)).trans (congrFun (V_main_arg0 m c) _)

theorem blk_xn (r : Fin 64) (k : Fin 1024) : (iblk m c 2 t : Vec Ideal S64x1024 .f32) (ix2 r k)
    = (inOf m c).x ⟨t.val * 1024 + 1024 + r.val, by have := lt_points t; omega⟩ k :=
  (read2 (iblk m c 2 t) (V m c main_arg0) (fun i => ((cfg0.win 2).blk t).view.emb i) (fun _ => rfl) _ (fun _ => rfl) (fun _ => rfl) r k
    ⟨t.val * 1024 + 1024 + r.val, by have := lt_points t; omega⟩ k (by rw [(index_below t).1]; simp only []; omega)
    (by rw [(index_below t).2]; omega)).trans (congrFun (V_main_arg0 m c) _)

theorem blk_g (k : Fin 1024) : (iblk m c 3 t : Vec Ideal S1x1024 .f32) (ix2 0 k) = (inOf m c).g k :=
  (read_whole (iblk m c 3 t) (V m c main_v4) (fun i => ((cfg0.win 3).blk t).view.emb i) (fun _ => rfl) _ (fun _ => rfl) (fun _ => rfl)
    (index_whole t).1 0 k).trans (V_g m c k)

theorem blk_md (q : Fin 6) (k : Fin 1024) : (iblk m c 4 t : Vec Ideal S1x6x1024 .f32) (ix3 0 q k)
    = (inOf m c).md ⟨t.val / 8, by have := lt_points t; omega⟩ q k := by
  have h := index_mods t
  refine Eq.trans ?_ (congrFun (V_main_arg1 m c) (ix3 ⟨t.val / 8, by have := lt_points t; omega⟩ q k))
  show V m c main_arg1 (((cfg0.win 4).blk t).view.emb (ix3 0 q k)) = V m c main_arg1 _
  refine congrArg (V m c main_arg1) (funext fun a => Fin.ext ?_)
  match a with
  | ⟨0, _⟩ =>
    show win0_4.index t 0 * 1 + 1 * 0 = t.val / 8
    rw [h.1]; omega
  | ⟨1, _⟩ =>
    show win0_4.index t 1 * 6 + 1 * q.val = q.val
    rw [h.2.1]; omega
  | ⟨2, _⟩ =>
    show win0_4.index t 2 * 1024 + 1 * k.val = k.val
    rw [h.2.2]; omega

theorem blk_wu (k : Fin 1024) (j : Fin 5632) : (iblk m c 5 t : Vec Ideal S1024x5632 .bf16) (ix2 k j) = (inOf m c).wu k j :=
  (read_whole (iblk m c 5 t) (V m c main_v0) (fun i => ((cfg0.win 5).blk t).view.emb i) (fun _ => rfl) _ (fun _ => rfl) (fun _ => rfl)
    (index_whole t).2.1 k j).trans (V_wu m c k j)

theorem blk_cw (di dj : Fin 3) (j : Fin 2816) : (iblk m c 6 t : Vec Ideal S9x2816 .f32) (ix2 ⟨3 * di.val + dj.val, by omega⟩ j) = (inOf m c).cw di dj j :=
  (read_whole (iblk m c 6 t) (V m c main_v1) (fun i => ((cfg0.win 6).blk t).view.emb i) (fun _ => rfl) _ (fun _ => rfl) (fun _ => rfl)
    (index_whole t).2.2.1 _ j).trans (V_cw m c di dj j)

theorem blk_cb (j : Fin 2816) : (iblk m c 7 t : Vec Ideal S1x2816 .f32) (ix2 0 j) = (inOf m c).cb j :=
  (read_whole (iblk m c 7 t) (V m c main_v2) (fun i => ((cfg0.win 7).blk t).view.emb i) (fun _ => rfl) _ (fun _ => rfl) (fun _ => rfl)
    (index_whole t).2.2.2.1 0 j).trans (V_cb m c j)

theorem blk_wd (j : Fin 2816) (n : Fin 1024) : (iblk m c 8 t : Vec Ideal S2816x1024 .bf16) (ix2 j n) = (inOf m c).wd j n :=
  (read_whole (iblk m c 8 t) (V m c main_v3) (fun i => ((cfg0.win 8).blk t).view.emb i) (fun _ => rfl) _ (fun _ => rfl) (fun _ => rfl)
    (index_whole t).2.2.2.2.1 j n).trans (V_wd m c j n)

theorem blk_gp (n : Fin 1024) : (iblk m c 9 t : Vec Ideal S1x1024 .f32) (ix2 0 n) = (inOf m c).gp n :=
  (read_whole (iblk m c 9 t) (V m c main_v5) (fun i => ((cfg0.win 9).blk t).view.emb i) (fun _ => rfl) _ (fun _ => rfl) (fun _ => rfl)
    (index_whole t).2.2.2.2.2 0 n).trans (V_gp m c n)

/-- What a point loads. -/
abbrev loadsAt : Loads Ideal :=
  Loads.of (iblk m c 0 t) (iblk m c 1 t) (iblk m c 2 t) (iblk m c 3 t) (iblk m c 4 t) (iblk m c 5 t) (iblk m c 6 t) (iblk m c 7 t)
    (iblk m c 8 t) (iblk m c 9 t)

/-- A load of columns from `o` on. -/
theorem ld_cols {a B : ℕ} {e : EltTy} (x : Vec Ideal ⟨2, ![a, B]⟩ e) (o : ℕ) (h) (r : Fin a) (k : Fin 256) (ho : o + 256 ≤ B) :
    View.ld (Val := Elt Ideal) x (Rect.unit (s := ⟨2, ![a, B]⟩) ![0, o] ![a, 256] h) (ix2 r k) = x (ix2 r ⟨o + k.val, by omega⟩) := by
  refine congrArg x (funext fun b => Fin.ext ?_)
  match b with
  | ⟨0, _⟩ => show 0 + 1 * r.val = r.val; omega
  | ⟨1, _⟩ => show o + 1 * k.val = o + k.val; omega

theorem holds : LHolds (loadsAt m c t) (grid0.coords t 0) (inOf m c) where
  x r k := by
    refine (blk_x m c t r k).trans (congrArg (fun R => (inOf m c).x R k) (Fin.ext ?_))
    show t.val * 1024 + r.val = (grid0.coords t 0).val / 8 * 8192 + ((grid0.coords t 0).val % 8 * 1024 + r.val)
    rw [coords_eq]; omega
  xp h r k := by
    rw [coords_eq] at h
    refine (blk_xp m c t h r k).trans (congrArg (fun R => (inOf m c).x R k) (Fin.ext ?_))
    show t.val * 1024 - 64 + r.val = (grid0.coords t 0).val / 8 * 8192 + ((grid0.coords t 0).val % 8 * 1024 - 64 + r.val)
    rw [coords_eq]; omega
  xn h r k := by
    refine (blk_xn m c t r k).trans (congrArg (fun R => (inOf m c).x R k) (Fin.ext ?_))
    show t.val * 1024 + 1024 + r.val = (grid0.coords t 0).val / 8 * 8192 + ((grid0.coords t 0).val % 8 * 1024 + 1024 + r.val)
    rw [coords_eq]; omega
  g k := blk_g m c t k
  md q hq k := by
    refine Eq.trans ?_ ((blk_md m c t ⟨q, hq⟩ k).trans (congrArg (fun s => (inOf m c).md s ⟨q, hq⟩ k) (Fin.ext ?_)))
    · refine congrArg (iblk m c 4 t) (funext fun a => Fin.ext ?_)
      match a with
      | ⟨0, _⟩ => rfl
      | ⟨1, _⟩ => show q + 1 * 0 = q; omega
      | ⟨2, _⟩ => show 0 + 1 * k.val = k.val; omega
    · show t.val / 8 = (grid0.coords t 0).val / 8
      rw [coords_eq]
  wu o ho k e := (ld_cols (iblk m c 5 t : Vec Ideal S1024x5632 .bf16) o _ k e ho).trans (blk_wu m c t k _)
  cw q hq di dj e := (ld_cols (iblk m c 6 t : Vec Ideal S9x2816 .f32) (q * 256) _ _ e (by omega)).trans (blk_cw m c t di dj _)
  cb q hq e := (ld_cols (iblk m c 7 t : Vec Ideal S1x2816 .f32) (q * 256) _ 0 e (by omega)).trans (blk_cb m c t _)
  wd j n := blk_wd m c t j n
  gp n := blk_gp m c t n

/-! ### The result -/

/-- The point that takes a token's tile. -/
def pt (s : Fin 4) (u : Fin 8192) : Fin cfg0.N := ⟨s.val * 8 + u.val / 1024, (by omega : s.val * 8 + u.val / 1024 < 32)⟩

theorem result_apply (s : Fin 4) (u : Fin 8192) (n : Fin 1024) :
    ((dats m 0 c).arrAt 10 cfg0.N : Vec Ideal S32768x1024 .f32) (ix2 ⟨s.val * 8192 + u.val, by omega⟩ n) = (inOf m c).out s gateK u n := by
  have hc : (grid0.coords (pt s u) 0).val = s.val * 8 + u.val / 1024 := coords_eq _
  have hr := (Value.blocks10 m c (pt s u) (flush0_10 _)).trans (Value.flushed10_A m c (pt s u))
  rw [out_read] at hr
  have e := (read2 ((loadsAt m c (pt s u)).outV (grid0.coords (pt s u))) ((dats m 0 c).arrAt 10 cfg0.N)
    (fun i => ((cfg0.win 10).blk (pt s u)).view.emb i) (fun i => (congrFun hr i).symm) _ (fun _ => rfl) (fun _ => rfl) ⟨u.val % 1024, by omega⟩ n
    ⟨s.val * 8192 + u.val, by omega⟩ n (by rw [(index_out _).1]; show (s.val * 8 + u.val / 1024) * 1024 + u.val % 1024 = s.val * 8192 + u.val; omega)
    (by rw [(index_out _).2]; omega)).symm
  refine e.trans ((outV_apply (holds m c (pt s u)) _ n).trans ?_)
  have e1 : (⟨(grid0.coords (pt s u) 0).val / 8, by rw [hc]; omega⟩ : Fin 4) = s := Fin.ext (by simp only [hc]; omega)
  have e2 : (⟨(grid0.coords (pt s u) 0).val % 8 * 1024 + u.val % 1024, by omega⟩ : Fin 8192) = u := Fin.ext (by simp only [hc]; omega)
  simp only [e1, e2]

end Cert.Kernel2Ideal.Ffn

end
-- ==== Proof.FfnRef.lean ====
/-
  The arrays of the feed-forward reference at an index: the up-projection, its bordered grid, the convolution, the
  down-projection and the residual output.
-/
module

public import proofs.«01_k».proof.Proof.Gen.Reference2Ideal.Run
public import proofs.«01_k».proof.Proof.FfnSpec
public import Idealize.ShloMosaic.Lib.Pointwise
public import Idealize.ShloMosaic.Lib.KernelVsHost

@[expose] public section

noncomputable section

namespace Cert.Reference2Ideal.Ffn

open Idealize.ShloMosaic Idealize.ShloMosaic.StableHlo Idealize.ShloMosaic.TcCoe
open Cert.Reference2Ideal Cert.Reference2Ideal.Gen Cert.Reference2Ideal.Value Cert.Ffn

/-- The arguments that an assignment gives, by row and column. -/
def inAt (V0 : Valuation τ sig (Elt Ideal)) : In where
  x r k := (V0 (Proc.devRef .tc main_arg0) : S33792x1024.Idx → EReal) (ix2 r k)
  md s k n := (V0 (Proc.devRef .tc main_arg1) : S8x6x1024.Idx → EReal) (ix3 s k n)
  g k := (V0 (Proc.devRef .tc main_arg2) : S1024.Idx → EReal) (ix1 k)
  wu k j := (V0 (Proc.devRef .tc main_arg3) : S1024x5632.Idx → EReal) (ix2 k j)
  cw a b j := (V0 (Proc.devRef .tc main_arg4) : S3x3x2816.Idx → EReal) (ix3 a b j)
  cb j := (V0 (Proc.devRef .tc main_arg5) : S2816.Idx → EReal) (ix1 j)
  wd j n := (V0 (Proc.devRef .tc main_arg6) : S2816x1024.Idx → EReal) (ix2 j n)
  gp n := (V0 (Proc.devRef .tc main_arg7) : S1024.Idx → EReal) (ix1 n)

variable (V0 : Valuation τ sig (Elt Ideal)) (s : Fin 4) (t : Fin 8192)

theorem v3_apply (k : Fin 1024) : (res_main_v3 V0 : S4x8192x1024.Idx → EReal) (ix3 s t k) = (inAt V0).tok s t k := by
  unfold res_main_v3
  refine (shapeCast_apply _ _ _ (ix2 (⟨s.val * 8192 + t.val, by omega⟩ : Fin 32768) k) ?_).trans ?_
  · show (S32768x1024.rowMajor _).val = (S4x8192x1024.rowMajor _).val
    rw [Shape.rowMajor_val_two, Shape.rowMajor_val_three]
    rfl
  · pointwise [inAt]

theorem v29_apply (j : Fin 5632) : (res_main_v29 V0 : S4x8192x5632.Idx → EReal) (ix3 s t j) = (inAt V0).up s t j := by
  have hx := v3_apply V0 s t
  unfold In.up normed rms
  pointwise [res_main_v29]
  simp only [hx]
  rfl

/-- The first half of the up-projection on the grid. -/
theorem grid_apply (h1 : S4x8192x5632.Slices ![0, 0, 0] S4x8192x2816) (h2 : S4x8192x2816.ShapeCasts S4x128x64x2816)
    (Y : Fin 128) (X : Fin 64) (j : Fin 2816) :
    shapeCast S4x128x64x2816 (extractStridedSlice S4x8192x2816 ![0, 0, 0] (res_main_v29 V0 : S4x8192x5632.Idx → EReal) h1) h2
        (ix4 s Y X j) = (inAt V0).a s ⟨Y.val * 64 + X.val, by omega⟩ j := by
  refine (shapeCast_apply _ _ _ (ix3 s (⟨Y.val * 64 + X.val, by omega⟩ : Fin 8192) j) ?_).trans ?_
  · rw [Shape.rowMajor_val_three, Shape.rowMajor_val_four]
    show (s.val * 8192 + (Y.val * 64 + X.val)) * 2816 + j.val = ((s.val * 128 + Y.val) * 64 + X.val) * 2816 + j.val
    omega
  · rw [In.a, ← v29_apply]
    pointwise []

theorem zero_word : (FloatOps.sitofp FTy.f32 (0#32 : BitVec 32) : Ideal .f32) = (0 : EReal) := by
  show (((0#32 : BitVec 32).toInt : ℝ) : EReal) = 0
  norm_num

theorem v33_apply (R : Fin 130) (C : Fin 66) (j : Fin 2816) :
    (res_main_v33 V0 : S4x130x66x2816.Idx → EReal) (ix4 s R C j) = (inAt V0).pad s R.val C.val j := by
  unfold res_main_v33 In.pad In.rowPad
  pointwise []
  by_cases hC : 1 ≤ C.val ∧ C.val ≤ 64
  · by_cases hR : 1 ≤ R.val ∧ R.val ≤ 128
    · rw [dif_pos (by omega), dif_pos hC, dif_pos hR, In.a]
      exact v29_apply V0 s _ _
    · rw [dif_neg (by omega), dif_pos hC, dif_neg hR]
      exact zero_word
  · rw [dif_neg (by omega), dif_neg hC]
    exact zero_word

/-- A tap of the convolution, in the order in which the reference adds the nine. -/
theorem taps_eq (f : Fin 3 → Fin 3 → EReal) :
    ∑ di : Fin 3, ∑ dj : Fin 3, f di dj
      = f 0 0 + f 0 1 + f 0 2 + f 1 0 + f 1 1 + f 1 2 + f 2 0 + f 2 1 + f 2 2 := by
  simp only [Fin.sum_univ_three, ← add_assoc]

theorem v101_apply (j : Fin 2816) :
    (res_main_v101 V0 : S4x8192x2816.Idx → EReal) (ix3 s t j) = (inAt V0).conv s (t.val / 64) (t.val % 64) j := by
  have hp := v33_apply V0 s
  unfold res_main_v101 In.conv
  refine (addf_apply _ _ _).trans ?_
  refine (add_comm _ _).trans ?_
  refine congrArg₂ (· + ·) (by pointwise [] <;> rfl) ?_
  refine (shapeCast_apply _ _ _ (ix4 s (⟨t.val / 64, by omega⟩ : Fin 128) (⟨t.val % 64, by omega⟩ : Fin 64) j) ?_).trans ?_
  · show (S4x128x64x2816.rowMajor _).val = (S4x8192x2816.rowMajor _).val
    rw [Shape.rowMajor_val_three, Shape.rowMajor_val_four]
    show ((s.val * 128 + t.val / 64) * 64 + t.val % 64) * 2816 + j.val = (s.val * 8192 + t.val) * 2816 + j.val
    omega
  · rw [taps_eq]
    pointwise []
    simp only [hp, add_comm 1 (t.val % 64), add_comm 1 (t.val / 64), add_comm 2 (t.val % 64), add_comm 2 (t.val / 64)]
    rfl

end Cert.Reference2Ideal.Ffn
-- ==== Proof.FfnRefOut.lean ====
/-
  The feed-forward reference's down-projection and residual output at an index.
-/
module

public import proofs.«01_k».proof.Proof.FfnRef
public import Idealize.ShloMosaic.Lib.Pointwise

@[expose] public section

noncomputable section

namespace Cert.Reference2Ideal.Ffn

open Idealize.ShloMosaic Idealize.ShloMosaic.StableHlo Idealize.ShloMosaic.TcCoe
open Cert.Reference2Ideal Cert.Reference2Ideal.Gen Cert.Reference2Ideal.Value Cert.Ffn

variable (V0 : Valuation τ sig (Elt Ideal)) (s : Fin 4) (t : Fin 8192)

/-- The gated activation of two arrays. -/
theorem gate_apply (u : FVec Ideal S4x8192x2816 .f32) (w : FVec Ideal S4x8192x5632 .f32) (j : Fin 2816) :
    (mulf (mulf u (mulf (broadcastInDim S4x8192x2816 ![] bcast_S_S4x8192x2816 (constant S_ .f32 0x3F000000#32)) (addf (broadcastInDim S4x8192x2816 ![] bcast_S_S4x8192x2816 (constant S_ .f32 0x3F800000#32)) (Host.tanh (mulf (broadcastInDim S4x8192x2816 ![] bcast_S_S4x8192x2816 (constant S_ .f32 0x3F4C422A#32)) (addf u (mulf (broadcastInDim S4x8192x2816 ![] bcast_S_S4x8192x2816 (constant S_ .f32 0x3D372713#32)) (mulf (mulf u u) u)))))))) (extractStridedSlice S4x8192x2816 ![0, 0, 2816] w slices_S4x8192x5632_S4x8192x2816_0_0_2816)) (ix3 s t j)
      = gate (u (ix3 s t j)) (w (ix3 s t (⟨2816 + j.val, by omega⟩ : Fin 5632))) := by
  refine (mulf_apply _ _ _).trans (congrArg₂ (· * ·) ?_ ?_)
  · pointwise []
  · refine extractStridedSlice_apply _ _ _ _ (ix3 s t (⟨2816 + j.val, by omega⟩ : Fin 5632)) ?_
    intro b
    match b with
    | ⟨0, _⟩ => exact (Nat.zero_add _).symm
    | ⟨1, _⟩ => exact (Nat.zero_add _).symm
    | ⟨2, _⟩ => rfl

theorem dot_apply (u : FVec Ideal S4x8192x2816 .f32) (w : FVec Ideal S2816x1024 .f32) (n : Fin 1024) :
    (Host.dotGeneral dot_S4x8192x2816_S2816x1024_S4x8192x1024_2_0_01_1_n_n none u w : FVec Ideal S4x8192x1024 .f32) (ix3 s t n)
      = (∑ j : Fin 2816, u (ix3 s t j) * w (ix2 j n) : EReal) := by
  pointwise []

theorem v116_apply (n : Fin 1024) :
    (res_main_v116 V0 : S4x8192x1024.Idx → EReal) (ix3 s t n) = (inAt V0).down s gate t n := by
  unfold In.down res_main_v116
  refine (dot_apply s t _ _ n).trans (Finset.sum_congr rfl fun j _ => congrArg₂ (· * ·) ?_ rfl)
  refine (gate_apply s t _ _ j).trans ?_
  exact congrArg₂ gate (v101_apply V0 s t j) (v29_apply V0 s t _)

/-- A row normalised by its mean square and its weights, scaled by a modulation vector. -/
theorem post_apply (md : FVec Ideal S8x6x1024 .f32) (w : FVec Ideal S4x8192x1024 .f32) (gp : FVec Ideal S1024 .f32) (n : Fin 1024) :
    (mulf (broadcastInDim S4x8192x1024 ![0, 1, 2] bcast_S4x1x1024_S4x8192x1024_0_1_2 (broadcastInDim S4x1x1024 ![0, 2] bcast_S4x1024_S4x1x1024_0_2 (shapeCast S4x1024 (extractStridedSlice S4x1x1024 ![0, 5, 0] md slices_S8x6x1024_S4x1x1024_0_5_0) shapeCasts_S4x1x1024_S4x1024))) (mulf (mulf w (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf w w) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 gp)))) (ix3 s t n)
      = md (ix3 (⟨s.val, by omega⟩ : Fin 8) (5 : Fin 6) n) * (w (ix3 s t n) * rms (fun k => w (ix3 s t k)) * gp (ix1 n)) := by
  unfold rms
  pointwise []

/-- The residual output. -/
def outV (V0 : Valuation τ sig (Elt Ideal)) : S32768x1024.Idx → EReal :=
  shapeCast _ (addf (shapeCast _ (extractStridedSlice S32768x1024 ![0, 0] (V0 (Proc.devRef .tc main_arg0)) slices_S33792x1024_S32768x1024_0_0) shapeCasts_S32768x1024_S4x8192x1024) (mulf (broadcastInDim S4x8192x1024 ![0, 1, 2] bcast_S4x1x1024_S4x8192x1024_0_1_2 (broadcastInDim S4x1x1024 ![0, 2] bcast_S4x1024_S4x1x1024_0_2 (shapeCast _ (extractStridedSlice S4x1x1024 ![0, 5, 0] (V0 (Proc.devRef .tc main_arg1)) slices_S8x6x1024_S4x1x1024_0_5_0) shapeCasts_S4x1x1024_S4x1024))) (mulf (mulf (res_main_v116 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v116 V0) (res_main_v116 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V0 (Proc.devRef .tc main_arg7))))))) shapeCasts_S4x8192x1024_S32768x1024

theorem outV_apply (n : Fin 1024) :
    outV V0 (ix2 (⟨s.val * 8192 + t.val, by omega⟩ : Fin 32768) n) = (inAt V0).out s gate t n := by
  unfold outV In.out
  refine (shapeCast_apply _ _ _ (ix3 s t n) ?_).trans ?_
  · rw [Shape.rowMajor_val_three, Shape.rowMajor_val_two]
    show (s.val * 8192 + t.val) * 1024 + n.val = (s.val * 8192 + t.val) * 1024 + n.val
    omega
  refine (addf_apply _ _ _).trans (congrArg₂ (· + ·) (v3_apply V0 s t n) ?_)
  refine (post_apply s t _ _ _ n).trans ?_
  rw [show (fun k => (res_main_v116 V0 : S4x8192x1024.Idx → EReal) (ix3 s t k)) = (inAt V0).down s gate t from
    funext (v116_apply V0 s t)]
  exact congrArg₂ (· * ·) rfl (congrArg (· * _) (congrArg (· * _) (v116_apply V0 s t n)))

end Cert.Reference2Ideal.Ffn
-- ==== Proof.FfnAgree.lean ====
/-
  The feed-forward kernel's and its reference's results are the same array, where the gating half of the up-projection is
  finite and both start from the same arguments.
-/
module

public import proofs.«01_k».proof.Defs
public import proofs.«01_k».proof.Proof.FfnInputs
public import proofs.«01_k».proof.Proof.FfnRefOut

@[expose] public section

noncomputable section

namespace Cert.Ffn

open Idealize.ShloMosaic Idealize.ShloMosaic.TcCoe Idealize.SL.Sem Idealize.ShloMosaic.StableHlo

/-- The shapes of the precondition's operations fit. -/
instance preFacts : Cert.Pre_gates_finite.Facts := by
  constructor <;> decide

/-- A comparison that gives one holds. -/
theorem holds_of_one {p : Prop} [Decidable p] (h : BitVec.ofBool (decide p) = 1#1) : p := by
  by_contra hp
  rw [decide_eq_false hp] at h
  exact absurd h (by decide)

theorem top_eq : Ideal.ofBits .f32 0x7F800000#32 = ⊤ := by
  simp [Ideal.ofBits, Ideal.ieee]

/-- A number whose magnitude is below plus infinity is real. -/
theorem real_of_abs (x : EReal) (h : max x (-x) < ⊤) : ∃ r : ℝ, x = r := by
  induction x with
  | bot => simp at h
  | top => simp at h
  | coe r => exact ⟨r, rfl⟩

/-- The precondition's up-projection, cut and compared, at an index. -/
theorem gate_real (a0 : FVec Ideal Cert.Pre_gates_finite.S33792x1024 .f32) (a1 : FVec Ideal Cert.Pre_gates_finite.S8x6x1024 .f32)
    (a2 : FVec Ideal Cert.Pre_gates_finite.S1024 .f32) (a3 : FVec Ideal Cert.Pre_gates_finite.S1024x5632 .f32) (a4 a5 a6 a7)
    (h : Cert.Pre_gates_finite.fn (F := Ideal) a0 a1 a2 a3 a4 a5 a6 a7 = fun _ => 1#1) (I : In)
    (hx : ∀ r k, a0 (ix2 r k) = I.x r k) (hm : ∀ s q k, a1 (ix3 s q k) = I.md s q k) (hg : ∀ k, a2 (ix1 k) = I.g k)
    (hw : ∀ k j, a3 (ix2 k j) = I.wu k j) : I.Fine := by
  intro s t j
  have hp := congrFun h (ix3 s t j)
  revert hp
  pointwise [Cert.Pre_gates_finite.fn, Cert.Pre_gates_finite.fn_part1]
  simp only [hx, hm, hg, hw]
  intro hlt
  exact real_of_abs _ (lt_of_lt_of_eq (holds_of_one hlt) top_eq)

variable {m : (ℓ : Loc Cert.Kernel2Ideal.nD Cert.Kernel2Ideal.τ Cert.Kernel2Ideal.sig) → Buf (Elt Ideal) ℓ}
  {m' : (ℓ : Loc Cert.Reference2Ideal.nD Cert.Reference2Ideal.τ Cert.Reference2Ideal.sig) → Buf (Elt Ideal) ℓ}

theorem fine (h : Cert.Pre_Kernel2Ideal_gates_finite m) (c : Dev Cert.Kernel2Ideal.nD) : (Cert.Kernel2Ideal.Ffn.inOf m c).Fine :=
  gate_real _ _ _ _ _ _ _ _ (h c) _ (fun _ _ => rfl) (fun _ _ _ => rfl) (fun _ => rfl) (fun _ _ => rfl)

variable (c : Dev Cert.Kernel2Ideal.nD)

/-- The arguments that both start from. -/
theorem in_eq
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    Cert.Reference2Ideal.Ffn.inAt (launchContents m' c) = Cert.Kernel2Ideal.Ffn.inOf m c := by
  have hx (r : Ref Cert.Reference2Ideal.sig .tc) : launchContents m' c (Proc.devRef .tc r)
      = m' ((c.tc : Thread Cert.Reference2Ideal.nD Cert.Reference2Ideal.τ).loc r) := rfl
  unfold Cert.Reference2Ideal.Ffn.inAt
  simp only [hx]
  rw [h0, h1, h2, h3, h4, h5, h6, h7]
  rfl

/-- A row of the result as a sample and a token. -/
theorem rows_ext (f g : Cert.Kernel2Ideal.S32768x1024.Idx → EReal)
    (h : ∀ (s : Fin 4) (t : Fin 8192) (n : Fin 1024), f (ix2 (⟨s.val * 8192 + t.val, by omega⟩ : Fin 32768) n)
      = g (ix2 (⟨s.val * 8192 + t.val, by omega⟩ : Fin 32768) n)) : f = g := by
  funext i
  obtain ⟨r, n, rfl⟩ : ∃ (r : Fin 32768) (n : Fin 1024), i = ix2 r n := ⟨i 0, i 1, (ix2_eta _).symm⟩

  have e : r = (⟨(⟨r.val / 8192, by omega⟩ : Fin 4).val * 8192 + (⟨r.val % 8192, by omega⟩ : Fin 8192).val, by
    simp only []; omega⟩ : Fin 32768) := Fin.ext (by simp only []; omega)
  rw [e]
  exact h _ _ n

/-- The results. -/
theorem result_eq (hI : (Cert.Kernel2Ideal.Ffn.inOf m c).Fine)
    (hm : Cert.Reference2Ideal.Ffn.inAt (launchContents m' c) = Cert.Kernel2Ideal.Ffn.inOf m c) :
    Cert.Reference2Ideal.Ffn.outV (launchContents m' c) = (Cert.Kernel2Ideal.Gen.dats m 0 c).arrAt 10 Cert.Kernel2Ideal.cfg0.N :=
  rows_ext _ _ fun s t n =>
    ((Cert.Reference2Ideal.Ffn.outV_apply _ s t n).trans (congrArg (fun I : In => I.out s gate t n) hm)).trans
      ((out_eq _ hI s t n).symm.trans (Cert.Kernel2Ideal.Ffn.result_apply m c s t n).symm)

end Cert.Ffn

end
-- ==== Proof.ProjSpec.lean ====
/-
  The first layer's projection as a function of rows and columns: the latent tokens' rows and then the context's, each
  normalised, scaled and shifted by its sample's modulation vectors, times the weights.
-/
module

public import proofs.«01_k».proof.Proof.FfnSpec

@[expose] public section

noncomputable section

namespace Cert.Proj

open Idealize.ShloMosaic
open Cert.Ffn (normed)

/-- The arguments. -/
structure In where
  x : Fin 4 → Fin 8192 → Fin 1024 → EReal
  ctx : Fin 4 → Fin 256 → Fin 1024 → EReal
  md : Fin 8 → Fin 6 → Fin 1024 → EReal
  g : Fin 1024 → EReal
  w : Fin 1024 → Fin 2944 → EReal

namespace In

variable (I : In) (R : Fin 33792)

/-- A row: a latent token's, or a context token's after them. -/
def row (k : Fin 1024) : EReal :=
  if h : R.val < 32768 then I.x ⟨R.val / 8192, by omega⟩ ⟨R.val % 8192, by omega⟩ k
  else I.ctx ⟨(R.val - 32768) / 256, by omega⟩ ⟨(R.val - 32768) % 256, by omega⟩ k

/-- A modulation vector of the row: its sample's, or the context's, which comes fifth. -/
def mods (q : Fin 6) (k : Fin 1024) : EReal := I.md ⟨R.val / 8192, by omega⟩ q k

def proj (j : Fin 2944) : EReal := ∑ k, normed (I.row R) I.g (I.mods R 1) (I.mods R 0) k * I.w k j

end In

end Cert.Proj

end
-- ==== Proof.ProjKernel.lean ====
/-
  The projection kernel's blocks and the arrays that they make up.
-/
module

public import proofs.«01_k».proof.Proof.ProjSpec
public import proofs.«01_k».proof.Proof.FfnInputs
public import proofs.«01_k».proof.Proof.Gen.Kernel3Ideal.Value

@[expose] public section

noncomputable section

namespace Cert.Kernel3Ideal.Proj

open Idealize.ShloMosaic Idealize.ShloMosaic.TcCoe Idealize.SL.Sem Cert.Kernel3Ideal Cert.Kernel3Ideal.Gen
open Cert.Ffn (rms normed)
open Cert.Proj
open Cert.Kernel2Ideal.Ffn (read2 read_whole row_cast)

/-! ### A block's product -/

theorem product_apply (i : grid0.Coords) (x0 x1 X : Vec Ideal S1024x1024 .f32) (x2 : Vec Ideal S1x1024 .f32)
    (v20 v26 : Vec Ideal S1x1x1024 .f32) (x4 : Vec Ideal S1024x2944 .bf16)
    (hX : Scalar.select (Scalar.cmpi .sge (BitVec.ofNat 32 (i 0).val) 32#32) x1 x0 = X) (r : Fin 1024) (j : Fin 2944) :
    (k0_pay3 i x1 x0 x2 v20 v26 x4 : FVec Ideal S1024x2944 .f32) (ix2 r j)
      = (∑ k : Fin 1024, normed (fun k => X (ix2 r k)) (fun k => x2 (ix2 0 k)) (fun k => v20 (ix3 0 0 k)) (fun k => v26 (ix3 0 0 k)) k
          * (x4 (ix2 k j) : EReal) : EReal) := by
  unfold k0_pay3 normed rms
  simp only [shapeCast_self, hX]
  pointwise []

variable (i : grid0.Coords) (x0 x1 : Vec Ideal S1024x1024 .f32) (x2 : Vec Ideal S1x1024 .f32) (x3 : Vec Ideal S1x6x1024 .f32)
  (x4 : Vec Ideal S1024x2944 .bf16)

theorem zeros : (![0, 0] : Fin 2 → ℕ) = fun _ => 0 := by decide

theorem whole_eq : k0_pay5 i x0 x1 x2 x3 x4 = k0_pay3 i x1 x0 x2 (View.ld x3 r0_2) (View.ld x3 r0_3) x4 := by
  unfold k0_pay5
  rw [View.ld_unit_zero zeros, View.ld_unit_zero zeros, View.ld_unit_zero zeros, View.ld_unit_zero zeros]

theorem out5_apply (r : Fin 1024) (j : Fin 1024) :
    out0_5 i x0 x1 x2 x3 x4 (ix2 r j) = k0_pay5 i x0 x1 x2 x3 x4 (ix2 r (⟨j.val, by omega⟩ : Fin 2944)) := by
  unfold out0_5
  rw [View.canon_unit_zero zeros]
  unfold k0_pay4 k0_pay5
  pointwise []

theorem out6_apply (r : Fin 1024) (j : Fin 1536) :
    out0_6 i x0 x1 x2 x3 x4 (ix2 r j) = k0_pay5 i x0 x1 x2 x3 x4 (ix2 r (⟨1024 + j.val, by omega⟩ : Fin 2944)) := by
  unfold out0_6
  rw [View.canon_unit_zero zeros]
  pointwise [k0_pay1]

theorem out7_apply (r : Fin 1024) (j : Fin 384) :
    out0_7 i x0 x1 x2 x3 x4 (ix2 r j) = k0_pay5 i x0 x1 x2 x3 x4 (ix2 r (⟨2560 + j.val, by omega⟩ : Fin 2944)) := by
  unfold out0_7
  rw [View.canon_unit_zero zeros]
  pointwise [k0_pay2]

/-! ### The arguments and what the windows read -/

variable (m : (ℓ : Loc nD τ sig) → Buf (Elt Ideal) ℓ) (c : Dev nD)

/-- An argument's contents. -/
abbrev arg (r : Ref sig .tc) := m ((c : Thread nD τ).loc r)

/-- The arguments as functions of rows and columns. -/
def inOf : In where
  x s u k := (arg m c main_arg0 : Vec Ideal S4x8192x1024 .f32) (ix3 s u k)
  ctx s u k := (arg m c main_arg1 : Vec Ideal S4x256x1024 .f32) (ix3 s u k)
  md s q k := (arg m c main_arg2 : Vec Ideal S8x6x1024 .f32) (ix3 s q k)
  g k := (arg m c main_arg3 : Vec Ideal S1024 .f32) (ix1 k)
  w k j := (arg m c main_arg4 : Vec Ideal S1024x2944 .f32) (ix2 k j)

theorem V_x (R : Fin 32768) (k : Fin 1024) : (V m c main_v0 : Vec Ideal S32768x1024 .f32) (ix2 R k)
    = (inOf m c).x ⟨R.val / 8192, by omega⟩ ⟨R.val % 8192, by omega⟩ k := by
  have h : (V m c main_v0 : Vec Ideal S32768x1024 .f32) = shapeCast S32768x1024 (arg m c main_arg0 : Vec Ideal S4x8192x1024 .f32) shapeCasts_S4x8192x1024_S32768x1024 := by
    entry_read
    rfl
  rw [h]
  refine shapeCast_apply _ _ _ (ix3 (⟨R.val / 8192, by omega⟩ : Fin 4) (⟨R.val % 8192, by omega⟩ : Fin 8192) k) ?_
  show (S4x8192x1024.rowMajor _).val = (S32768x1024.rowMajor _).val
  rw [Shape.rowMajor_val_two, Shape.rowMajor_val_three]
  show (R.val / 8192 * 8192 + R.val % 8192) * 1024 + k.val = R.val * 1024 + k.val
  omega

theorem V_ctx (R : Fin 1024) (k : Fin 1024) : (V m c main_v1 : Vec Ideal S1024x1024 .f32) (ix2 R k)
    = (inOf m c).ctx ⟨R.val / 256, by omega⟩ ⟨R.val % 256, by omega⟩ k := by
  have h : (V m c main_v1 : Vec Ideal S1024x1024 .f32) = shapeCast S1024x1024 (arg m c main_arg1 : Vec Ideal S4x256x1024 .f32) shapeCasts_S4x256x1024_S1024x1024 := by
    entry_read
    rfl
  rw [h]
  refine shapeCast_apply _ _ _ (ix3 (⟨R.val / 256, by omega⟩ : Fin 4) (⟨R.val % 256, by omega⟩ : Fin 256) k) ?_
  show (S4x256x1024.rowMajor _).val = (S1024x1024.rowMajor _).val
  rw [Shape.rowMajor_val_two, Shape.rowMajor_val_three]
  show (R.val / 256 * 256 + R.val % 256) * 1024 + k.val = R.val * 1024 + k.val
  omega

theorem V_w (k : Fin 1024) (j : Fin 2944) : (V m c main_v2 : Vec Ideal S1024x2944 .bf16) (ix2 k j) = (inOf m c).w k j := by
  entry_read
  rfl

theorem V_g (k : Fin 1024) : (V m c main_v3 : Vec Ideal S1x1024 .f32) (ix2 0 k) = (inOf m c).g k := by
  have h : (V m c main_v3 : Vec Ideal S1x1024 .f32) = shapeCast S1x1024 (arg m c main_arg3 : Vec Ideal S1024 .f32) shapeCasts_S1024_S1x1024 := by
    entry_read
    rfl
  rw [h]
  exact row_cast _ _ k

/-! ### The blocks -/

theorem index_latent : ∀ t : Fin grid0.N, t.val < 32 → win0_0.index t 0 = t.val ∧ win0_0.index t 1 = 0 := by decide +kernel
theorem index_mods : ∀ t : Fin grid0.N, win0_3.index t 0 = t.val / 8 ∧ win0_3.index t 1 = 0 ∧ win0_3.index t 2 = 0 := by decide +kernel
theorem index_whole : ∀ t : Fin grid0.N, (win0_1.index t 0 = 0 ∧ win0_1.index t 1 = 0) ∧ (win0_2.index t 0 = 0 ∧ win0_2.index t 1 = 0)
    ∧ (win0_4.index t 0 = 0 ∧ win0_4.index t 1 = 0) := by decide +kernel
theorem index_out : ∀ t : Fin grid0.N, (win0_5.index t 0 = t.val ∧ win0_5.index t 1 = 0) ∧ (win0_6.index t 0 = t.val ∧ win0_6.index t 1 = 0)
    ∧ (win0_7.index t 0 = t.val ∧ win0_7.index t 1 = 0) := by decide +kernel
/-- The comparison that picks the context's rows. -/
theorem picks : ∀ t : Fin grid0.N, Scalar.cmpi .sge (BitVec.ofNat 32 (grid0.coords t 0).val) 32#32 = if t.val < 32 then 0#1 else 1#1 := by
  decide +kernel

variable (t : Fin cfg0.N)

theorem lt_points (t : Fin cfg0.N) : t.val < 33 := t.isLt

theorem blk_x (h : t.val < 32) (r k : Fin 1024) : (iblk m c 0 t : Vec Ideal S1024x1024 .f32) (ix2 r k)
    = (inOf m c).x ⟨(t.val * 1024 + r.val) / 8192, by omega⟩ ⟨(t.val * 1024 + r.val) % 8192, by omega⟩ k :=
  (read2 (iblk m c 0 t) (V m c main_v0) (fun i => ((cfg0.win 0).blk t).view.emb i) (fun _ => rfl) _ (fun _ => rfl) (fun _ => rfl) r k
    ⟨t.val * 1024 + r.val, by omega⟩ k (by rw [(index_latent t h).1]) (by rw [(index_latent t h).2]; omega)).trans (V_x m c _ k)

theorem blk_ctx (r k : Fin 1024) : (iblk m c 1 t : Vec Ideal S1024x1024 .f32) (ix2 r k)
    = (inOf m c).ctx ⟨r.val / 256, by omega⟩ ⟨r.val % 256, by omega⟩ k :=
  (read_whole (iblk m c 1 t) (V m c main_v1) (fun i => ((cfg0.win 1).blk t).view.emb i) (fun _ => rfl) _ (fun _ => rfl) (fun _ => rfl)
    (index_whole t).1 r k).trans (V_ctx m c r k)

theorem blk_g (k : Fin 1024) : (iblk m c 2 t : Vec Ideal S1x1024 .f32) (ix2 0 k) = (inOf m c).g k :=
  (read_whole (iblk m c 2 t) (V m c main_v3) (fun i => ((cfg0.win 2).blk t).view.emb i) (fun _ => rfl) _ (fun _ => rfl) (fun _ => rfl)
    (index_whole t).2.1 0 k).trans (V_g m c k)

theorem blk_w (k : Fin 1024) (j : Fin 2944) : (iblk m c 4 t : Vec Ideal S1024x2944 .bf16) (ix2 k j) = (inOf m c).w k j :=
  (read_whole (iblk m c 4 t) (V m c main_v2) (fun i => ((cfg0.win 4).blk t).view.emb i) (fun _ => rfl) _ (fun _ => rfl) (fun _ => rfl)
    (index_whole t).2.2 k j).trans (V_w m c k j)

theorem blk_md (q : Fin 6) (k : Fin 1024) : (iblk m c 3 t : Vec Ideal S1x6x1024 .f32) (ix3 0 q k)
    = (inOf m c).md ⟨t.val / 8, by have := lt_points t; omega⟩ q k := by
  have h := index_mods t
  refine Eq.trans ?_ (congrFun (V_main_arg2 m c) (ix3 ⟨t.val / 8, by have := lt_points t; omega⟩ q k))
  show V m c main_arg2 (((cfg0.win 3).blk t).view.emb (ix3 0 q k)) = V m c main_arg2 _
  refine congrArg (V m c main_arg2) (funext fun a => Fin.ext ?_)
  match a with
  | ⟨0, _⟩ =>
    show win0_3.index t 0 * 1 + 1 * 0 = t.val / 8
    rw [h.1]; omega
  | ⟨1, _⟩ =>
    show win0_3.index t 1 * 6 + 1 * q.val = q.val
    rw [h.2.1]; omega
  | ⟨2, _⟩ =>
    show win0_3.index t 2 * 1024 + 1 * k.val = k.val
    rw [h.2.2]; omega

theorem ld_scale (k : Fin 1024) : View.ld x3 r0_2 (ix3 0 0 k) = x3 (ix3 0 1 k) := by
  refine congrArg x3 (funext fun a => Fin.ext ?_)
  match a with
  | ⟨0, _⟩ => rfl
  | ⟨1, _⟩ => rfl
  | ⟨2, _⟩ => show 0 + 1 * k.val = k.val; omega

theorem ld_shift (k : Fin 1024) : View.ld x3 r0_3 (ix3 0 0 k) = x3 (ix3 0 0 k) := by
  refine congrArg x3 (funext fun a => Fin.ext ?_)
  match a with
  | ⟨0, _⟩ => rfl
  | ⟨1, _⟩ => rfl
  | ⟨2, _⟩ => show 0 + 1 * k.val = k.val; omega

/-- What a point computes. -/
def prodAt : FVec Ideal S1024x2944 .f32 :=
  k0_pay5 (grid0.coords t) (iblk m c 0 t) (iblk m c 1 t) (iblk m c 2 t) (iblk m c 3 t) (iblk m c 4 t)

/-- The rows that it takes. -/
def rowsAt : Vec Ideal S1024x1024 .f32 := if t.val < 32 then iblk m c 0 t else iblk m c 1 t

theorem rowsAt_eq : Scalar.select (Scalar.cmpi .sge (BitVec.ofNat 32 (grid0.coords t 0).val) 32#32)
    (iblk m c 1 t : Vec Ideal S1024x1024 .f32) (iblk m c 0 t : Vec Ideal S1024x1024 .f32) = rowsAt m c t := by
  unfold rowsAt Scalar.select
  rw [picks]
  split <;> rfl

theorem rowsAt_apply (r k : Fin 1024) : rowsAt m c t (ix2 r k)
    = (inOf m c).row ⟨t.val * 1024 + r.val, by have := lt_points t; omega⟩ k := by
  have ht := lt_points t
  unfold rowsAt In.row
  by_cases h : t.val < 32
  · rw [if_pos h, dif_pos (show t.val * 1024 + r.val < 32768 by omega)]
    exact blk_x m c t h r k
  · rw [if_neg h, dif_neg (show ¬ t.val * 1024 + r.val < 32768 by omega)]
    refine (blk_ctx m c t r k).trans ?_
    have e : t.val * 1024 + r.val - 32768 = r.val := by omega
    simp only [e]

theorem prodAt_apply (r : Fin 1024) (j : Fin 2944) : prodAt m c t (ix2 r j)
    = (inOf m c).proj ⟨t.val * 1024 + r.val, by have := lt_points t; omega⟩ j := by
  have ht := lt_points t
  have e : (⟨t.val / 8, by omega⟩ : Fin 8) = ⟨(t.val * 1024 + r.val) / 8192, by omega⟩ := Fin.ext (by simp only []; omega)
  unfold prodAt
  rw [whole_eq]
  refine (product_apply _ _ _ _ _ _ _ _ (rowsAt_eq m c t) r j).trans ?_
  have h1 : (fun k : Fin 1024 => View.ld (iblk m c 3 t : Vec Ideal S1x6x1024 .f32) r0_2 (ix3 0 0 k))
      = (inOf m c).mods ⟨t.val * 1024 + r.val, by omega⟩ 1 :=
    funext fun k => (ld_scale _ k).trans ((blk_md m c t 1 k).trans (congrArg (fun s => (inOf m c).md s 1 k) e))
  have h0 : (fun k : Fin 1024 => View.ld (iblk m c 3 t : Vec Ideal S1x6x1024 .f32) r0_3 (ix3 0 0 k))
      = (inOf m c).mods ⟨t.val * 1024 + r.val, by omega⟩ 0 :=
    funext fun k => (ld_shift _ k).trans ((blk_md m c t 0 k).trans (congrArg (fun s => (inOf m c).md s 0 k) e))
  simp only [rowsAt_apply, blk_g, blk_w]
  rw [h1, h0]
  rfl

/-! ### The results -/

/-- The point that takes a row. -/
def pt (R : Fin 33792) : Fin cfg0.N := ⟨R.val / 1024, (by omega : R.val / 1024 < 33)⟩

theorem prod_row (R : Fin 33792) (j : Fin 2944) : prodAt m c (pt R) (ix2 ⟨R.val % 1024, by omega⟩ j) = (inOf m c).proj R j := by
  refine (prodAt_apply m c (pt R) _ j).trans (congrArg (fun R => (inOf m c).proj R j) (Fin.ext ?_))
  show R.val / 1024 * 1024 + R.val % 1024 = R.val
  omega

theorem first_apply (R : Fin 33792) (j : Fin 1024) :
    ((dats m 0 c).arrAt 5 cfg0.N : Vec Ideal S33792x1024 .bf16) (ix2 R j) = (inOf m c).proj R ⟨j.val, by omega⟩ := by
  have hr := (Value.blocks5 m c (pt R) (flush0_5 _)).trans (Value.flushed5 m c (pt R))
  refine (read2 (out0_5 (grid0.coords (pt R)) (iblk m c 0 (pt R)) (iblk m c 1 (pt R)) (iblk m c 2 (pt R)) (iblk m c 3 (pt R)) (iblk m c 4 (pt R)))
    ((dats m 0 c).arrAt 5 cfg0.N) (fun i => ((cfg0.win 5).blk (pt R)).view.emb i) (fun i => (congrFun hr i).symm) _ (fun _ => rfl) (fun _ => rfl)
    ⟨R.val % 1024, by omega⟩ j R j (by rw [(index_out _).1.1]; show R.val / 1024 * 1024 + R.val % 1024 = R.val; omega)
    (by rw [(index_out _).1.2]; omega)).symm.trans ?_
  exact (out5_apply _ _ _ _ _ _ _ j).trans (prod_row m c R _)

theorem second_apply (R : Fin 33792) (j : Fin 1536) :
    ((dats m 0 c).arrAt 6 cfg0.N : Vec Ideal S33792x1536 .bf16) (ix2 R j) = (inOf m c).proj R ⟨1024 + j.val, by omega⟩ := by
  have hr := (Value.blocks6 m c (pt R) (flush0_6 _)).trans (Value.flushed6 m c (pt R))
  refine (read2 (out0_6 (grid0.coords (pt R)) (iblk m c 0 (pt R)) (iblk m c 1 (pt R)) (iblk m c 2 (pt R)) (iblk m c 3 (pt R)) (iblk m c 4 (pt R)))
    ((dats m 0 c).arrAt 6 cfg0.N) (fun i => ((cfg0.win 6).blk (pt R)).view.emb i) (fun i => (congrFun hr i).symm) _ (fun _ => rfl) (fun _ => rfl)
    ⟨R.val % 1024, by omega⟩ j R j (by rw [(index_out _).2.1.1]; show R.val / 1024 * 1024 + R.val % 1024 = R.val; omega)
    (by rw [(index_out _).2.1.2]; omega)).symm.trans ?_
  exact (out6_apply _ _ _ _ _ _ _ j).trans (prod_row m c R _)

theorem third_apply (R : Fin 33792) (j : Fin 384) :
    ((dats m 0 c).arrAt 7 cfg0.N : Vec Ideal S33792x384 .bf16) (ix2 R j) = (inOf m c).proj R ⟨2560 + j.val, by omega⟩ := by
  have hr := (Value.blocks7 m c (pt R) (flush0_7 _)).trans (Value.flushed7 m c (pt R))
  refine (read2 (out0_7 (grid0.coords (pt R)) (iblk m c 0 (pt R)) (iblk m c 1 (pt R)) (iblk m c 2 (pt R)) (iblk m c 3 (pt R)) (iblk m c 4 (pt R)))
    ((dats m 0 c).arrAt 7 cfg0.N) (fun i => ((cfg0.win 7).blk (pt R)).view.emb i) (fun i => (congrFun hr i).symm) _ (fun _ => rfl) (fun _ => rfl)
    ⟨R.val % 1024, by omega⟩ j R j (by rw [(index_out _).2.2.1]; show R.val / 1024 * 1024 + R.val % 1024 = R.val; omega)
    (by rw [(index_out _).2.2.2]; omega)).symm.trans ?_
  exact (out7_apply _ _ _ _ _ _ _ j).trans (prod_row m c R _)

end Cert.Kernel3Ideal.Proj

end
-- ==== Proof.ProjRef.lean ====
/-
  The projection's reference, read at rows and columns.
-/
module

public import proofs.«01_k».proof.Proof.ProjSpec
public import proofs.«01_k».proof.Proof.Gen.Reference3Ideal.Run

@[expose] public section

noncomputable section

namespace Cert.Reference3Ideal.Proj

open Idealize.ShloMosaic Idealize.ShloMosaic.TcCoe Idealize.SL.Sem Cert.Reference3Ideal Cert.Reference3Ideal.Gen
open Cert.Ffn (rms normed)
open Cert.Proj

variable (a0 : FVec Ideal S4x8192x1024 .f32) (a1 : FVec Ideal S4x256x1024 .f32) (a2 : FVec Ideal S8x6x1024 .f32) (a3 : FVec Ideal S1024 .f32)
  (a4 : FVec Ideal S1024x2944 .f32)

/-- The latent tokens' rows. -/
def latent : FVec Ideal S32768x2944 .f32 :=
  shapeCast S32768x2944 (Host.dotGeneral dot_S4x8192x1024_S1024x2944_S4x8192x2944_2_0_01_1_n_n none (addf (mulf (mulf (mulf a0
      (broadcastInDim S4x8192x1024 ![0, 1, 2] bcast_S4x8192x1_S4x8192x1024_0_1_2 (Host.rsqrt (addf (Host.divf (broadcastInDim S4x8192x1
      ![0, 1] bcast_S4x8192_S4x8192x1_0_1 (Host.reduceAdd (mulf a0 a0) (constant S_ .f32 0x00000000#32)
      reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32)))))) (broadcastInDim S4x8192x1024 ![0, 1, 2]
      bcast_S1x1x1024_S4x8192x1024_0_1_2 (broadcastInDim S1x1x1024 ![2] bcast_S1024_S1x1x1024_2 a3))) (broadcastInDim S4x8192x1024 ![0,
      1, 2] bcast_S4x1x1024_S4x8192x1024_0_1_2 (addf (broadcastInDim S4x1x1024 ![] bcast_S_S4x1x1024 (constant S_ .f32 0x3F800000#32))
      (broadcastInDim S4x1x1024 ![0, 2] bcast_S4x1024_S4x1x1024_0_2 (shapeCast _ (extractStridedSlice S4x1x1024 ![0, 1, 0] a2
      slices_S8x6x1024_S4x1x1024_0_1_0) shapeCasts_S4x1x1024_S4x1024))))) (broadcastInDim S4x8192x1024 ![0, 1, 2]
      bcast_S4x1x1024_S4x8192x1024_0_1_2 (broadcastInDim S4x1x1024 ![0, 2] bcast_S4x1024_S4x1x1024_0_2 (shapeCast _ (extractStridedSlice
      S4x1x1024 ![0, 0, 0] a2 slices_S8x6x1024_S4x1x1024_0_0_0) shapeCasts_S4x1x1024_S4x1024)))) a4) shapeCasts_S4x8192x2944_S32768x2944

/-- The context's rows. -/
def context : FVec Ideal S1024x2944 .f32 :=
  shapeCast S1024x2944 (Host.dotGeneral dot_S4x256x1024_S1024x2944_S4x256x2944_2_0_01_1_n_n none (addf (mulf (mulf (mulf a1
      (broadcastInDim S4x256x1024 ![0, 1, 2] bcast_S4x256x1_S4x256x1024_0_1_2 (Host.rsqrt (addf (Host.divf (broadcastInDim S4x256x1 ![0,
      1] bcast_S4x256_S4x256x1_0_1 (Host.reduceAdd (mulf a1 a1) (constant S_ .f32 0x00000000#32) reducesTo_S4x256x1024_S4x256_d2 h_S_))
      (broadcastInDim S4x256x1 ![] bcast_S_S4x256x1 (constant S_ .f32 0x44800000#32))) (broadcastInDim S4x256x1 ![] bcast_S_S4x256x1
      (constant S_ .f32 0x358637BD#32)))))) (broadcastInDim S4x256x1024 ![0, 1, 2] bcast_S1x1x1024_S4x256x1024_0_1_2 (broadcastInDim
      S1x1x1024 ![2] bcast_S1024_S1x1x1024_2 a3))) (broadcastInDim S4x256x1024 ![0, 1, 2] bcast_S1x1x1024_S4x256x1024_0_1_2
      (broadcastInDim S1x1x1024 ![2] bcast_S1024_S1x1x1024_2 (addf (broadcastInDim S1024 ![] bcast_S_S1024 (constant S_ .f32
      0x3F800000#32)) (shapeCast _ (extractStridedSlice S1x1x1024 ![4, 1, 0] a2 slices_S8x6x1024_S1x1x1024_4_1_0)
      shapeCasts_S1x1x1024_S1024))))) (broadcastInDim S4x256x1024 ![0, 1, 2] bcast_S1x1x1024_S4x256x1024_0_1_2 (broadcastInDim S1x1x1024
      ![2] bcast_S1024_S1x1x1024_2 (shapeCast _ (extractStridedSlice S1x1x1024 ![4, 0, 0] a2 slices_S8x6x1024_S1x1x1024_4_0_0)
      shapeCasts_S1x1x1024_S1024)))) a4) shapeCasts_S4x256x2944_S1024x2944

/-- All rows, before the columns are parted. -/
def allRows : FVec Ideal S33792x2944 .bf16 :=
  truncf .bf16 (concatenate S33792x2944 0 [⟨S32768x2944, latent a0 a2 a3 a4⟩, ⟨S1024x2944, context a1 a2 a3 a4⟩]
    concatenates_S32768x2944_S1024x2944_S33792x2944_d0) bitsLt_bf16_f32

/-- The arguments as functions of rows and columns. -/
def inOf : In where
  x s u k := a0 (ix3 s u k)
  ctx s u k := a1 (ix3 s u k)
  md s q k := a2 (ix3 s q k)
  g k := a3 (ix1 k)
  w k j := a4 (ix2 k j)

theorem latent_apply (s : Fin 4) (u : Fin 8192) (j : Fin 2944) : latent a0 a2 a3 a4 (ix2 ⟨s.val * 8192 + u.val, by omega⟩ j)
    = ∑ k : Fin 1024, normed (fun k => a0 (ix3 s u k)) (fun k => a3 (ix1 k)) (fun k => a2 (ix3 ⟨s.val, by omega⟩ 1 k))
        (fun k => a2 (ix3 ⟨s.val, by omega⟩ 0 k)) k * a4 (ix2 k j) := by
  unfold latent normed rms
  refine (shapeCast_apply _ _ _ (ix3 s u j) ?_).trans ?_
  · show (S4x8192x2944.rowMajor _).val = (S32768x2944.rowMajor _).val
    rw [Shape.rowMajor_val_two, Shape.rowMajor_val_three]
    show (s.val * 8192 + u.val) * 2944 + j.val = (s.val * 8192 + u.val) * 2944 + j.val
    omega
  · pointwise []

theorem context_apply (s : Fin 4) (u : Fin 256) (j : Fin 2944) : context a1 a2 a3 a4 (ix2 ⟨s.val * 256 + u.val, by omega⟩ j)
    = ∑ k : Fin 1024, normed (fun k => a1 (ix3 s u k)) (fun k => a3 (ix1 k)) (fun k => a2 (ix3 4 1 k))
        (fun k => a2 (ix3 4 0 k)) k * a4 (ix2 k j) := by
  unfold context normed rms
  refine (shapeCast_apply _ _ _ (ix3 s u j) ?_).trans ?_
  · show (S4x256x2944.rowMajor _).val = (S1024x2944.rowMajor _).val
    rw [Shape.rowMajor_val_two, Shape.rowMajor_val_three]
    show (s.val * 256 + u.val) * 2944 + j.val = (s.val * 256 + u.val) * 2944 + j.val
    omega
  · pointwise []

theorem joined (x : FVec Ideal S32768x2944 .f32) (y : FVec Ideal S1024x2944 .f32) (h) (R : Fin 33792) (j : Fin 2944) :
    (concatenate S33792x2944 0 [⟨S32768x2944, x⟩, ⟨S1024x2944, y⟩] h) (ix2 R j)
      = if hR : R.val < 32768 then x (ix2 ⟨R.val, hR⟩ j) else y (ix2 ⟨R.val - 32768, by omega⟩ j) := by
  pointwise []

theorem allRows_apply (R : Fin 33792) (j : Fin 2944) : allRows a0 a1 a2 a3 a4 (ix2 R j) = (inOf a0 a1 a2 a3 a4).proj R j := by
  unfold allRows In.proj In.row In.mods
  refine (joined (latent a0 a2 a3 a4) (context a1 a2 a3 a4) concatenates_S32768x2944_S1024x2944_S33792x2944_d0 R j).trans ?_
  by_cases h : R.val < 32768
  · have e : (⟨R.val, h⟩ : Fin 32768) = ⟨(⟨R.val / 8192, by omega⟩ : Fin 4).val * 8192 + (⟨R.val % 8192, by omega⟩ : Fin 8192).val, by
      simp only []; omega⟩ := Fin.ext (by simp only []; omega)
    simp only [dif_pos h]
    rw [e, latent_apply]
    rfl
  · have e : (⟨R.val - 32768, by omega⟩ : Fin 1024)
        = ⟨(⟨(R.val - 32768) / 256, by omega⟩ : Fin 4).val * 256 + (⟨(R.val - 32768) % 256, by omega⟩ : Fin 256).val, by
      simp only []; omega⟩ := Fin.ext (by simp only []; omega)
    have e4 : (⟨R.val / 8192, by omega⟩ : Fin 8) = 4 := Fin.ext (by show R.val / 8192 = 4; omega)
    simp only [dif_neg h]
    rw [e, context_apply, e4]
    rfl

end Cert.Reference3Ideal.Proj

end
-- ==== Proof.ProjAgree.lean ====
/-
  The projection kernel's and its reference's results are the same arrays, where both start from the same arguments.
-/
module

public import proofs.«01_k».proof.Defs
public import proofs.«01_k».proof.Proof.ProjKernel
public import proofs.«01_k».proof.Proof.ProjRef

@[expose] public section

noncomputable section

namespace Cert.Proj

open Idealize.ShloMosaic Idealize.ShloMosaic.TcCoe Idealize.SL.Sem

variable {m : (ℓ : Loc Cert.Kernel3Ideal.nD Cert.Kernel3Ideal.τ Cert.Kernel3Ideal.sig) → Buf (Elt Ideal) ℓ}
  {m' : (ℓ : Loc Cert.Reference3Ideal.nD Cert.Reference3Ideal.τ Cert.Reference3Ideal.sig) → Buf (Elt Ideal) ℓ} (c : Dev Cert.Kernel3Ideal.nD)

/-- The reference's product of all rows. -/
def refRows (m' : (ℓ : Loc Cert.Reference3Ideal.nD Cert.Reference3Ideal.τ Cert.Reference3Ideal.sig) → Buf (Elt Ideal) ℓ) (c : Dev Cert.Kernel3Ideal.nD) :
    FVec Ideal Cert.Reference3Ideal.S33792x2944 .bf16 :=
  Cert.Reference3Ideal.Proj.allRows (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4))

/-- Every entry of it is the kernel's. -/
theorem refRows_apply
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (r : Fin 33792) (j : Fin 2944) : refRows m' c (ix2 r j) = (Cert.Kernel3Ideal.Proj.inOf m c).proj r j := by
  unfold refRows
  rw [h0, h1, h2, h3, h4, Cert.Reference3Ideal.Proj.allRows_apply]
  rfl

variable (h : ∀ (r : Fin 33792) (j : Fin 2944), refRows m' c (ix2 r j) = (Cert.Kernel3Ideal.Proj.inOf m c).proj r j)

include h

theorem first_eq : extractStridedSlice Cert.Reference3Ideal.S33792x1024 ![0, 0] (refRows m' c) Cert.Reference3Ideal.Gen.slices_S33792x2944_S33792x1024_0_0
    = (Cert.Kernel3Ideal.Gen.dats m 0 c).arrAt 5 Cert.Kernel3Ideal.cfg0.N := by
  funext i
  obtain ⟨r, j, rfl⟩ : ∃ (r : Fin 33792) (j : Fin 1024), i = ix2 r j := ⟨i 0, i 1, (ix2_eta _).symm⟩
  refine (extractStridedSlice_apply _ _ _ _ (ix2 r (⟨j.val, by omega⟩ : Fin 2944)) ?_).trans
    ((h r _).trans (Cert.Kernel3Ideal.Proj.first_apply m c r j).symm)
  intro a
  match a with
  | ⟨0, _⟩ => show r.val = 0 + r.val; omega
  | ⟨1, _⟩ => show j.val = 0 + j.val; omega

theorem second_eq : extractStridedSlice Cert.Reference3Ideal.S33792x1536 ![0, 1024] (refRows m' c) Cert.Reference3Ideal.Gen.slices_S33792x2944_S33792x1536_0_1024
    = (Cert.Kernel3Ideal.Gen.dats m 0 c).arrAt 6 Cert.Kernel3Ideal.cfg0.N := by
  funext i
  obtain ⟨r, j, rfl⟩ : ∃ (r : Fin 33792) (j : Fin 1536), i = ix2 r j := ⟨i 0, i 1, (ix2_eta _).symm⟩
  refine (extractStridedSlice_apply _ _ _ _ (ix2 r (⟨1024 + j.val, by omega⟩ : Fin 2944)) ?_).trans
    ((h r _).trans (Cert.Kernel3Ideal.Proj.second_apply m c r j).symm)
  intro a
  match a with
  | ⟨0, _⟩ => show r.val = 0 + r.val; omega
  | ⟨1, _⟩ => show 1024 + j.val = 1024 + j.val; omega

theorem third_eq : extractStridedSlice Cert.Reference3Ideal.S33792x384 ![0, 2560] (refRows m' c) Cert.Reference3Ideal.Gen.slices_S33792x2944_S33792x384_0_2560
    = (Cert.Kernel3Ideal.Gen.dats m 0 c).arrAt 7 Cert.Kernel3Ideal.cfg0.N := by
  funext i
  obtain ⟨r, j, rfl⟩ : ∃ (r : Fin 33792) (j : Fin 384), i = ix2 r j := ⟨i 0, i 1, (ix2_eta _).symm⟩
  refine (extractStridedSlice_apply _ _ _ _ (ix2 r (⟨2560 + j.val, by omega⟩ : Fin 2944)) ?_).trans
    ((h r _).trans (Cert.Kernel3Ideal.Proj.third_apply m c r j).symm)
  intro a
  match a with
  | ⟨0, _⟩ => show r.val = 0 + r.val; omega
  | ⟨1, _⟩ => show 2560 + j.val = 2560 + j.val; omega

end Cert.Proj

end
-- ==== Proof.ProjOddSpec.lean ====
/-
  The second layer's projection as a function of rows and columns: a row, normalised, scaled and shifted by its sample's
  modulation vectors, times the weights, with zeros in the columns that fill the last lanes.
-/
module

public import proofs.«01_k».proof.Proof.FfnSpec

@[expose] public section

noncomputable section

namespace Cert.ProjOdd

open Idealize.ShloMosaic
open Cert.Ffn (normed)

/-- The arguments. -/
structure In where
  x : Fin 33792 → Fin 1024 → EReal
  md : Fin 8 → Fin 6 → Fin 1024 → EReal
  g : Fin 1024 → EReal
  w : Fin 1024 → Fin 2064 → EReal

namespace In

variable (I : In) (R : Fin 33792)

/-- A modulation vector of the row: its sample's, or the context's, which comes fifth. -/
def mods (q : Fin 6) (k : Fin 1024) : EReal := I.md ⟨R.val / 8192, by omega⟩ q k

def proj (j : Fin 2064) : EReal := ∑ k, normed (I.x R) I.g (I.mods R 1) (I.mods R 0) k * I.w k j

/-- The weights with zeros after their columns. -/
def filled (k : Fin 1024) (j : Fin 2176) : EReal := if h : j.val < 2064 then I.w k ⟨j.val, h⟩ else 0

/-- The product with them has zeros after its columns. -/
theorem proj_filled (j : Fin 2176) : (∑ k, normed (I.x R) I.g (I.mods R 1) (I.mods R 0) k * I.filled k j)
    = if h : j.val < 2064 then I.proj R ⟨j.val, h⟩ else 0 := by
  unfold filled proj
  by_cases h : j.val < 2064
  · simp only [dif_pos h]
  · simp only [dif_neg h, mul_zero, Finset.sum_const_zero]

end In

end Cert.ProjOdd

end
-- ==== Proof.ProjOddKernel.lean ====
/-
  The second layer's projection kernel: its blocks and the arrays that they make up.
-/
module

public import proofs.«01_k».proof.Proof.ProjOddSpec
public import proofs.«01_k».proof.Proof.FfnInputs
public import proofs.«01_k».proof.Proof.Gen.Kernel4Ideal.Value

@[expose] public section

noncomputable section

namespace Cert.Kernel4Ideal.ProjOdd

open Idealize.ShloMosaic Idealize.ShloMosaic.TcCoe Idealize.SL.Sem Cert.Kernel4Ideal Cert.Kernel4Ideal.Gen Cert.ProjOdd
open Cert.Ffn (rms normed)
open Cert.Kernel2Ideal.Ffn (read2 read_whole row_cast)

variable (m : (ℓ : Loc nD τ sig) → Buf (Elt Ideal) ℓ) (c : Dev nD)

/-! ### The arguments and what the windows read -/

/-- An argument's contents. -/
abbrev arg (r : Ref sig .tc) := m ((c : Thread nD τ).loc r)

/-- The arguments as functions of rows and columns. -/
def inOf : In where
  x r k := (arg m c main_arg0 : Vec Ideal S33792x1024 .f32) (ix2 r k)
  md s q k := (arg m c main_arg1 : Vec Ideal S8x6x1024 .f32) (ix3 s q k)
  g k := (arg m c main_arg2 : Vec Ideal S1024 .f32) (ix1 k)
  w k j := (arg m c main_arg3 : Vec Ideal S1024x2064 .f32) (ix2 k j)

theorem joined (x : FVec Ideal S1024x2064 .f32) (h) (k : Fin 1024) (j : Fin 2176) :
    (truncf .bf16 (concatenate S1024x2176 1 [⟨S1024x2064, x⟩, ⟨S1024x112, broadcastInDim S1024x112 ![] bcast_S_S1024x112
      (constant (F := Ideal) S_ .f32 0x00000000#32)⟩] h) bitsLt_bf16_f32 : FVec Ideal S1024x2176 .bf16) (ix2 k j)
      = (if hj : j.val < 2064 then x (ix2 k ⟨j.val, hj⟩) else 0 : EReal) := by
  pointwise []

theorem V_w (k : Fin 1024) (j : Fin 2176) : (V m c main_v2 : Vec Ideal S1024x2176 .bf16) (ix2 k j) = (inOf m c).filled k j := by
  have h : (V m c main_v2 : Vec Ideal S1024x2176 .bf16) = truncf .bf16 (concatenate S1024x2176 1 [⟨S1024x2064, (arg m c main_arg3 : Vec Ideal S1024x2064 .f32)⟩,
      ⟨S1024x112, broadcastInDim S1024x112 ![] bcast_S_S1024x112 (constant (F := Ideal) S_ .f32 0x00000000#32)⟩]
      concatenates_S1024x2064_S1024x112_S1024x2176_d1) bitsLt_bf16_f32 := by
    entry_read
    rfl
  rw [h]
  exact joined _ _ k j

theorem V_g (k : Fin 1024) : (V m c main_v3 : Vec Ideal S1x1024 .f32) (ix2 0 k) = (inOf m c).g k := by
  have h : (V m c main_v3 : Vec Ideal S1x1024 .f32) = shapeCast S1x1024 (arg m c main_arg2 : Vec Ideal S1024 .f32) shapeCasts_S1024_S1x1024 := by
    entry_read
    rfl
  rw [h]
  exact row_cast _ _ k

/-! ### The blocks -/

/-- The latent tokens' rows come by the first window, the context's by the second. -/
theorem index_rows : ∀ t : Fin grid0.N, (t.val < 32 → win0_0.index t 0 = t.val ∧ win0_0.index t 1 = 0)
    ∧ (¬ t.val < 32 → win0_1.index t 0 = t.val ∧ win0_1.index t 1 = 0) := by decide +kernel
theorem index_mods : ∀ t : Fin grid0.N, win0_3.index t 0 = t.val / 8 ∧ win0_3.index t 1 = 0 ∧ win0_3.index t 2 = 0 := by decide +kernel
theorem index_whole : ∀ t : Fin grid0.N, (win0_2.index t 0 = 0 ∧ win0_2.index t 1 = 0) ∧ (win0_4.index t 0 = 0 ∧ win0_4.index t 1 = 0) := by
  decide +kernel
theorem index_out : ∀ t : Fin grid0.N, (win0_5.index t 0 = t.val ∧ win0_5.index t 1 = 0) ∧ (win0_6.index t 0 = t.val ∧ win0_6.index t 1 = 0)
    ∧ (win0_7.index t 0 = t.val ∧ win0_7.index t 1 = 0) := by decide +kernel
/-- The comparison that picks the window. -/
theorem picks : ∀ t : Fin grid0.N, Scalar.cmpi .sge (BitVec.ofNat 32 (grid0.coords t 0).val) 32#32 = if t.val < 32 then 0#1 else 1#1 := by
  decide +kernel

variable (t : Fin cfg0.N)

theorem lt_points (t : Fin cfg0.N) : t.val < 33 := t.isLt

/-- The rows that a point takes. -/
def rowsAt : Vec Ideal S1024x1024 .f32 := if t.val < 32 then iblk m c 0 t else iblk m c 1 t

theorem rowsAt_eq : Scalar.select (Scalar.cmpi .sge (BitVec.ofNat 32 (grid0.coords t 0).val) 32#32)
    (iblk m c 1 t : Vec Ideal S1024x1024 .f32) (iblk m c 0 t : Vec Ideal S1024x1024 .f32) = rowsAt m c t := by
  unfold rowsAt Scalar.select
  rw [picks]
  split <;> rfl

theorem rowsAt_apply (r k : Fin 1024) : rowsAt m c t (ix2 r k)
    = (inOf m c).x ⟨t.val * 1024 + r.val, by have := lt_points t; omega⟩ k := by
  have ht := lt_points t
  refine Eq.trans ?_ (congrFun (V_main_arg0 m c) (ix2 ⟨t.val * 1024 + r.val, by omega⟩ k))
  unfold rowsAt
  by_cases h : t.val < 32
  · have e := (index_rows t).1 h
    rw [if_pos h]
    exact read2 (iblk m c 0 t) (V m c main_arg0) (fun i => ((cfg0.win 0).blk t).view.emb i) (fun _ => rfl) _ (fun _ => rfl) (fun _ => rfl) r k
      ⟨t.val * 1024 + r.val, by omega⟩ k (by rw [e.1]) (by rw [e.2]; omega)
  · have e := (index_rows t).2 h
    rw [if_neg h]
    exact read2 (iblk m c 1 t) (V m c main_arg0) (fun i => ((cfg0.win 1).blk t).view.emb i) (fun _ => rfl) _ (fun _ => rfl) (fun _ => rfl) r k
      ⟨t.val * 1024 + r.val, by omega⟩ k (by rw [e.1]) (by rw [e.2]; omega)

theorem blk_g (k : Fin 1024) : (iblk m c 2 t : Vec Ideal S1x1024 .f32) (ix2 0 k) = (inOf m c).g k :=
  (read_whole (iblk m c 2 t) (V m c main_v3) (fun i => ((cfg0.win 2).blk t).view.emb i) (fun _ => rfl) _ (fun _ => rfl) (fun _ => rfl)
    (index_whole t).1 0 k).trans (V_g m c k)

theorem blk_w (k : Fin 1024) (j : Fin 2176) : (iblk m c 4 t : Vec Ideal S1024x2176 .bf16) (ix2 k j) = (inOf m c).filled k j :=
  (read_whole (iblk m c 4 t) (V m c main_v2) (fun i => ((cfg0.win 4).blk t).view.emb i) (fun _ => rfl) _ (fun _ => rfl) (fun _ => rfl)
    (index_whole t).2 k j).trans (V_w m c k j)

theorem blk_md (q : Fin 6) (k : Fin 1024) : (iblk m c 3 t : Vec Ideal S1x6x1024 .f32) (ix3 0 q k)
    = (inOf m c).md ⟨t.val / 8, by have := lt_points t; omega⟩ q k := by
  have h := index_mods t
  refine Eq.trans ?_ (congrFun (V_main_arg1 m c) (ix3 ⟨t.val / 8, by have := lt_points t; omega⟩ q k))
  show V m c main_arg1 (((cfg0.win 3).blk t).view.emb (ix3 0 q k)) = V m c main_arg1 _
  refine congrArg (V m c main_arg1) (funext fun a => Fin.ext ?_)
  match a with
  | ⟨0, _⟩ =>
    show win0_3.index t 0 * 1 + 1 * 0 = t.val / 8
    rw [h.1]; omega
  | ⟨1, _⟩ =>
    show win0_3.index t 1 * 6 + 1 * q.val = q.val
    rw [h.2.1]; omega
  | ⟨2, _⟩ =>
    show win0_3.index t 2 * 1024 + 1 * k.val = k.val
    rw [h.2.2]; omega

/-! ### What a point computes -/

variable (i : grid0.Coords) (x0 x1 : Vec Ideal S1024x1024 .f32) (x2 : Vec Ideal S1x1024 .f32) (x3 : Vec Ideal S1x6x1024 .f32)
  (x4 : Vec Ideal S1024x2176 .bf16)

theorem ld_mods (q : ℕ) (hq : q < 6) (h) (k : Fin 1024) :
    View.ld (Val := Elt Ideal) x3 (Rect.unit (s := S1x6x1024) ![0, q, 0] S1x1x1024.size h) (ix3 0 0 k) = x3 (ix3 0 ⟨q, hq⟩ k) := by
  refine congrArg x3 (funext fun a => Fin.ext ?_)
  match a with
  | ⟨0, _⟩ => rfl
  | ⟨1, _⟩ => show q + 1 * 0 = q; omega
  | ⟨2, _⟩ => show 0 + 1 * k.val = k.val; omega

/-- A point's product before the columns are parted. -/
def whole : FVec Ideal S1024x2176 .f32 := k0_pay3 i x1 x0 x2 (View.ld x3 r0_2) (View.ld x3 r0_3) x4

theorem whole_apply (X : Vec Ideal S1024x1024 .f32) (hX : Scalar.select (Scalar.cmpi .sge (BitVec.ofNat 32 (i 0).val) 32#32) x1 x0 = X)
    (r : Fin 1024) (j : Fin 2176) : whole i x0 x1 x2 x3 x4 (ix2 r j)
      = (∑ k : Fin 1024, normed (fun k => X (ix2 r k)) (fun k => x2 (ix2 0 k)) (fun k => View.ld x3 r0_2 (ix3 0 0 k))
          (fun k => View.ld x3 r0_3 (ix3 0 0 k)) k * (x4 (ix2 k j) : EReal) : EReal) := by
  unfold whole k0_pay3 normed rms
  simp only [shapeCast_self, hX]
  pointwise []

theorem zeros : (![0, 0] : Fin 2 → ℕ) = fun _ => 0 := by decide

theorem out5_apply (r j : Fin 1024) :
    out0_5 i x0 x1 x2 x3 x4 (ix2 r j) = whole i x0 x1 x2 x3 x4 (ix2 r (⟨j.val, by omega⟩ : Fin 2176)) := by
  unfold out0_5 whole
  rw [View.canon_unit_zero zeros, View.ld_unit_zero zeros, View.ld_unit_zero zeros, View.ld_unit_zero zeros, View.ld_unit_zero zeros]
  unfold k0_pay4
  pointwise []

theorem out6_apply (r j : Fin 1024) :
    out0_6 i x0 x1 x2 x3 x4 (ix2 r j) = whole i x0 x1 x2 x3 x4 (ix2 r (⟨1024 + j.val, by omega⟩ : Fin 2176)) := by
  unfold out0_6 whole
  rw [View.canon_unit_zero zeros, View.ld_unit_zero zeros, View.ld_unit_zero zeros, View.ld_unit_zero zeros, View.ld_unit_zero zeros]
  unfold k0_pay1 k0_pay5
  pointwise []

theorem out7_apply (r : Fin 1024) (j : Fin 128) :
    out0_7 i x0 x1 x2 x3 x4 (ix2 r j) = whole i x0 x1 x2 x3 x4 (ix2 r (⟨2048 + j.val, by omega⟩ : Fin 2176)) := by
  unfold out0_7 whole
  rw [View.canon_unit_zero zeros, View.ld_unit_zero zeros, View.ld_unit_zero zeros, View.ld_unit_zero zeros, View.ld_unit_zero zeros]
  unfold k0_pay2
  pointwise []

/-! ### The results -/

/-- The point that takes a row. -/
def pt (R : Fin 33792) : Fin cfg0.N := ⟨R.val / 1024, (by omega : R.val / 1024 < 33)⟩

theorem whole_row (R : Fin 33792) (j : Fin 2176) :
    whole (grid0.coords (pt R)) (iblk m c 0 (pt R)) (iblk m c 1 (pt R)) (iblk m c 2 (pt R)) (iblk m c 3 (pt R)) (iblk m c 4 (pt R))
      (ix2 ⟨R.val % 1024, by omega⟩ j) = if h : j.val < 2064 then (inOf m c).proj R ⟨j.val, h⟩ else 0 := by
  have eR : (⟨(pt R).val * 1024 + R.val % 1024, by have := lt_points (pt R); omega⟩ : Fin 33792) = R :=
    Fin.ext (by show R.val / 1024 * 1024 + R.val % 1024 = R.val; omega)
  have eS : (⟨(pt R).val / 8, by have := lt_points (pt R); omega⟩ : Fin 8) = ⟨R.val / 8192, by omega⟩ :=
    Fin.ext (by show R.val / 1024 / 8 = R.val / 8192; omega)
  have hm (q : ℕ) (hq : q < 6) (h) : (fun k : Fin 1024 => View.ld (Val := Elt Ideal) (iblk m c 3 (pt R) : Vec Ideal S1x6x1024 .f32)
      (Rect.unit (s := S1x6x1024) ![0, q, 0] S1x1x1024.size h) (ix3 0 0 k)) = (inOf m c).mods R ⟨q, hq⟩ :=
    funext fun k => (ld_mods _ q hq h k).trans ((blk_md m c (pt R) ⟨q, hq⟩ k).trans (congrArg (fun s => (inOf m c).md s ⟨q, hq⟩ k) eS))
  refine (whole_apply _ _ _ _ _ _ _ (rowsAt_eq m c (pt R)) _ j).trans (Eq.trans ?_ ((inOf m c).proj_filled R j))
  simp only [rowsAt_apply, blk_g, blk_w, eR]
  rw [hm 1 (by omega), hm 0 (by omega)]
  rfl

theorem first_apply (R : Fin 33792) (j : Fin 1024) :
    ((dats m 0 c).arrAt 5 cfg0.N : Vec Ideal S33792x1024 .bf16) (ix2 R j) = (inOf m c).proj R ⟨j.val, by omega⟩ := by
  have hr := (Value.blocks5 m c (pt R) (flush0_5 _)).trans (Value.flushed5 m c (pt R))
  refine (read2 (out0_5 (grid0.coords (pt R)) (iblk m c 0 (pt R)) (iblk m c 1 (pt R)) (iblk m c 2 (pt R)) (iblk m c 3 (pt R)) (iblk m c 4 (pt R)))
    ((dats m 0 c).arrAt 5 cfg0.N) (fun i => ((cfg0.win 5).blk (pt R)).view.emb i) (fun i => (congrFun hr i).symm) _ (fun _ => rfl) (fun _ => rfl)
    ⟨R.val % 1024, by omega⟩ j R j (by rw [(index_out _).1.1]; show R.val / 1024 * 1024 + R.val % 1024 = R.val; omega)
    (by rw [(index_out _).1.2]; omega)).symm.trans ?_
  refine (out5_apply _ _ _ _ _ _ _ j).trans ((whole_row m c R _).trans ?_)
  exact dif_pos (by show j.val < 2064; omega)

theorem second_apply (R : Fin 33792) (j : Fin 1024) :
    ((dats m 0 c).arrAt 6 cfg0.N : Vec Ideal S33792x1024 .bf16) (ix2 R j) = (inOf m c).proj R ⟨1024 + j.val, by omega⟩ := by
  have hr := (Value.blocks6 m c (pt R) (flush0_6 _)).trans (Value.flushed6 m c (pt R))
  refine (read2 (out0_6 (grid0.coords (pt R)) (iblk m c 0 (pt R)) (iblk m c 1 (pt R)) (iblk m c 2 (pt R)) (iblk m c 3 (pt R)) (iblk m c 4 (pt R)))
    ((dats m 0 c).arrAt 6 cfg0.N) (fun i => ((cfg0.win 6).blk (pt R)).view.emb i) (fun i => (congrFun hr i).symm) _ (fun _ => rfl) (fun _ => rfl)
    ⟨R.val % 1024, by omega⟩ j R j (by rw [(index_out _).2.1.1]; show R.val / 1024 * 1024 + R.val % 1024 = R.val; omega)
    (by rw [(index_out _).2.1.2]; omega)).symm.trans ?_
  refine (out6_apply _ _ _ _ _ _ _ j).trans ((whole_row m c R _).trans ?_)
  exact dif_pos (by show 1024 + j.val < 2064; omega)

theorem third_apply (R : Fin 33792) (j : Fin 128) :
    ((dats m 0 c).arrAt 7 cfg0.N : Vec Ideal S33792x128 .f32) (ix2 R j) = if h : j.val < 16 then (inOf m c).proj R ⟨2048 + j.val, by omega⟩ else 0 := by
  have hr := (Value.blocks7 m c (pt R) (flush0_7 _)).trans (Value.flushed7 m c (pt R))
  refine (read2 (out0_7 (grid0.coords (pt R)) (iblk m c 0 (pt R)) (iblk m c 1 (pt R)) (iblk m c 2 (pt R)) (iblk m c 3 (pt R)) (iblk m c 4 (pt R)))
    ((dats m 0 c).arrAt 7 cfg0.N) (fun i => ((cfg0.win 7).blk (pt R)).view.emb i) (fun i => (congrFun hr i).symm) _ (fun _ => rfl) (fun _ => rfl)
    ⟨R.val % 1024, by omega⟩ j R j (by rw [(index_out _).2.2.1]; show R.val / 1024 * 1024 + R.val % 1024 = R.val; omega)
    (by rw [(index_out _).2.2.2]; omega)).symm.trans ?_
  refine (out7_apply _ _ _ _ _ _ _ j).trans ((whole_row m c R _).trans ?_)
  by_cases h : j.val < 16
  · rw [dif_pos h, dif_pos (by show 2048 + j.val < 2064; omega)]
  · rw [dif_neg h, dif_neg (by show ¬ 2048 + j.val < 2064; omega)]

end Cert.Kernel4Ideal.ProjOdd

end
-- ==== Proof.ProjOddRef.lean ====
/-
  The second layer's projection's reference, read at rows and columns.
-/
module

public import proofs.«01_k».proof.Proof.ProjOddSpec
public import proofs.«01_k».proof.Proof.Gen.Reference4Ideal.Run

@[expose] public section

noncomputable section

namespace Cert.Reference4Ideal.ProjOdd

open Idealize.ShloMosaic Idealize.ShloMosaic.TcCoe Idealize.SL.Sem Cert.Reference4Ideal Cert.Reference4Ideal.Gen Cert.ProjOdd
open Cert.Ffn (rms normed)

variable (a0 : FVec Ideal S33792x1024 .f32) (a1 : FVec Ideal S8x6x1024 .f32) (a2 : FVec Ideal S1024 .f32) (a3 : FVec Ideal S1024x2064 .f32)

/-- The latent tokens' rows. -/
def latent (x : FVec Ideal S4x8192x1024 .f32) : FVec Ideal S32768x2064 .f32 :=
  shapeCast S32768x2064 (Host.dotGeneral dot_S4x8192x1024_S1024x2064_S4x8192x2064_2_0_01_1_n_n none (addf (mulf (mulf (mulf x
      (broadcastInDim S4x8192x1024 ![0, 1, 2] bcast_S4x8192x1_S4x8192x1024_0_1_2 (Host.rsqrt (addf (Host.divf (broadcastInDim S4x8192x1
      ![0, 1] bcast_S4x8192_S4x8192x1_0_1 (Host.reduceAdd (mulf x x) (constant S_ .f32 0x00000000#32) reducesTo_S4x8192x1024_S4x8192_d2
      h_S_)) (broadcastInDim S4x8192x1 ![] bcast_S_S4x8192x1 (constant S_ .f32 0x44800000#32))) (broadcastInDim S4x8192x1 ![]
      bcast_S_S4x8192x1 (constant S_ .f32 0x358637BD#32)))))) (broadcastInDim S4x8192x1024 ![0, 1, 2] bcast_S1x1x1024_S4x8192x1024_0_1_2
      (broadcastInDim S1x1x1024 ![2] bcast_S1024_S1x1x1024_2 a2))) (broadcastInDim S4x8192x1024 ![0, 1, 2]
      bcast_S4x1x1024_S4x8192x1024_0_1_2 (addf (broadcastInDim S4x1x1024 ![] bcast_S_S4x1x1024 (constant S_ .f32 0x3F800000#32))
      (broadcastInDim S4x1x1024 ![0, 2] bcast_S4x1024_S4x1x1024_0_2 (shapeCast _ (extractStridedSlice S4x1x1024 ![0, 1, 0] a1
      slices_S8x6x1024_S4x1x1024_0_1_0) shapeCasts_S4x1x1024_S4x1024))))) (broadcastInDim S4x8192x1024 ![0, 1, 2]
      bcast_S4x1x1024_S4x8192x1024_0_1_2 (broadcastInDim S4x1x1024 ![0, 2] bcast_S4x1024_S4x1x1024_0_2 (shapeCast _ (extractStridedSlice
      S4x1x1024 ![0, 0, 0] a1 slices_S8x6x1024_S4x1x1024_0_0_0) shapeCasts_S4x1x1024_S4x1024)))) a3) shapeCasts_S4x8192x2064_S32768x2064

/-- The context's rows. -/
def context (x : FVec Ideal S4x256x1024 .f32) : FVec Ideal S1024x2064 .f32 :=
  shapeCast S1024x2064 (Host.dotGeneral dot_S4x256x1024_S1024x2064_S4x256x2064_2_0_01_1_n_n none (addf (mulf (mulf (mulf x
      (broadcastInDim S4x256x1024 ![0, 1, 2] bcast_S4x256x1_S4x256x1024_0_1_2 (Host.rsqrt (addf (Host.divf (broadcastInDim S4x256x1 ![0,
      1] bcast_S4x256_S4x256x1_0_1 (Host.reduceAdd (mulf x x) (constant S_ .f32 0x00000000#32) reducesTo_S4x256x1024_S4x256_d2 h_S_))
      (broadcastInDim S4x256x1 ![] bcast_S_S4x256x1 (constant S_ .f32 0x44800000#32))) (broadcastInDim S4x256x1 ![] bcast_S_S4x256x1
      (constant S_ .f32 0x358637BD#32)))))) (broadcastInDim S4x256x1024 ![0, 1, 2] bcast_S1x1x1024_S4x256x1024_0_1_2 (broadcastInDim
      S1x1x1024 ![2] bcast_S1024_S1x1x1024_2 a2))) (broadcastInDim S4x256x1024 ![0, 1, 2] bcast_S1x1x1024_S4x256x1024_0_1_2
      (broadcastInDim S1x1x1024 ![2] bcast_S1024_S1x1x1024_2 (addf (broadcastInDim S1024 ![] bcast_S_S1024 (constant S_ .f32
      0x3F800000#32)) (shapeCast _ (extractStridedSlice S1x1x1024 ![4, 1, 0] a1 slices_S8x6x1024_S1x1x1024_4_1_0)
      shapeCasts_S1x1x1024_S1024))))) (broadcastInDim S4x256x1024 ![0, 1, 2] bcast_S1x1x1024_S4x256x1024_0_1_2 (broadcastInDim S1x1x1024
      ![2] bcast_S1024_S1x1x1024_2 (shapeCast _ (extractStridedSlice S1x1x1024 ![4, 0, 0] a1 slices_S8x6x1024_S1x1x1024_4_0_0)
      shapeCasts_S1x1x1024_S1024)))) a3) shapeCasts_S4x256x2064_S1024x2064

/-- All rows, before the columns are parted. -/
def allRows : FVec Ideal S33792x2064 .f32 :=
  concatenate S33792x2064 0
    [⟨S32768x2064, latent a1 a2 a3 (shapeCast S4x8192x1024 (extractStridedSlice S32768x1024 ![0, 0] a0 slices_S33792x1024_S32768x1024_0_0) shapeCasts_S32768x1024_S4x8192x1024)⟩,
      ⟨S1024x2064, context a1 a2 a3 (shapeCast S4x256x1024 (extractStridedSlice S1024x1024 ![32768, 0] a0 slices_S33792x1024_S1024x1024_32768_0) shapeCasts_S1024x1024_S4x256x1024)⟩]
    concatenates_S32768x2064_S1024x2064_S33792x2064_d0

/-- The arguments as functions of rows and columns. -/
def inOf : In where
  x r k := a0 (ix2 r k)
  md s q k := a1 (ix3 s q k)
  g k := a2 (ix1 k)
  w k j := a3 (ix2 k j)

theorem latent_in (s : Fin 4) (u : Fin 8192) (k : Fin 1024) :
    shapeCast S4x8192x1024 (extractStridedSlice S32768x1024 ![0, 0] a0 slices_S33792x1024_S32768x1024_0_0) shapeCasts_S32768x1024_S4x8192x1024 (ix3 s u k)
      = a0 (ix2 (⟨s.val * 8192 + u.val, by omega⟩ : Fin 33792) k) := by
  refine (shapeCast_apply _ _ _ (ix2 (⟨s.val * 8192 + u.val, by omega⟩ : Fin 32768) k) ?_).trans ?_
  · show (S32768x1024.rowMajor _).val = (S4x8192x1024.rowMajor _).val
    rw [Shape.rowMajor_val_two, Shape.rowMajor_val_three]
    show (s.val * 8192 + u.val) * 1024 + k.val = (s.val * 8192 + u.val) * 1024 + k.val
    omega
  · refine extractStridedSlice_apply _ _ _ _ _ fun a => ?_
    match a with
    | ⟨0, _⟩ => show s.val * 8192 + u.val = 0 + (s.val * 8192 + u.val); omega
    | ⟨1, _⟩ => show k.val = 0 + k.val; omega

theorem context_in (s : Fin 4) (u : Fin 256) (k : Fin 1024) :
    shapeCast S4x256x1024 (extractStridedSlice S1024x1024 ![32768, 0] a0 slices_S33792x1024_S1024x1024_32768_0) shapeCasts_S1024x1024_S4x256x1024 (ix3 s u k)
      = a0 (ix2 (⟨32768 + (s.val * 256 + u.val), by omega⟩ : Fin 33792) k) := by
  refine (shapeCast_apply _ _ _ (ix2 (⟨s.val * 256 + u.val, by omega⟩ : Fin 1024) k) ?_).trans ?_
  · show (S1024x1024.rowMajor _).val = (S4x256x1024.rowMajor _).val
    rw [Shape.rowMajor_val_two, Shape.rowMajor_val_three]
    show (s.val * 256 + u.val) * 1024 + k.val = (s.val * 256 + u.val) * 1024 + k.val
    omega
  · refine extractStridedSlice_apply _ _ _ _ _ fun a => ?_
    match a with
    | ⟨0, _⟩ => show 32768 + (s.val * 256 + u.val) = 32768 + (s.val * 256 + u.val); rfl
    | ⟨1, _⟩ => show k.val = 0 + k.val; omega

theorem latent_apply (x : FVec Ideal S4x8192x1024 .f32) (s : Fin 4) (u : Fin 8192) (j : Fin 2064) :
    latent a1 a2 a3 x (ix2 ⟨s.val * 8192 + u.val, by omega⟩ j)
    = ∑ k : Fin 1024, normed (fun k => x (ix3 s u k)) (fun k => a2 (ix1 k)) (fun k => a1 (ix3 ⟨s.val, by omega⟩ 1 k))
        (fun k => a1 (ix3 ⟨s.val, by omega⟩ 0 k)) k * a3 (ix2 k j) := by
  unfold latent normed rms
  refine (shapeCast_apply _ _ _ (ix3 s u j) ?_).trans ?_
  · show (S4x8192x2064.rowMajor _).val = (S32768x2064.rowMajor _).val
    rw [Shape.rowMajor_val_two, Shape.rowMajor_val_three]
    show (s.val * 8192 + u.val) * 2064 + j.val = (s.val * 8192 + u.val) * 2064 + j.val
    omega
  · pointwise []

theorem context_apply (x : FVec Ideal S4x256x1024 .f32) (s : Fin 4) (u : Fin 256) (j : Fin 2064) :
    context a1 a2 a3 x (ix2 ⟨s.val * 256 + u.val, by omega⟩ j)
    = ∑ k : Fin 1024, normed (fun k => x (ix3 s u k)) (fun k => a2 (ix1 k)) (fun k => a1 (ix3 4 1 k))
        (fun k => a1 (ix3 4 0 k)) k * a3 (ix2 k j) := by
  unfold context normed rms
  refine (shapeCast_apply _ _ _ (ix3 s u j) ?_).trans ?_
  · show (S4x256x2064.rowMajor _).val = (S1024x2064.rowMajor _).val
    rw [Shape.rowMajor_val_two, Shape.rowMajor_val_three]
    show (s.val * 256 + u.val) * 2064 + j.val = (s.val * 256 + u.val) * 2064 + j.val
    omega
  · pointwise []

theorem joined (x : FVec Ideal S32768x2064 .f32) (y : FVec Ideal S1024x2064 .f32) (h) (R : Fin 33792) (j : Fin 2064) :
    (concatenate S33792x2064 0 [⟨S32768x2064, x⟩, ⟨S1024x2064, y⟩] h) (ix2 R j)
      = if hR : R.val < 32768 then x (ix2 ⟨R.val, hR⟩ j) else y (ix2 ⟨R.val - 32768, by omega⟩ j) := by
  pointwise []

theorem allRows_apply (R : Fin 33792) (j : Fin 2064) : allRows a0 a1 a2 a3 (ix2 R j) = (inOf a0 a1 a2 a3).proj R j := by
  unfold allRows In.proj In.mods
  refine (joined _ _ concatenates_S32768x2064_S1024x2064_S33792x2064_d0 R j).trans ?_
  by_cases h : R.val < 32768
  · have e : (⟨R.val, h⟩ : Fin 32768) = ⟨(⟨R.val / 8192, by omega⟩ : Fin 4).val * 8192 + (⟨R.val % 8192, by omega⟩ : Fin 8192).val, by
      simp only []; omega⟩ := Fin.ext (by simp only []; omega)
    have eR : (⟨(⟨R.val / 8192, by omega⟩ : Fin 4).val * 8192 + (⟨R.val % 8192, by omega⟩ : Fin 8192).val, by simp only []; omega⟩ : Fin 33792) = R :=
      Fin.ext (by simp only []; omega)
    rw [dif_pos h, e, latent_apply]
    simp only [latent_in, eR]
    rfl
  · have e : (⟨R.val - 32768, by omega⟩ : Fin 1024)
        = ⟨(⟨(R.val - 32768) / 256, by omega⟩ : Fin 4).val * 256 + (⟨(R.val - 32768) % 256, by omega⟩ : Fin 256).val, by
      simp only []; omega⟩ := Fin.ext (by simp only []; omega)
    have eR : (⟨32768 + ((⟨(R.val - 32768) / 256, by omega⟩ : Fin 4).val * 256 + (⟨(R.val - 32768) % 256, by omega⟩ : Fin 256).val), by
      simp only []; omega⟩ : Fin 33792) = R := Fin.ext (by simp only []; omega)
    have e4 : (⟨R.val / 8192, by omega⟩ : Fin 8) = 4 := Fin.ext (by show R.val / 8192 = 4; omega)
    rw [dif_neg h, e, context_apply, e4]
    simp only [context_in, eR]
    rfl

/-- The last columns, filled up with zeros. -/
theorem padded (x : FVec Ideal S33792x2064 .f32) (R : Fin 33792) (j : Fin 128) :
    (pad S33792x128 ![0, 0] ![0, 112] ![0, 0] (extractStridedSlice S33792x16 ![0, 2048] x slices_S33792x2064_S33792x16_0_2048)
      (sitofp (F := Ideal) .f32 (constantI S_ 32 0#32)) pads_S33792x16_S33792x128_000_01120 h_S_ : FVec Ideal S33792x128 .f32) (ix2 R j)
      = if h : j.val < 16 then x (ix2 R ⟨2048 + j.val, by omega⟩) else 0 := by
  have z : (FloatOps.sitofp .f32 0#32 : Ideal .f32) = (0 : EReal) := by
    show (((0#32 : BitVec 32).toInt : ℝ) : EReal) = 0
    norm_num
  pointwise []
  rw [z]

end Cert.Reference4Ideal.ProjOdd

end
-- ==== Proof.ProjOddAgree.lean ====
/-
  The second layer's projection kernel's and its reference's results are the same arrays, where both start from the same
  arguments.
-/
module

public import proofs.«01_k».proof.Defs
public import proofs.«01_k».proof.Proof.ProjOddKernel
public import proofs.«01_k».proof.Proof.ProjOddRef

@[expose] public section

noncomputable section

namespace Cert.ProjOdd

open Idealize.ShloMosaic Idealize.ShloMosaic.TcCoe Idealize.SL.Sem

variable {m : (ℓ : Loc Cert.Kernel4Ideal.nD Cert.Kernel4Ideal.τ Cert.Kernel4Ideal.sig) → Buf (Elt Ideal) ℓ}
  {m' : (ℓ : Loc Cert.Reference4Ideal.nD Cert.Reference4Ideal.τ Cert.Reference4Ideal.sig) → Buf (Elt Ideal) ℓ} (c : Dev Cert.Kernel4Ideal.nD)

/-- The reference's product of all rows. -/
def refRows (m' : (ℓ : Loc Cert.Reference4Ideal.nD Cert.Reference4Ideal.τ Cert.Reference4Ideal.sig) → Buf (Elt Ideal) ℓ) (c : Dev Cert.Kernel4Ideal.nD) :
    FVec Ideal Cert.Reference4Ideal.S33792x2064 .f32 :=
  Cert.Reference4Ideal.ProjOdd.allRows (m' ((c.tc : Thread Cert.Reference4Ideal.nD Cert.Reference4Ideal.τ).loc Cert.Reference4Ideal.main_arg0))
    (m' ((c.tc : Thread Cert.Reference4Ideal.nD Cert.Reference4Ideal.τ).loc Cert.Reference4Ideal.main_arg1))
    (m' ((c.tc : Thread Cert.Reference4Ideal.nD Cert.Reference4Ideal.τ).loc Cert.Reference4Ideal.main_arg2))
    (m' ((c.tc : Thread Cert.Reference4Ideal.nD Cert.Reference4Ideal.τ).loc Cert.Reference4Ideal.main_arg3))

/-- Every entry of it is the kernel's. -/
theorem refRows_apply
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (r : Fin 33792) (j : Fin 2064) : refRows m' c (ix2 r j) = (Cert.Kernel4Ideal.ProjOdd.inOf m c).proj r j := by
  unfold refRows
  rw [h0, h1, h2, h3, Cert.Reference4Ideal.ProjOdd.allRows_apply]
  rfl

variable (h : ∀ (r : Fin 33792) (j : Fin 2064), refRows m' c (ix2 r j) = (Cert.Kernel4Ideal.ProjOdd.inOf m c).proj r j)

include h

theorem first_eq : Cert.Reference4Ideal.Value.res_out0 m' c = (Cert.Kernel4Ideal.Gen.dats m 0 c).arrAt 5 Cert.Kernel4Ideal.cfg0.N := by
  funext i
  obtain ⟨r, j, rfl⟩ : ∃ (r : Fin 33792) (j : Fin 1024), i = ix2 r j := ⟨i 0, i 1, (ix2_eta _).symm⟩
  show extractStridedSlice Cert.Reference4Ideal.S33792x1024 ![0, 0] (refRows m' c) Cert.Reference4Ideal.Gen.slices_S33792x2064_S33792x1024_0_0 (ix2 r j) = _
  refine (extractStridedSlice_apply _ _ _ _ (ix2 r (⟨j.val, by omega⟩ : Fin 2064)) ?_).trans
    ((h r _).trans (Cert.Kernel4Ideal.ProjOdd.first_apply m c r j).symm)
  intro a
  match a with
  | ⟨0, _⟩ => show r.val = 0 + r.val; omega
  | ⟨1, _⟩ => show j.val = 0 + j.val; omega

theorem second_eq : Cert.Reference4Ideal.Value.res_out1 m' c = (Cert.Kernel4Ideal.Gen.dats m 0 c).arrAt 6 Cert.Kernel4Ideal.cfg0.N := by
  funext i
  obtain ⟨r, j, rfl⟩ : ∃ (r : Fin 33792) (j : Fin 1024), i = ix2 r j := ⟨i 0, i 1, (ix2_eta _).symm⟩
  show extractStridedSlice Cert.Reference4Ideal.S33792x1024 ![0, 1024] (refRows m' c) Cert.Reference4Ideal.Gen.slices_S33792x2064_S33792x1024_0_1024 (ix2 r j) = _
  refine (extractStridedSlice_apply _ _ _ _ (ix2 r (⟨1024 + j.val, by omega⟩ : Fin 2064)) ?_).trans
    ((h r _).trans (Cert.Kernel4Ideal.ProjOdd.second_apply m c r j).symm)
  intro a
  match a with
  | ⟨0, _⟩ => show r.val = 0 + r.val; omega
  | ⟨1, _⟩ => show 1024 + j.val = 1024 + j.val; omega

theorem third_eq : Cert.Reference4Ideal.Value.res_out2 m' c = (Cert.Kernel4Ideal.Gen.dats m 0 c).arrAt 7 Cert.Kernel4Ideal.cfg0.N := by
  funext i
  obtain ⟨r, j, rfl⟩ : ∃ (r : Fin 33792) (j : Fin 128), i = ix2 r j := ⟨i 0, i 1, (ix2_eta _).symm⟩
  refine ((Cert.Reference4Ideal.ProjOdd.padded (refRows m' c) r j).trans ?_).trans (Cert.Kernel4Ideal.ProjOdd.third_apply m c r j).symm
  simp only [h]

end Cert.ProjOdd

end
-- ==== Proof.lean ====
/-
  The recurrence's kernel and its plain form both run to the end, leave their arguments as they were and every semaphore at
  zero; and over the extended reals, where no input gate is plus infinity, they end with the same results. So do the
  feed-forward kernel and its plain form, where the gating half of the up-projection is finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Trips
public import proofs.«01_k».proof.Proof.Agree
public import proofs.«01_k».proof.Proof.FfnAgree
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ProjAgree
public import proofs.«01_k».proof.Proof.ProjOddAgree
public import Idealize.ShloMosaic.Adequacy
public import Idealize.ShloMosaic.Init

@[expose] public section

noncomputable section

namespace Cert.Proof

open Idealize.ShloMosaic Idealize.SL.Sem Cert.Kernel

/-- The reference's run, read at its arguments; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Trips.run (F := Ideal) m ρ)

/-- Both runs end with the kernel's arrays. -/
theorem same_results : Cert.algebraic_KernelIdeal_ReferenceIdeal_pre_input_gates_below_inf := by
  intro m ρ m' ρ' hpre hagree
  have hin := fun c => match hagree c with
    | ⟨h0, h1, h2, h3, h4, h5, h6, h7, h8, h9⟩ => Cert.Mlstm.in_eq (m := m) (m' := m') c h0 h1 h2 h3 h4 h5 h6 h7 h8 h9
  refine ⟨fun c => (Cert.KernelIdeal.Gen.dats m 0 c).arrAt 17 Cert.KernelIdeal.cfg0.N,
    fun c => (Cert.KernelIdeal.Gen.dats m 0 c).arrAt 18 Cert.KernelIdeal.cfg0.N, Cert.KernelIdeal.Value.run_blocks m ρ, ?_⟩
  refine (θ_run Cert.ReferenceIdeal.defs _ _).mono (fun r h c => ?_) (Cert.ReferenceIdeal.Trips.run (F := Ideal) m' ρ')
  exact ⟨(h c).1.trans (Cert.Mlstm.first_eq (Cert.Mlstm.fine hpre c) (hin c)),
    (h c).2.1.trans (Cert.Mlstm.second_eq (Cert.Mlstm.fine hpre c) (hin c)), (h c).2.2⟩

/-- The feed-forward reference's run, read at its arguments; it declares no semaphore. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Both feed-forward runs end with the kernel's array. -/
theorem same_results2 : Cert.algebraic_Kernel2Ideal_Reference2Ideal_pre_gates_finite := by
  intro m ρ m' ρ' hpre hagree
  have hin := fun c => match hagree c with
    | ⟨h0, h1, h2, h3, h4, h5, h6, h7⟩ => Cert.Ffn.in_eq (m := m) (m' := m') c h0 h1 h2 h3 h4 h5 h6 h7
  refine ⟨fun c => (Cert.Kernel2Ideal.Gen.dats m 0 c).arrAt 10 Cert.Kernel2Ideal.cfg0.N, Cert.Kernel2Ideal.Value.run_blocks m ρ, ?_⟩
  refine (θ_run Cert.Reference2Ideal.defs _ _).mono (fun r h c => ?_) (Cert.Reference2Ideal.Value.run (F := Ideal) m' ρ')
  exact ⟨(h c).1.trans (Cert.Ffn.result_eq c (Cert.Ffn.fine hpre c) (hin c)), (h c).2⟩

/-- The folded constant's name stands for the product of the two constants that it is made of. -/
theorem preserves2 : Cert.preserves_Kernel2_Kernel2Ideal :=
  IdealRules.named_const.statement Cert.Kernel2Ideal.κ "gelu_c_cube" .f32 0x3D122279#32
    ((80338380498831 / 2251799813685248 : ℝ) : EReal) rfl

/-- The projection's reference's run, read at its arguments; it declares no semaphore. -/
theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- Both projections end with the kernel's arrays. -/
theorem same_results3 : Cert.algebraic_Kernel3Ideal_Reference3Ideal := by
  intro m ρ m' ρ' _ hagree
  have hrows := fun c => match hagree c with
    | ⟨h0, h1, h2, h3, h4⟩ => Cert.Proj.refRows_apply (m := m) (m' := m') c h0 h1 h2 h3 h4
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m ρ, ?_⟩
  refine (θ_run Cert.Reference3Ideal.defs _ _).mono (fun r h c => ?_) (Cert.Reference3Ideal.Value.run (F := Ideal) m' ρ')
  exact ⟨(h c).1.trans (Cert.Proj.first_eq c (hrows c)), (h c).2.1.trans (Cert.Proj.second_eq c (hrows c)),
    (h c).2.2.1.trans (Cert.Proj.third_eq c (hrows c)), (h c).2.2.2⟩

/-- The second layer's projection's reference's run, read at its arguments; it declares no semaphore. -/
theorem frame_reference4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- Both of the second layer's projections end with the kernel's arrays. -/
theorem same_results4 : Cert.algebraic_Kernel4Ideal_Reference4Ideal := by
  intro m ρ m' ρ' _ hagree
  have hrows := fun c => match hagree c with
    | ⟨h0, h1, h2, h3⟩ => Cert.ProjOdd.refRows_apply (m := m) (m' := m') c h0 h1 h2 h3
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N, Cert.Kernel4Ideal.Value.run_blocks m ρ, ?_⟩
  refine (θ_run Cert.Reference4Ideal.defs _ _).mono (fun r h c => ?_) (Cert.Reference4Ideal.Value.run (F := Ideal) m' ρ')
  exact ⟨(h c).1.trans (Cert.ProjOdd.first_eq c (hrows c)), (h c).2.1.trans (Cert.ProjOdd.second_eq c (hrows c)),
    (h c).2.2.1.trans (Cert.ProjOdd.third_eq c (hrows c)), (h c).2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Mlstm.preFacts, Cert.Ffn.preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    trivial, same_results, preserves2, same_results2, trivial, same_results3, trivial, same_results4⟩

end Cert.Proof

end
